-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admitted [hPre_admitted : Cert.Pre_admitted.Facts] (m : (ℓ : Loc Cert.KernelIdeal.nD Cert.KernelIdeal.τ Cert.KernelIdeal.sig) → Buf (Elt Ideal) ℓ) : Prop :=
  ∀ c : Dev Cert.KernelIdeal.nD,
    (Cert.Pre_admitted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_admitted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_admitted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admitted [hPre_admitted : Cert.Pre_admitted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admitted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_admitted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_admitted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_admitted [hKernelIdeal : Cert.KernelIdeal.Facts] [hPre_admitted : Cert.Pre_admitted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admitted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_admitted [hReferenceIdeal : Cert.ReferenceIdeal.Facts] [hPre_admitted : Cert.Pre_admitted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admitted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_admitted [hKernelIdeal : Cert.KernelIdeal.Facts] [hReferenceIdeal : Cert.ReferenceIdeal.Facts] [hPre_admitted : Cert.Pre_admitted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admitted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_admitted : Cert.Pre_admitted.Facts),
    quiescent_Kernel (hKernel := hKernel)
    ∧ quiescent_KernelIdeal (hKernelIdeal := hKernelIdeal)
    ∧ quiescent_KernelIdeal_pre_admitted (hKernelIdeal := hKernelIdeal) (hPre_admitted := hPre_admitted)
    ∧ quiescent_ReferenceIdeal (hReferenceIdeal := hReferenceIdeal)
    ∧ quiescent_ReferenceIdeal_pre_admitted (hReferenceIdeal := hReferenceIdeal) (hPre_admitted := hPre_admitted)
    ∧ preserves_Kernel_KernelIdeal
    ∧ algebraic_KernelIdeal_ReferenceIdeal_pre_admitted (hKernelIdeal := hKernelIdeal) (hReferenceIdeal := hReferenceIdeal) (hPre_admitted := hPre_admitted)
-- ==== Pre_admitted.lean ====
abbrev S30720x2048 : Shape := ⟨2, ![30720, 2048]⟩
abbrev S4 : Shape := ⟨1, ![4]⟩
abbrev S4x2048x7168 : Shape := ⟨3, ![4, 2048, 7168]⟩
abbrev S4x7168 : Shape := ⟨2, ![4, 7168]⟩
abbrev S_ : Shape := ⟨0, ![]⟩

class Facts : Prop where
  bitsLt_bf16_f32 : FTy.bits .bf16 < FTy.bits .f32
  bcast_S_S30720x2048 : S_.BroadcastsInDim S30720x2048 (![] : Fin 0 → Fin S30720x2048.rank)
  reducesTo_S30720x2048_S_d0_1 : S30720x2048.ReducesTo [0, 1] S_
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S30720x2048 .bf16) (main_arg1 : IVec S4 32) (main_arg2 : FVec F S4x2048x7168 .fp8e4m3) (main_arg3 : FVec F S4x7168 .f32) : IVec S_ 1 × IVec S_ 1 × IVec S_ 1 :=
  let main_v0 : FVec F S30720x2048 .f32 := (extf .f32 · bitsLt_bf16_f32) main_arg0
  let main_v1 : FVec F S30720x2048 .f32 := Host.absf main_v0
  let main_cst : FVec F S_ .f32 := constant S_ .f32 0x7F7F0000#32
  let main_v2 : FVec F S30720x2048 .f32 := broadcastInDim S30720x2048 ![] bcast_S_S30720x2048 main_cst
  let main_v3 : IVec S30720x2048 1 := cmpf .ole main_v1 main_v2
  let main_c : IVec S_ 1 := constantI S_ 1 1#1
  let main_v4 : IVec S_ 1 := (fun x v => Host.reduce IntOp.andi x v reducesTo_S30720x2048_S_d0_1 h_S_) main_v3 main_c
  let main_c_0 : IVec S_ 32 := constantI S_ 32 0#32
  let main_v5 : IVec S4 32 := broadcastInDim S4 ![] bcast_S_S4 main_c_0
  let main_v6 : IVec S4 1 := cmpi .sge main_arg1 main_v5
  let main_c_1 : IVec S_ 32 := constantI S_ 32 30720#32
  let main_v7 : IVec S4 32 := broadcastInDim S4 ![] bcast_S_S4 main_c_1
  let main_v8 : IVec S4 1 := cmpi .sle main_arg1 main_v7
  let main_v9 : IVec S4 1 := andi main_v6 main_v8
  let main_c_2 : IVec S_ 1 := constantI S_ 1 1#1
  let main_v10 : IVec S_ 1 := (fun x v => Host.reduce IntOp.andi x v reducesTo_S4_S_d0 h_S_) main_v9 main_c_2
  let main_c_3 : IVec S_ 32 := constantI S_ 32 0#32
  let main_v11 : IVec S_ 32 := (fun x v => Host.reduce IntOp.addi x v reducesTo_S4_S_d0 h_S_) main_arg1 main_c_3
  let main_c_4 : IVec S_ 32 := constantI S_ 32 30720#32
  let main_v12 : IVec S_ 1 := cmpi .eq main_v11 main_c_4
  (main_v4, main_v10, main_v12)
-- ==== Kernel.lean ====
abbrev S30720x2048 : Shape := ⟨2, ![30720, 2048]⟩
abbrev S4 : Shape := ⟨1, ![4]⟩
abbrev S4x2048x7168 : Shape := ⟨3, ![4, 2048, 7168]⟩
abbrev S4x7168 : Shape := ⟨2, ![4, 7168]⟩
abbrev S_ : Shape := ⟨0, ![]⟩
abbrev S60 : Shape := ⟨1, ![60]⟩
abbrev S4x1 : Shape := ⟨2, ![4, 1]⟩
abbrev S1x60 : Shape := ⟨2, ![1, 60]⟩
abbrev S4x60 : Shape := ⟨2, ![4, 60]⟩
abbrev S240 : Shape := ⟨1, ![240]⟩
abbrev S63 : Shape := ⟨1, ![63]⟩
abbrev S63x1 : Shape := ⟨2, ![63, 1]⟩
abbrev S1 : Shape := ⟨1, ![1]⟩
abbrev S62 : Shape := ⟨1, ![62]⟩
abbrev S4x1x7168 : Shape := ⟨3, ![4, 1, 7168]⟩
abbrev S30720x7168 : Shape := ⟨2, ![30720, 7168]⟩
abbrev S512x2048 : Shape := ⟨2, ![512, 2048]⟩
abbrev S1x2048x7168 : Shape := ⟨3, ![1, 2048, 7168]⟩
abbrev S1x1x7168 : Shape := ⟨3, ![1, 1, 7168]⟩
abbrev S512x7168 : Shape := ⟨2, ![512, 7168]⟩
abbrev S512x128 : Shape := ⟨2, ![512, 128]⟩
abbrev S64x2048 : Shape := ⟨2, ![64, 2048]⟩
abbrev S64 : Shape := ⟨1, ![64]⟩
abbrev S64x1 : Shape := ⟨2, ![64, 1]⟩
abbrev S1x255 : Shape := ⟨2, ![1, 255]⟩
abbrev S64x255 : Shape := ⟨2, ![64, 255]⟩
abbrev S64x128 : Shape := ⟨2, ![64, 128]⟩
abbrev S1x2048x512 : Shape := ⟨3, ![1, 2048, 512]⟩
abbrev S2048x512 : Shape := ⟨2, ![2048, 512]⟩
abbrev S512x512 : Shape := ⟨2, ![512, 512]⟩
abbrev S512x1 : Shape := ⟨2, ![512, 1]⟩
abbrev S1x1x512 : Shape := ⟨3, ![1, 1, 512]⟩
abbrev S1x512 : Shape := ⟨2, ![1, 512]⟩

abbrev nBuf : Space → Nat
  | .hbm => 140
  | .vmem => 10
  | .smem => 5
  | _ => 0

abbrev hbmTy0_0 (i : Nat) : BufTy := match i % 128 with
  | 0 => ⟨S30720x2048, .bf16⟩
  | 1 => ⟨S4, .i32⟩
  | 2 => ⟨S4x2048x7168, .fp8e4m3⟩
  | 3 => ⟨S4x7168, .f32⟩
  | 4 => ⟨S_, .i32⟩
  | 5 => ⟨S_, .i32⟩
  | 6 => ⟨S4, .i32⟩
  | 7 => ⟨S4, .i32⟩
  | 8 => ⟨S60, .i32⟩
  | 9 => ⟨S4x1, .i32⟩
  | 10 => ⟨S1x60, .i32⟩
  | 11 => ⟨S_, .i32⟩
  | 12 => ⟨S1x60, .i32⟩
  | 13 => ⟨S1x60, .i32⟩
  | 14 => ⟨S4x60, .i32⟩
  | 15 => ⟨S4x60, .i32⟩
  | 16 => ⟨S4x60, .i32⟩
  | 17 => ⟨S_, .i32⟩
  | 18 => ⟨S_, .i32⟩
  | 19 => ⟨S_, .i32⟩
  | 20 => ⟨S4x60, .i32⟩
  | 21 => ⟨S4x60, .i32⟩
  | 22 => ⟨S_, .i32⟩
  | 23 => ⟨S4x60, .i32⟩
  | 24 => ⟨S4x60, .i32⟩
  | 25 => ⟨S4x1, .i32⟩
  | 26 => ⟨S1x60, .i32⟩
  | 27 => ⟨S_, .i32⟩
  | 28 => ⟨S1x60, .i32⟩
  | 29 => ⟨S1x60, .i32⟩
  | 30 => ⟨S4x60, .i32⟩
  | 31 => ⟨S4x60, .i32⟩
  | 32 => ⟨S4x60, .i32⟩
  | 33 => ⟨S_, .i32⟩
  | 34 => ⟨S_, .i32⟩
  | 35 => ⟨S_, .i32⟩
  | 36 => ⟨S4x60, .i32⟩
  | 37 => ⟨S4x60, .i32⟩
  | 38 => ⟨S_, .i32⟩
  | 39 => ⟨S4x60, .i32⟩
  | 40 => ⟨S4x60, .i32⟩
  | 41 => ⟨S4x60, .i1⟩
  | 42 => ⟨S240, .i1⟩
  | 43 => ⟨S240, .i1⟩
  | 44 => ⟨S240, .i32⟩
  | 45 => ⟨S240, .i1⟩
  | 46 => ⟨S240, .i32⟩
  | 47 => ⟨S63, .i32⟩
  | 48 => ⟨S240, .i32⟩
  | 49 => ⟨S_, .i32⟩
  | 50 => ⟨S_, .i32⟩
  | 51 => ⟨S63, .i32⟩
  | 52 => ⟨S_, .i32⟩
  | 53 => ⟨S_, .i32⟩
  | 54 => ⟨S63, .i32⟩
  | 55 => ⟨S63, .i32⟩
  | 56 => ⟨S_, .i32⟩
  | 57 => ⟨S63, .i32⟩
  | 58 => ⟨S63, .i1⟩
  | 59 => ⟨S_, .i32⟩
  | 60 => ⟨S63, .i32⟩
  | 61 => ⟨S63, .i32⟩
  | 62 => ⟨S63, .i32⟩
  | 63 => ⟨S63x1, .i32⟩
  | 64 => ⟨S63, .i32⟩
  | 65 => ⟨S63, .i32⟩
  | 66 => ⟨S63, .i32⟩
  | 67 => ⟨S63, .i1⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S63, .i32⟩
  | 75 => ⟨S63, .i32⟩
  | 76 => ⟨S_, .i32⟩
  | 77 => ⟨S63, .i32⟩
  | 78 => ⟨S63, .i1⟩
  | 79 => ⟨S_, .i32⟩
  | 80 => ⟨S63, .i32⟩
  | 81 => ⟨S63, .i1⟩
  | 82 => ⟨S_, .i32⟩
  | 83 => ⟨S_, .i1⟩
  | 84 => ⟨S63, .i1⟩
  | 85 => ⟨S63, .i1⟩
  | 86 => ⟨S63, .i1⟩
  | 87 => ⟨S63, .i32⟩
  | 88 => ⟨S63, .i32⟩
  | 89 => ⟨S_, .i32⟩
  | 90 => ⟨S_, .i32⟩
  | 91 => ⟨S63, .i32⟩
  | 92 => ⟨S63, .i32⟩
  | 93 => ⟨S63, .i32⟩
  | 94 => ⟨S_, .i32⟩
  | 95 => ⟨S63, .i32⟩
  | 96 => ⟨S63, .i1⟩
  | 97 => ⟨S63, .i32⟩
  | 98 => ⟨S63, .i32⟩
  | 99 => ⟨S_, .i32⟩
  | 100 => ⟨S63, .i32⟩
  | 101 => ⟨S63, .i1⟩
  | 102 => ⟨S63, .i1⟩
  | 103 => ⟨S_, .i32⟩
  | 104 => ⟨S63, .i32⟩
  | 105 => ⟨S63, .i32⟩
  | 106 => ⟨S240, .i32⟩
  | 107 => ⟨S_, .i32⟩
  | 108 => ⟨S63, .i32⟩
  | 109 => ⟨S63, .i1⟩
  | 110 => ⟨S_, .i32⟩
  | 111 => ⟨S63, .i32⟩
  | 112 => ⟨S63, .i32⟩
  | 113 => ⟨S63, .i32⟩
  | 114 => ⟨S63x1, .i32⟩
  | 115 => ⟨S63, .i32⟩
  | 116 => ⟨S_, .i32⟩
  | 117 => ⟨S_, .i32⟩
  | 118 => ⟨S63, .i32⟩
  | 119 => ⟨S240, .i32⟩
  | 120 => ⟨S_, .i32⟩
  | 121 => ⟨S63, .i32⟩
  | 122 => ⟨S63, .i1⟩
  | 123 => ⟨S_, .i32⟩
  | 124 => ⟨S63, .i32⟩
  | 125 => ⟨S63, .i32⟩
  | 126 => ⟨S63, .i32⟩
  | 127 => ⟨S63x1, .i32⟩
  | _ => ⟨S30720x2048, .bf16⟩

abbrev hbmTy0_1 (i : Nat) : BufTy := match i % 128 with
  | 0 => ⟨S63, .i32⟩
  | 1 => ⟨S_, .i32⟩
  | 2 => ⟨S_, .i32⟩
  | 3 => ⟨S63, .i32⟩
  | 4 => ⟨S_, .i32⟩
  | 5 => ⟨S1, .i32⟩
  | 6 => ⟨S62, .i32⟩
  | 7 => ⟨S62, .i32⟩
  | 8 => ⟨S62, .i1⟩
  | 9 => ⟨S62, .i32⟩
  | 10 => ⟨S4x1x7168, .f32⟩
  | 11 => ⟨S30720x7168, .bf16⟩
  | _ => ⟨S30720x2048, .bf16⟩

abbrev hbmTy (i : Nat) : BufTy := match i / 128 with
  | 0 => hbmTy0_0 i
  | 1 => hbmTy0_1 i
  | _ => ⟨S30720x2048, .bf16⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S1x2048x7168, .fp8e4m3⟩
  | .local _ .vmem, ⟨3, _⟩ => ⟨S1x2048x7168, .fp8e4m3⟩
  | .local _ .vmem, ⟨4, _⟩ => ⟨S1x1x7168, .f32⟩
  | .local _ .vmem, ⟨5, _⟩ => ⟨S1x1x7168, .f32⟩
  | .local _ .vmem, ⟨6, _⟩ => ⟨S512x7168, .bf16⟩
  | .local _ .vmem, ⟨7, _⟩ => ⟨S512x7168, .bf16⟩
  | .local _ .vmem, ⟨8, _⟩ => ⟨S512x2048, .fp8e4m3⟩
  | .local _ .vmem, ⟨9, _⟩ => ⟨S512x128, .f32⟩
  | .local _ .smem, ⟨0, _⟩ => ⟨S63, .i32⟩
  | .local _ .smem, ⟨1, _⟩ => ⟨S63, .i32⟩
  | .local _ .smem, ⟨2, _⟩ => ⟨S63, .i32⟩
  | .local _ .smem, ⟨3, _⟩ => ⟨S63, .i32⟩
  | .local _ .smem, ⟨4, _⟩ => ⟨S63, .i32⟩
  | _, _ => ⟨S30720x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_c_1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_c_4 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call3_v0 : Ref sig .tc := ⟨.hbm, 44, rfl⟩
abbrev main_call3_v1_0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_c_6 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_7 : Ref sig .tc := ⟨.hbm, 56, rfl⟩
abbrev main_v30 : Ref sig .tc := ⟨.hbm, 57, rfl⟩
abbrev main_v31 : Ref sig .tc := ⟨.hbm, 58, rfl⟩
abbrev main_c_8 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_9 : Ref sig .tc := ⟨.hbm, 68, rfl⟩
abbrev main_call4_v0 : Ref sig .tc := ⟨.hbm, 69, rfl⟩
abbrev main_call4_c : Ref sig .tc := ⟨.hbm, 70, rfl⟩
abbrev main_call4_v1 : Ref sig .tc := ⟨.hbm, 71, rfl⟩
abbrev main_call4_c_0 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_call4_c_1 : Ref sig .tc := ⟨.hbm, 76, rfl⟩
abbrev main_call4_v5 : Ref sig .tc := ⟨.hbm, 77, rfl⟩
abbrev main_call4_v6 : Ref sig .tc := ⟨.hbm, 78, rfl⟩
abbrev main_call4_c_2 : Ref sig .tc := ⟨.hbm, 79, rfl⟩
abbrev main_call4_v7 : Ref sig .tc := ⟨.hbm, 80, rfl⟩
abbrev main_call4_v8 : Ref sig .tc := ⟨.hbm, 81, rfl⟩
abbrev main_call4_c_3 : Ref sig .tc := ⟨.hbm, 82, rfl⟩
abbrev main_call4_v9 : Ref sig .tc := ⟨.hbm, 83, rfl⟩
abbrev main_call4_v10 : Ref sig .tc := ⟨.hbm, 84, rfl⟩
abbrev main_call4_v11 : Ref sig .tc := ⟨.hbm, 85, rfl⟩
abbrev main_call4_v12 : Ref sig .tc := ⟨.hbm, 86, rfl⟩
abbrev main_call4_v13 : Ref sig .tc := ⟨.hbm, 87, rfl⟩
abbrev main_call4_v14 : Ref sig .tc := ⟨.hbm, 88, rfl⟩
abbrev main_c_10 : Ref sig .tc := ⟨.hbm, 89, rfl⟩
abbrev main_call5_v0 : Ref sig .tc := ⟨.hbm, 90, rfl⟩
abbrev main_call5_v1 : Ref sig .tc := ⟨.hbm, 91, rfl⟩
abbrev main_call5_v2 : Ref sig .tc := ⟨.hbm, 92, rfl⟩
abbrev main_call5_v3 : Ref sig .tc := ⟨.hbm, 93, rfl⟩
abbrev main_call5_v4 : Ref sig .tc := ⟨.hbm, 94, rfl⟩
abbrev main_call5_v5 : Ref sig .tc := ⟨.hbm, 95, rfl⟩
abbrev main_call5_v6 : Ref sig .tc := ⟨.hbm, 96, rfl⟩
abbrev main_call5_v7 : Ref sig .tc := ⟨.hbm, 97, rfl⟩
abbrev main_call5_v8 : Ref sig .tc := ⟨.hbm, 98, rfl⟩
abbrev main_call5_c : Ref sig .tc := ⟨.hbm, 99, rfl⟩
abbrev main_call5_v9 : Ref sig .tc := ⟨.hbm, 100, rfl⟩
abbrev main_call5_v10 : Ref sig .tc := ⟨.hbm, 101, rfl⟩
abbrev main_call5_v11 : Ref sig .tc := ⟨.hbm, 102, rfl⟩
abbrev main_call5_c_0 : Ref sig .tc := ⟨.hbm, 103, rfl⟩
abbrev main_call5_v12 : Ref sig .tc := ⟨.hbm, 104, rfl⟩
abbrev main_call5_v13 : Ref sig .tc := ⟨.hbm, 105, rfl⟩
abbrev main_v42 : Ref sig .tc := ⟨.hbm, 106, rfl⟩
abbrev main_c_11 : Ref sig .tc := ⟨.hbm, 107, rfl⟩
abbrev main_v43 : Ref sig .tc := ⟨.hbm, 108, rfl⟩
abbrev main_v44 : Ref sig .tc := ⟨.hbm, 109, rfl⟩
abbrev main_c_12 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_c_13 : Ref sig .tc := ⟨.hbm, 116, rfl⟩
abbrev main_call6_v0 : Ref sig .tc := ⟨.hbm, 117, rfl⟩
abbrev main_call6_v1 : Ref sig .tc := ⟨.hbm, 118, rfl⟩
abbrev main_v51 : Ref sig .tc := ⟨.hbm, 119, rfl⟩
abbrev main_c_14 : Ref sig .tc := ⟨.hbm, 120, rfl⟩
abbrev main_v52 : Ref sig .tc := ⟨.hbm, 121, rfl⟩
abbrev main_v53 : Ref sig .tc := ⟨.hbm, 122, rfl⟩
abbrev main_c_15 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_c_16 : Ref sig .tc := ⟨.hbm, 129, rfl⟩
abbrev main_call7_v0 : Ref sig .tc := ⟨.hbm, 130, rfl⟩
abbrev main_call7_v1 : Ref sig .tc := ⟨.hbm, 131, rfl⟩
abbrev main_c_17 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v66 : Ref sig .tc := ⟨.hbm, 138, rfl⟩
abbrev main_v67 : Ref sig .tc := ⟨.hbm, 139, rfl⟩
abbrev main_v40 : Ref sig .tc := ⟨.smem, 0, rfl⟩
abbrev main_v41 : Ref sig .tc := ⟨.smem, 1, rfl⟩
abbrev main_v50 : Ref sig .tc := ⟨.smem, 2, rfl⟩
abbrev main_v59 : Ref sig .tc := ⟨.smem, 3, rfl⟩
abbrev main_v65 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![63], ![false]⟩

abbrev pre0 : Pipeline.Prefetch sig := ⟨5, ![main_v40.idx, main_v41.idx, main_v50.idx, main_v59.idx, main_v65.idx], fun | 0 => main_v40.names | 1 => main_v41.names | 2 => main_v50.names | 3 => main_v59.names | 4 => main_v65.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (v5 : BitVec 32) : BitVec 1 :=
  let c1_i32_0 : BitVec 32 := 1#32
  let v11 : BitVec 1 := Scalar.cmpi .eq v5 c1_i32_0
  let v12 : BitVec 32 := Scalar.extui v11
  let c0_i32_1 : BitVec 32 := 0#32
  let v13 : BitVec 1 := Scalar.cmpi .ne v12 c0_i32_1
  v13

def k0_cond3 (v1 : BitVec 32) (v3 : BitVec 32) (v5 : BitVec 32) : BitVec 1 :=
  let c0_i32_2 : BitVec 32 := 0#32
  let v14 : BitVec 1 := Scalar.cmpi .eq v5 c0_i32_2
  let v15 : BitVec 1 := Scalar.cmpi .slt v1 v3
  let v16 : BitVec 1 := Scalar.andi v14 v15
  let v17 : BitVec 32 := Scalar.extui v16
  let c0_i32_3 : BitVec 32 := 0#32
  let v18 : BitVec 1 := Scalar.cmpi .ne v17 c0_i32_3
  v18

def cc0_transform_0 (k0_off1_inb : ∀ i : grid0.Coords, ∀ a, (k0_off1 i) a + S1.size a ≤ S63.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S63) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S63.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S63) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S63.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S63) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S63.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S63) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x7168 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S30720x2048 : Shape := ⟨2, ![30720, 2048]⟩
abbrev S4 : Shape := ⟨1, ![4]⟩
abbrev S4x2048x7168 : Shape := ⟨3, ![4, 2048, 7168]⟩
abbrev S4x7168 : Shape := ⟨2, ![4, 7168]⟩
abbrev S_ : Shape := ⟨0, ![]⟩
abbrev S30720x7168 : Shape := ⟨2, ![30720, 7168]⟩
abbrev S30720 : Shape := ⟨1, ![30720]⟩
abbrev S30720x1 : Shape := ⟨2, ![30720, 1]⟩
abbrev S1x277 : Shape := ⟨2, ![1, 277]⟩
abbrev S30720x277 : Shape := ⟨2, ![30720, 277]⟩
abbrev S1 : Shape := ⟨1, ![1]⟩
abbrev S1x2048x7168 : Shape := ⟨3, ![1, 2048, 7168]⟩
abbrev S2048x7168 : Shape := ⟨2, ![2048, 7168]⟩
abbrev S1x7168 : Shape := ⟨2, ![1, 7168]⟩

abbrev nBuf : Space → Nat
  | .hbm => 8
  | .vmem => 4
  | .smem => 1
  | _ => 0

abbrev bufTy : (tb : Table) → Fin (tcTables nBuf tb) → BufTy
  | .hbm, ⟨0, _⟩ => ⟨S30720x2048, .bf16⟩
  | .hbm, ⟨1, _⟩ => ⟨S4, .i32⟩
  | .hbm, ⟨2, _⟩ => ⟨S4x2048x7168, .fp8e4m3⟩
  | .hbm, ⟨3, _⟩ => ⟨S4x7168, .f32⟩
  | .hbm, ⟨4, _⟩ => ⟨S_, .i32⟩
  | .hbm, ⟨5, _⟩ => ⟨S_, .i32⟩
  | .hbm, ⟨6, _⟩ => ⟨S4, .i32⟩
  | .hbm, ⟨7, _⟩ => ⟨S30720x7168, .bf16⟩
  | .local _ .vmem, ⟨0, _⟩ => ⟨S30720x2048, .bf16⟩
  | .local _ .vmem, ⟨1, _⟩ => ⟨S4x2048x7168, .fp8e4m3⟩
  | .local _ .vmem, ⟨2, _⟩ => ⟨S4x7168, .f32⟩
  | .local _ .vmem, ⟨3, _⟩ => ⟨S30720x7168, .bf16⟩
  | .local _ .smem, ⟨0, _⟩ => ⟨S4, .i32⟩
  | _, _ => ⟨S30720x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S30720x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2048x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S30720x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Tables.lean ====
module

public import proofs.«01_k».proof.Proof.Gen.Kernel.Launch
public import proofs.«01_k».proof.Proof.Gen.Kernel.Skeleton
public import Idealize.ShloMosaic.Lib.Claim
public import Idealize.ShloMosaic.Lib.VecWindow
public import Idealize.ShloMosaic.Lib.WholeRead
public import Idealize.ShloMosaic.Lib.ValueIdx
public import Idealize.ShloMosaic.Lib.StableHlo.RunRead

/-! # The five prefetched tables as functions of the group sizes

The host fills five tables before the call: the row tile, the expert, the first and the end row and the first-visit
mark of each of the 63 grid points. This module names the terms the host program computes, one definition per step, and
shows that the host line leaves exactly these terms in the buffers the call reads. -/

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The end row of each expert: the running sum of the group sizes. -/
def ends (g : IVec S4 32) : IVec S4 32 :=
  Host.reduceWindow IntOp.addi ![4] ![1] ![3] ![0] g (broadcastInDim S_ ![] bcast_S_S_ (constantI S_ 32 0#32)) reduceWindows_S4_S4_w4s1p3_0 h_S_

/-- For each (expert, tile) pair, a row of the expert counted from the tile's first row: `x - 512 * tile`. -/
def offsetBy (i : IVec S60 32) (x : IVec S4 32) : IVec S4x60 32 :=
  subi (broadcastInDim S4x60 ![0, 1] bcast_S4x1_S4x60_0_1 (broadcastInDim S4x1 ![0] bcast_S4_S4x1_0 x))
    (broadcastInDim S4x60 ![0, 1] bcast_S1x60_S4x60_0_1
      (muli (broadcastInDim S1x60 ![1] bcast_S60_S1x60_1 i)
        (broadcastInDim S1x60 ![] bcast_S_S1x60 (constantI S_ 32 512#32))))

/-- The rows clipped to a range. -/
def clipBy (a b : IVec S_ 32) (x : IVec S4x60 32) : IVec S4x60 32 :=
  minsi (broadcastInDim S4x60 ![] bcast_S_S4x60 (id b)) (maxsi (broadcastInDim S4x60 ![] bcast_S_S4x60 (id a)) x)

/-- The rows clipped to `[0, 512]`. -/
def clipped (x : IVec S4 32) : IVec S4x60 32 := clipBy (constantI S_ 32 0#32) (constantI S_ 32 512#32) (offsetBy (iotaInDim S60 32 0) x)

/-- The first row of each pair within its tile. -/
def loAll (g : IVec S4 32) : IVec S4x60 32 := clipped (subi (ends g) g)

/-- The end row of each pair within its tile. -/
def hiAll (g : IVec S4 32) : IVec S4x60 32 := clipped (ends g)

/-- Which pairs have a row, pairs counted expert by expert. -/
def liveOf (hi lo : IVec S4x60 32) : IVec S240 1 := shapeCast S240 (cmpi .sgt hi lo) shapeCasts_S4x60_S240

/-- Which pairs have a row, from the group sizes. -/
def live (g : IVec S4 32) : IVec S240 1 := liveOf (hiAll g) (loAll g)

/-- The pair numbers sorted by a mark, otherwise in order. -/
def orderOf (x : IVec S240 1) : IVec S240 32 := (Host.sort2 S240 0 comparator_i1_i32_d0 x (iotaInDim S240 32 0)).2

/-- How many pairs are live. -/
def nLive (l : IVec S240 1) : IVec S_ 32 :=
  Host.reduce IntOp.addi (extui 32 l natLt_1_32) (constantI S_ 32 0#32) reducesTo_S240_S_d0 h_S_

/-- The position in the order each grid point takes: its own, or the last live one. -/
def pos (l : IVec S240 1) : IVec S63 32 :=
  minsi (iotaInDim S63 32 0) (broadcastInDim S63 ![] bcast_S_S63 (subi (nLive l) (constantI S_ 32 1#32)))

/-- An index below zero counts from the end. -/
def wrapped (n : BitVec 32) (x : IVec S63 32) : IVec S63 32 :=
  select (cmpi .slt x (broadcastInDim S63 ![] bcast_S_S63 (constantI S_ 32 0#32)))
    (addi x (broadcastInDim S63 ![] bcast_S_S63 (constantI S_ 32 n))) x

/-- The pair each grid point works on. -/
def pairBy (l : IVec S240 1) (o : IVec S240 32) : IVec S63 32 :=
  Host.gather gather_S63_S63x1_S63_n_0_n_n_0_1_1 (extractStridedSlice S63 ![0] o slices_S240_S63_0)
    (broadcastInDim S63x1 ![0] bcast_S63_S63x1_0 (wrapped 63#32 (pos l)))

/-- The pair each grid point works on, from the group sizes. -/
def pairOf (g : IVec S4 32) : IVec S63 32 := pairBy (live g) (orderOf (noti (live g)))

/-- Which grid points have a live pair of their own. -/
def validOf (l : IVec S240 1) : IVec S63 1 := cmpi .slt (iotaInDim S63 32 0) (broadcastInDim S63 ![] bcast_S_S63 (nLive l))

/-- The divisor of the remainder, guarded against zero. -/
def divisor (d : IVec S_ 32) : IVec S_ 32 :=
  select (cmpi .eq (id d) (constantI S_ 32 0#32)) (constantI S_ 32 1#32) (id d)

/-- The remainder, with the sign of the divisor. -/
def remBy (d : IVec S_ 32) (x : IVec S63 32) : IVec S63 32 :=
  select (andi (cmpi .ne
      (cmpi .slt (Host.remsi x (broadcastInDim S63 ![] bcast_S_S63 (divisor d))) (broadcastInDim S63 ![] bcast_S_S63 (constantI S_ 32 0#32)))
      (broadcastInDim S63 ![] bcast_S_S63 (cmpi .slt (divisor d) (constantI S_ 32 0#32))))
      (cmpi .ne (Host.remsi x (broadcastInDim S63 ![] bcast_S_S63 (divisor d))) (broadcastInDim S63 ![] bcast_S_S63 (constantI S_ 32 0#32))))
    (addi (Host.remsi x (broadcastInDim S63 ![] bcast_S_S63 (divisor d))) (broadcastInDim S63 ![] bcast_S_S63 (divisor d)))
    (Host.remsi x (broadcastInDim S63 ![] bcast_S_S63 (divisor d)))

/-- The quotient, rounded down. -/
def divBy (d : IVec S_ 32) (x : IVec S63 32) : IVec S63 32 :=
  select (andi (cmpi .ne (signi x) (broadcastInDim S63 ![] bcast_S_S63 (signi (id d))))
      (cmpi .ne (Host.remsi x (broadcastInDim S63 ![] bcast_S_S63 (id d))) (broadcastInDim S63 ![] bcast_S_S63 (constantI S_ 32 0#32))))
    (subi (Host.divsi x (broadcastInDim S63 ![] bcast_S_S63 (id d))) (broadcastInDim S63 ![] bcast_S_S63 (constantI S_ 32 1#32)))
    (Host.divsi x (broadcastInDim S63 ![] bcast_S_S63 (id d)))

/-- The row tile of each grid point. -/
def tileT (g : IVec S4 32) : IVec S63 32 := remBy (constantI S_ 32 60#32) (pairOf g)

/-- The expert of each grid point. -/
def expertT (g : IVec S4 32) : IVec S63 32 := divBy (constantI S_ 32 60#32) (pairOf g)

/-- A row bound of the pair of each grid point. -/
def takeBound (p : IVec S63 32) (x : IVec S4x60 32) : IVec S63 32 :=
  Host.gather gather_S240_S63x1_S63_n_0_n_n_0_1_1 (shapeCast S240 x shapeCasts_S4x60_S240)
    (broadcastInDim S63x1 ![0] bcast_S63_S63x1_0 (wrapped 240#32 p))

/-- The bound where a mark is set, else a fixed word. -/
def orElse (v : IVec S63 1) (x : IVec S63 32) (z : IVec S_ 32) : IVec S63 32 := select v x (broadcastInDim S63 ![] bcast_S_S63 (id z))

/-- A row bound of each grid point: that of its pair, or zero for a grid point without a live pair of its own. -/
def boundT (g : IVec S4 32) (x : IVec S4x60 32) : IVec S63 32 :=
  orElse (validOf (live g)) (takeBound (pairOf g) x) (constantI S_ 32 0#32)

/-- The first row of each grid point within its tile. -/
def loT (g : IVec S4 32) : IVec S63 32 := boundT g (loAll g)

/-- The end row of each grid point within its tile. -/
def hiT (g : IVec S4 32) : IVec S63 32 := boundT g (hiAll g)

/-- Whether each grid point's tile differs from the one before it. -/
def firstOf (t : IVec S63 32) : IVec S63 32 :=
  concatenate S63 0
    [⟨S1, (broadcastInDim S1 ![] bcast_S_S1 (constantI S_ 32 1#32) : IVec S1 32)⟩,
     ⟨S62, extui 32 (cmpi .ne (extractStridedSlice S62 ![1] t slices_S63_S62_1)
        (extractStridedSlice S62 ![0] t slices_S63_S62_0)) natLt_1_32⟩] concatenates_S1_S62_S63_d0

/-- Whether each grid point is the first to visit its tile. -/
def firstT (g : IVec S4 32) : IVec S63 32 := firstOf (tileT g)

/-! ## One lemma per list of operations -/

variable (X : Valuation τ sig (Elt F))

theorem at_0_v0 : StableHlo.after (hostOps0 (F := F)) X (Proc.devRef .tc main_v0) = ends (X (Proc.devRef .tc main_arg1)) := by
  first | (after_reads_simp; done) | (after_reads_simp; rfl)

theorem at_1_c_0 : StableHlo.after (hostOps0_1 (F := F)) X (Proc.devRef .tc main_c_0) = constantI S_ 32 0#32 := by
  first | (after_reads_simp; done) | (after_reads_simp; rfl)

theorem at_1_c_1 : StableHlo.after (hostOps0_1 (F := F)) X (Proc.devRef .tc main_c_1) = constantI S_ 32 512#32 := by
  first | (after_reads_simp; done) | (after_reads_simp; rfl)

theorem at_1_v9 : StableHlo.after (hostOps0_1 (F := F)) X (Proc.devRef .tc main_v9) = offsetBy (iotaInDim S60 32 0) (subi ((X (Proc.devRef .tc main_v0)) : IVec S4 32) (X (Proc.devRef .tc main_arg1))) := by
  first | (after_reads_simp; done) | (after_reads_simp; rfl)

theorem at_1_v2 : StableHlo.after (hostOps0_1 (F := F)) X (Proc.devRef .tc main_v2) = iotaInDim S60 32 0 := by
  first | (after_reads_simp; done) | (after_reads_simp; rfl)

theorem at_2_v10 : StableHlo.after (hostOps0_2 (F := F)) X (Proc.devRef .tc main_v10) = clipBy (X (Proc.devRef .tc main_c_0)) (X (Proc.devRef .tc main_c_1)) (X (Proc.devRef .tc main_v9)) := by
  first | (after_reads_simp; done) | (after_reads_simp; rfl)

theorem at_3_c_3 : StableHlo.after (hostOps0_3 (F := F)) X (Proc.devRef .tc main_c_3) = constantI S_ 32 0#32 := by
  first | (after_reads_simp; done) | (after_reads_simp; rfl)

theorem at_3_c_4 : StableHlo.after (hostOps0_3 (F := F)) X (Proc.devRef .tc main_c_4) = constantI S_ 32 512#32 := by
  first | (after_reads_simp; done) | (after_reads_simp; rfl)

theorem at_3_v17 : StableHlo.after (hostOps0_3 (F := F)) X (Proc.devRef .tc main_v17) = offsetBy (X (Proc.devRef .tc main_v2)) (X (Proc.devRef .tc main_v0)) := by
  first | (after_reads_simp; done) | (after_reads_simp; rfl)

theorem at_4_v18 : StableHlo.after (hostOps0_4 (F := F)) X (Proc.devRef .tc main_v18) = clipBy (X (Proc.devRef .tc main_c_3)) (X (Proc.devRef .tc main_c_4)) (X (Proc.devRef .tc main_v17)) := by
  first | (after_reads_simp; done) | (after_reads_simp; rfl)

theorem at_5_v20 : StableHlo.after (hostOps0_5 (F := F)) X (Proc.devRef .tc main_v20) = liveOf (X (Proc.devRef .tc main_v18)) (X (Proc.devRef .tc main_v10)) := by
  first | (after_reads_simp; done) | (after_reads_simp; rfl)

theorem at_5_v21 : StableHlo.after (hostOps0_5 (F := F)) X (Proc.devRef .tc main_v21) = noti (liveOf (X (Proc.devRef .tc main_v18)) (X (Proc.devRef .tc main_v10))) := by
  first | (after_reads_simp; done) | (after_reads_simp; rfl)

theorem at_6_v22 : StableHlo.after (hostOps0_6 (F := F)) X (Proc.devRef .tc main_v22) = orderOf (X (Proc.devRef .tc main_v21)) := by
  first | (after_reads_simp; done) | (after_reads_simp; rfl)

theorem at_7_v36 : StableHlo.after (hostOps0_7 (F := F)) X (Proc.devRef .tc main_v36) = pairBy (X (Proc.devRef .tc main_v20)) (X (Proc.devRef .tc main_v22)) := by
  after_reads_simp
  unfold pairBy wrapped pos nLive
  with_reducible rfl

theorem at_7_v39 : StableHlo.after (hostOps0_7 (F := F)) X (Proc.devRef .tc main_v39) = validOf (X (Proc.devRef .tc main_v20)) := by
  first | (after_reads_simp; done) | (after_reads_simp; rfl)

theorem at_7_c_9 : StableHlo.after (hostOps0_7 (F := F)) X (Proc.devRef .tc main_c_9) = constantI S_ 32 60#32 := by
  first | (after_reads_simp; done) | (after_reads_simp; rfl)

theorem at_8_v40 : StableHlo.after (hostOps0_8 (F := F)) X (Proc.devRef .tc main_v40) = remBy (X (Proc.devRef .tc main_c_9)) (X (Proc.devRef .tc main_v36)) := by
  after_reads_simp
  simp only [StableHlo.TRef.ofBuf_toBuf]
  rfl

theorem at_9_c_10 : StableHlo.after (hostOps0_9 (F := F)) X (Proc.devRef .tc main_c_10) = constantI S_ 32 60#32 := by
  first | (after_reads_simp; done) | (after_reads_simp; rfl)

theorem at_10_v41 : StableHlo.after (hostOps0_10 (F := F)) X (Proc.devRef .tc main_v41) = divBy (X (Proc.devRef .tc main_c_10)) (X (Proc.devRef .tc main_v36)) := by
  first | (after_reads_simp; done) | (after_reads_simp; rfl)

theorem at_11_v49 : StableHlo.after (hostOps0_11 (F := F)) X (Proc.devRef .tc main_v49) = takeBound (X (Proc.devRef .tc main_v36)) (X (Proc.devRef .tc main_v10)) := by
  first | (after_reads_simp; done) | (after_reads_simp; rfl)

theorem at_11_c_13 : StableHlo.after (hostOps0_11 (F := F)) X (Proc.devRef .tc main_c_13) = constantI S_ 32 0#32 := by
  first | (after_reads_simp; done) | (after_reads_simp; rfl)

theorem at_12_v50 : StableHlo.after (hostOps0_12 (F := F)) X (Proc.devRef .tc main_v50) = orElse (X (Proc.devRef .tc main_v39)) (X (Proc.devRef .tc main_v49)) (X (Proc.devRef .tc main_c_13)) := by
  first | (after_reads_simp; done) | (after_reads_simp; rfl)

theorem at_13_v58 : StableHlo.after (hostOps0_13 (F := F)) X (Proc.devRef .tc main_v58) = takeBound (X (Proc.devRef .tc main_v36)) (X (Proc.devRef .tc main_v18)) := by
  first | (after_reads_simp; done) | (after_reads_simp; rfl)

theorem at_13_c_16 : StableHlo.after (hostOps0_13 (F := F)) X (Proc.devRef .tc main_c_16) = constantI S_ 32 0#32 := by
  first | (after_reads_simp; done) | (after_reads_simp; rfl)

theorem at_14_v59 : StableHlo.after (hostOps0_14 (F := F)) X (Proc.devRef .tc main_v59) = orElse (X (Proc.devRef .tc main_v39)) (X (Proc.devRef .tc main_v58)) (X (Proc.devRef .tc main_c_16)) := by
  first | (after_reads_simp; done) | (after_reads_simp; rfl)

theorem at_15_v65 : StableHlo.after (hostOps0_15 (F := F)) X (Proc.devRef .tc main_v65) = firstOf (X (Proc.devRef .tc main_v40)) := by
  first | (after_reads_simp; done) | (after_reads_simp; rfl)

theorem at_15_v66 : StableHlo.after (hostOps0_15 (F := F)) X (Proc.devRef .tc main_v66) = (broadcastInDim S4x1x7168 ![0, 2] bcast_S4x7168_S4x1x7168_0_2 ((X (Proc.devRef .tc main_arg3)) : Vec F S4x7168 .f32) : Vec F S4x1x7168 .f32) := by
  first | (after_reads_simp; done) | (after_reads_simp; rfl)

theorem keep_0_arg1 : StableHlo.after (hostOps0 (F := F)) X (Proc.devRef .tc main_arg1) = X (Proc.devRef .tc main_arg1) := by
  after_reads_simp

theorem keep_0_arg3 : StableHlo.after (hostOps0 (F := F)) X (Proc.devRef .tc main_arg3) = X (Proc.devRef .tc main_arg3) := by
  after_reads_simp

theorem keep_1_arg3 : StableHlo.after (hostOps0_1 (F := F)) X (Proc.devRef .tc main_arg3) = X (Proc.devRef .tc main_arg3) := by
  after_reads_simp

theorem keep_2_arg3 : StableHlo.after (hostOps0_2 (F := F)) X (Proc.devRef .tc main_arg3) = X (Proc.devRef .tc main_arg3) := by
  after_reads_simp

theorem keep_3_arg3 : StableHlo.after (hostOps0_3 (F := F)) X (Proc.devRef .tc main_arg3) = X (Proc.devRef .tc main_arg3) := by
  after_reads_simp

theorem keep_4_arg3 : StableHlo.after (hostOps0_4 (F := F)) X (Proc.devRef .tc main_arg3) = X (Proc.devRef .tc main_arg3) := by
  after_reads_simp

theorem keep_5_arg3 : StableHlo.after (hostOps0_5 (F := F)) X (Proc.devRef .tc main_arg3) = X (Proc.devRef .tc main_arg3) := by
  after_reads_simp

theorem keep_6_arg3 : StableHlo.after (hostOps0_6 (F := F)) X (Proc.devRef .tc main_arg3) = X (Proc.devRef .tc main_arg3) := by
  after_reads_simp

theorem keep_7_arg3 : StableHlo.after (hostOps0_7 (F := F)) X (Proc.devRef .tc main_arg3) = X (Proc.devRef .tc main_arg3) := by
  after_reads_simp

theorem keep_8_arg3 : StableHlo.after (hostOps0_8 (F := F)) X (Proc.devRef .tc main_arg3) = X (Proc.devRef .tc main_arg3) := by
  after_reads_simp

theorem keep_9_arg3 : StableHlo.after (hostOps0_9 (F := F)) X (Proc.devRef .tc main_arg3) = X (Proc.devRef .tc main_arg3) := by
  after_reads_simp

theorem keep_10_arg3 : StableHlo.after (hostOps0_10 (F := F)) X (Proc.devRef .tc main_arg3) = X (Proc.devRef .tc main_arg3) := by
  after_reads_simp

theorem keep_11_arg3 : StableHlo.after (hostOps0_11 (F := F)) X (Proc.devRef .tc main_arg3) = X (Proc.devRef .tc main_arg3) := by
  after_reads_simp

theorem keep_12_arg3 : StableHlo.after (hostOps0_12 (F := F)) X (Proc.devRef .tc main_arg3) = X (Proc.devRef .tc main_arg3) := by
  after_reads_simp

theorem keep_13_arg3 : StableHlo.after (hostOps0_13 (F := F)) X (Proc.devRef .tc main_arg3) = X (Proc.devRef .tc main_arg3) := by
  after_reads_simp

theorem keep_14_arg3 : StableHlo.after (hostOps0_14 (F := F)) X (Proc.devRef .tc main_arg3) = X (Proc.devRef .tc main_arg3) := by
  after_reads_simp

theorem keep_1_v0 : StableHlo.after (hostOps0_1 (F := F)) X (Proc.devRef .tc main_v0) = X (Proc.devRef .tc main_v0) := by
  after_reads_simp

theorem keep_2_v0 : StableHlo.after (hostOps0_2 (F := F)) X (Proc.devRef .tc main_v0) = X (Proc.devRef .tc main_v0) := by
  after_reads_simp

theorem keep_3_v10 : StableHlo.after (hostOps0_3 (F := F)) X (Proc.devRef .tc main_v10) = X (Proc.devRef .tc main_v10) := by
  after_reads_simp

theorem keep_4_v10 : StableHlo.after (hostOps0_4 (F := F)) X (Proc.devRef .tc main_v10) = X (Proc.devRef .tc main_v10) := by
  after_reads_simp

theorem keep_5_v10 : StableHlo.after (hostOps0_5 (F := F)) X (Proc.devRef .tc main_v10) = X (Proc.devRef .tc main_v10) := by
  after_reads_simp

theorem keep_6_v10 : StableHlo.after (hostOps0_6 (F := F)) X (Proc.devRef .tc main_v10) = X (Proc.devRef .tc main_v10) := by
  after_reads_simp

theorem keep_7_v10 : StableHlo.after (hostOps0_7 (F := F)) X (Proc.devRef .tc main_v10) = X (Proc.devRef .tc main_v10) := by
  after_reads_simp

theorem keep_8_v10 : StableHlo.after (hostOps0_8 (F := F)) X (Proc.devRef .tc main_v10) = X (Proc.devRef .tc main_v10) := by
  after_reads_simp

theorem keep_9_v10 : StableHlo.after (hostOps0_9 (F := F)) X (Proc.devRef .tc main_v10) = X (Proc.devRef .tc main_v10) := by
  after_reads_simp

theorem keep_10_v10 : StableHlo.after (hostOps0_10 (F := F)) X (Proc.devRef .tc main_v10) = X (Proc.devRef .tc main_v10) := by
  after_reads_simp

theorem keep_5_v18 : StableHlo.after (hostOps0_5 (F := F)) X (Proc.devRef .tc main_v18) = X (Proc.devRef .tc main_v18) := by
  after_reads_simp

theorem keep_6_v18 : StableHlo.after (hostOps0_6 (F := F)) X (Proc.devRef .tc main_v18) = X (Proc.devRef .tc main_v18) := by
  after_reads_simp

theorem keep_7_v18 : StableHlo.after (hostOps0_7 (F := F)) X (Proc.devRef .tc main_v18) = X (Proc.devRef .tc main_v18) := by
  after_reads_simp

theorem keep_8_v18 : StableHlo.after (hostOps0_8 (F := F)) X (Proc.devRef .tc main_v18) = X (Proc.devRef .tc main_v18) := by
  after_reads_simp

theorem keep_9_v18 : StableHlo.after (hostOps0_9 (F := F)) X (Proc.devRef .tc main_v18) = X (Proc.devRef .tc main_v18) := by
  after_reads_simp

theorem keep_10_v18 : StableHlo.after (hostOps0_10 (F := F)) X (Proc.devRef .tc main_v18) = X (Proc.devRef .tc main_v18) := by
  after_reads_simp

theorem keep_11_v18 : StableHlo.after (hostOps0_11 (F := F)) X (Proc.devRef .tc main_v18) = X (Proc.devRef .tc main_v18) := by
  after_reads_simp

theorem keep_12_v18 : StableHlo.after (hostOps0_12 (F := F)) X (Proc.devRef .tc main_v18) = X (Proc.devRef .tc main_v18) := by
  after_reads_simp

theorem keep_2_v2 : StableHlo.after (hostOps0_2 (F := F)) X (Proc.devRef .tc main_v2) = X (Proc.devRef .tc main_v2) := by
  after_reads_simp

theorem keep_6_v20 : StableHlo.after (hostOps0_6 (F := F)) X (Proc.devRef .tc main_v20) = X (Proc.devRef .tc main_v20) := by
  after_reads_simp

theorem keep_8_v36 : StableHlo.after (hostOps0_8 (F := F)) X (Proc.devRef .tc main_v36) = X (Proc.devRef .tc main_v36) := by
  after_reads_simp

theorem keep_9_v36 : StableHlo.after (hostOps0_9 (F := F)) X (Proc.devRef .tc main_v36) = X (Proc.devRef .tc main_v36) := by
  after_reads_simp

theorem keep_10_v36 : StableHlo.after (hostOps0_10 (F := F)) X (Proc.devRef .tc main_v36) = X (Proc.devRef .tc main_v36) := by
  after_reads_simp

theorem keep_11_v36 : StableHlo.after (hostOps0_11 (F := F)) X (Proc.devRef .tc main_v36) = X (Proc.devRef .tc main_v36) := by
  after_reads_simp

theorem keep_12_v36 : StableHlo.after (hostOps0_12 (F := F)) X (Proc.devRef .tc main_v36) = X (Proc.devRef .tc main_v36) := by
  after_reads_simp

theorem keep_8_v39 : StableHlo.after (hostOps0_8 (F := F)) X (Proc.devRef .tc main_v39) = X (Proc.devRef .tc main_v39) := by
  after_reads_simp

theorem keep_9_v39 : StableHlo.after (hostOps0_9 (F := F)) X (Proc.devRef .tc main_v39) = X (Proc.devRef .tc main_v39) := by
  after_reads_simp

theorem keep_10_v39 : StableHlo.after (hostOps0_10 (F := F)) X (Proc.devRef .tc main_v39) = X (Proc.devRef .tc main_v39) := by
  after_reads_simp

theorem keep_11_v39 : StableHlo.after (hostOps0_11 (F := F)) X (Proc.devRef .tc main_v39) = X (Proc.devRef .tc main_v39) := by
  after_reads_simp

theorem keep_12_v39 : StableHlo.after (hostOps0_12 (F := F)) X (Proc.devRef .tc main_v39) = X (Proc.devRef .tc main_v39) := by
  after_reads_simp

theorem keep_13_v39 : StableHlo.after (hostOps0_13 (F := F)) X (Proc.devRef .tc main_v39) = X (Proc.devRef .tc main_v39) := by
  after_reads_simp

theorem keep_9_v40 : StableHlo.after (hostOps0_9 (F := F)) X (Proc.devRef .tc main_v40) = X (Proc.devRef .tc main_v40) := by
  after_reads_simp

theorem keep_10_v40 : StableHlo.after (hostOps0_10 (F := F)) X (Proc.devRef .tc main_v40) = X (Proc.devRef .tc main_v40) := by
  after_reads_simp

theorem keep_11_v40 : StableHlo.after (hostOps0_11 (F := F)) X (Proc.devRef .tc main_v40) = X (Proc.devRef .tc main_v40) := by
  after_reads_simp

theorem keep_12_v40 : StableHlo.after (hostOps0_12 (F := F)) X (Proc.devRef .tc main_v40) = X (Proc.devRef .tc main_v40) := by
  after_reads_simp

theorem keep_13_v40 : StableHlo.after (hostOps0_13 (F := F)) X (Proc.devRef .tc main_v40) = X (Proc.devRef .tc main_v40) := by
  after_reads_simp

theorem keep_14_v40 : StableHlo.after (hostOps0_14 (F := F)) X (Proc.devRef .tc main_v40) = X (Proc.devRef .tc main_v40) := by
  after_reads_simp

theorem keep_15_v40 : StableHlo.after (hostOps0_15 (F := F)) X (Proc.devRef .tc main_v40) = X (Proc.devRef .tc main_v40) := by
  after_reads_simp

theorem keep_11_v41 : StableHlo.after (hostOps0_11 (F := F)) X (Proc.devRef .tc main_v41) = X (Proc.devRef .tc main_v41) := by
  after_reads_simp

theorem keep_12_v41 : StableHlo.after (hostOps0_12 (F := F)) X (Proc.devRef .tc main_v41) = X (Proc.devRef .tc main_v41) := by
  after_reads_simp

theorem keep_13_v41 : StableHlo.after (hostOps0_13 (F := F)) X (Proc.devRef .tc main_v41) = X (Proc.devRef .tc main_v41) := by
  after_reads_simp

theorem keep_14_v41 : StableHlo.after (hostOps0_14 (F := F)) X (Proc.devRef .tc main_v41) = X (Proc.devRef .tc main_v41) := by
  after_reads_simp

theorem keep_15_v41 : StableHlo.after (hostOps0_15 (F := F)) X (Proc.devRef .tc main_v41) = X (Proc.devRef .tc main_v41) := by
  after_reads_simp

theorem keep_13_v50 : StableHlo.after (hostOps0_13 (F := F)) X (Proc.devRef .tc main_v50) = X (Proc.devRef .tc main_v50) := by
  after_reads_simp

theorem keep_14_v50 : StableHlo.after (hostOps0_14 (F := F)) X (Proc.devRef .tc main_v50) = X (Proc.devRef .tc main_v50) := by
  after_reads_simp

theorem keep_15_v50 : StableHlo.after (hostOps0_15 (F := F)) X (Proc.devRef .tc main_v50) = X (Proc.devRef .tc main_v50) := by
  after_reads_simp

theorem keep_15_v59 : StableHlo.after (hostOps0_15 (F := F)) X (Proc.devRef .tc main_v59) = X (Proc.devRef .tc main_v59) := by
  after_reads_simp

/-! ## The whole line -/

/-- The host operations before the call, in order. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]

omit [FloatOps F] in
theorem after_flatten (ls : List (List (HloOp τ sig (Elt F)))) (l : List (HloOp τ sig (Elt F))) (V : Valuation τ sig (Elt F)) :
    StableHlo.after (l :: ls).flatten V = StableHlo.after ls.flatten (StableHlo.after l V) := by
  rw [List.flatten_cons, StableHlo.after_append]

omit [FloatOps F] in
theorem after_flatten_nil (V : Valuation τ sig (Elt F)) :
    StableHlo.after (([] : List (List (HloOp τ sig (Elt F)))).flatten) V = V := rfl

theorem line_tile : StableHlo.after (opss (F := F)).flatten X (Proc.devRef .tc main_v40) = tileT (X (Proc.devRef .tc main_arg1)) := by
  simp only [after_flatten, after_flatten_nil]
  rw [keep_15_v40, keep_14_v40, keep_13_v40, keep_12_v40, keep_11_v40, keep_10_v40, keep_9_v40, at_8_v40, at_7_c_9, at_7_v36, keep_6_v20, at_5_v20, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1, at_6_v22, at_5_v21, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1]
  rfl

theorem line_expert : StableHlo.after (opss (F := F)).flatten X (Proc.devRef .tc main_v41) = expertT (X (Proc.devRef .tc main_arg1)) := by
  simp only [after_flatten, after_flatten_nil]
  rw [keep_15_v41, keep_14_v41, keep_13_v41, keep_12_v41, keep_11_v41, at_10_v41, at_9_c_10, keep_9_v36, keep_8_v36, at_7_v36, keep_6_v20, at_5_v20, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1, at_6_v22, at_5_v21, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1]
  rfl

theorem line_lo : StableHlo.after (opss (F := F)).flatten X (Proc.devRef .tc main_v50) = loT (X (Proc.devRef .tc main_arg1)) := by
  simp only [after_flatten, after_flatten_nil]
  rw [keep_15_v50, keep_14_v50, keep_13_v50, at_12_v50, keep_11_v39, keep_10_v39, keep_9_v39, keep_8_v39, at_7_v39, keep_6_v20, at_5_v20, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1, at_11_v49, keep_10_v36, keep_9_v36, keep_8_v36, at_7_v36, keep_6_v20, at_5_v20, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1, at_6_v22, at_5_v21, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1, keep_10_v10, keep_9_v10, keep_8_v10, keep_7_v10, keep_6_v10, keep_5_v10, keep_4_v10, keep_3_v10, at_2_v10, at_1_c_0, at_1_c_1, at_1_v9, at_0_v0, keep_0_arg1, at_11_c_13]
  rfl

theorem line_hi : StableHlo.after (opss (F := F)).flatten X (Proc.devRef .tc main_v59) = hiT (X (Proc.devRef .tc main_arg1)) := by
  simp only [after_flatten, after_flatten_nil]
  rw [keep_15_v59, at_14_v59, keep_13_v39, keep_12_v39, keep_11_v39, keep_10_v39, keep_9_v39, keep_8_v39, at_7_v39, keep_6_v20, at_5_v20, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1, at_13_v58, keep_12_v36, keep_11_v36, keep_10_v36, keep_9_v36, keep_8_v36, at_7_v36, keep_6_v20, at_5_v20, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1, at_6_v22, at_5_v21, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1, keep_12_v18, keep_11_v18, keep_10_v18, keep_9_v18, keep_8_v18, keep_7_v18, keep_6_v18, keep_5_v18, at_4_v18, at_3_c_3, at_3_c_4, at_3_v17, keep_2_v2, at_1_v2, keep_2_v0, keep_1_v0, at_0_v0, at_13_c_16]
  rfl

theorem line_first : StableHlo.after (opss (F := F)).flatten X (Proc.devRef .tc main_v65) = firstT (X (Proc.devRef .tc main_arg1)) := by
  simp only [after_flatten, after_flatten_nil]
  rw [at_15_v65, keep_14_v40, keep_13_v40, keep_12_v40, keep_11_v40, keep_10_v40, keep_9_v40, at_8_v40, at_7_c_9, at_7_v36, keep_6_v20, at_5_v20, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1, at_6_v22, at_5_v21, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1]
  rfl

theorem line_scales : StableHlo.after (opss (F := F)).flatten X (Proc.devRef .tc main_v66) = (broadcastInDim S4x1x7168 ![0, 2] bcast_S4x7168_S4x1x7168_0_2 (X (Proc.devRef .tc main_arg3) : Vec F S4x7168 .f32) : Vec F S4x1x7168 .f32) := by
  simp only [after_flatten, after_flatten_nil]
  rw [at_15_v66, keep_14_arg3, keep_13_arg3, keep_12_arg3, keep_11_arg3, keep_10_arg3, keep_9_arg3, keep_8_arg3, keep_7_arg3, keep_6_arg3, keep_5_arg3, keep_4_arg3, keep_3_arg3, keep_2_arg3, keep_1_arg3, keep_0_arg3]

end Cert.Kernel.Hand
-- ==== Proof.Ranges.lean ====
module

public import proofs.«01_k».proof.Proof.Tables
public import proofs.«01_k».proof.Proof.Gen.Kernel.Skeleton
public import Idealize.ShloMosaic.Lib.Claim
public import Idealize.ShloMosaic.Lib.VecWindow
public import Idealize.ShloMosaic.Lib.WholeRead
public import Idealize.ShloMosaic.Lib.ValueIdx
public import Idealize.ShloMosaic.Lib.Routing.OpsSearch
public import Idealize.ShloMosaic.Lib.Routing.OpsSet
public import Idealize.ShloMosaic.Lib.Routing.OpsPair
public import Idealize.ShloMosaic.Lib.Pipeline.Value
public import Idealize.ShloMosaic.Lib.SortFacts

/-! # Every table entry is in range

The order of the pairs is a permutation of `0 … 239`, whatever the group sizes, so every grid point's pair is one of the
240, its tile one of the 60 and its expert one of the 4; and a grid point is marked as a first visit exactly when it is
the first of all or its tile differs from the one before it. -/

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.Routing
open Cert.Kernel Cert.Kernel.Gen

variable {F : FTy → Type} [FloatOps F]

local notation "𝕄" => MT nD τ sig Unit (Elt F) ℕ (UR sig nD τ) ℕ

/-- Each entry of the order is a pair number. -/
theorem order_range (x : IVec S240 1) (j : S240.Idx) : ∃ k : Fin 240, orderOf x j = BitVec.ofNat 32 k.val :=
  ⟨_, rfl⟩

/-- Each grid point's pair is a pair number. -/
theorem pair_range (l : IVec S240 1) (o : IVec S240 32) (ho : ∀ j, ∃ k : Fin 240, o j = BitVec.ofNat 32 k.val) (p : S63.Idx) :
    ∃ k : Fin 240, pairBy l o p = BitVec.ofNat 32 k.val := ho _

theorem pairOf_range (g : IVec S4 32) (p : S63.Idx) : ∃ k : Fin 240, pairOf g p = BitVec.ofNat 32 k.val :=
  pair_range _ _ (order_range _) p

/-- The remainder by 60 of a pair number. -/
theorem rem_word (x : IVec S63 32) (p : S63.Idx) {k : ℕ} (hk : k < 240) (hx : x p = BitVec.ofNat 32 k) :
    remBy (constantI S_ 32 60#32) x p = BitVec.ofNat 32 (k % 60) :=
  pyRem_ap (hb := bcast_S_S63) x (id (constantI S_ 32 60#32)) p hx rfl (by omega) (by omega) (by omega)

/-- The quotient by 60 of a pair number. -/
theorem div_word (x : IVec S63 32) (p : S63.Idx) {k : ℕ} (hk : k < 240) (hx : x p = BitVec.ofNat 32 k) :
    divBy (constantI S_ 32 60#32) x p = BitVec.ofNat 32 (k / 60) :=
  pyDiv_ap (hb := bcast_S_S63) x (id (constantI S_ 32 60#32)) p hx rfl (by omega) (by omega) (by omega)

theorem tile_lt (g : IVec S4 32) (p : S63.Idx) : (tileT g p).toNat < 60 := by
  obtain ⟨k, hk⟩ := pairOf_range g p
  unfold tileT
  rw [rem_word _ p k.isLt hk, BitVec.toNat_ofNat, Nat.mod_eq_of_lt (by omega)]
  omega

theorem expert_lt (g : IVec S4 32) (p : S63.Idx) : (expertT g p).toNat < 4 := by
  obtain ⟨k, hk⟩ := pairOf_range g p
  unfold expertT
  rw [div_word _ p k.isLt hk, BitVec.toNat_ofNat, Nat.mod_eq_of_lt (by omega)]
  omega

theorem words_tile : ∀ n : Fin 60, (∃ h : (∀ a, ((![n.val, 0] : Fin 2 → ℕ) a + 1) * S512x2048.size a ≤ S30720x2048.size a), EltTy.bits .bf16 = 32 ∨ (Rect.block (s := S30720x2048) S512x2048.size (![n.val, 0] : Fin 2 → ℕ) h).WholeWords (EltTy.packing .bf16)) := by
  decide
theorem words_expert : ∀ n : Fin 4, (∃ h : (∀ a, ((![n.val, 0, 0] : Fin 3 → ℕ) a + 1) * S1x2048x7168.size a ≤ S4x2048x7168.size a), EltTy.bits .fp8e4m3 = 32 ∨ (Rect.block (s := S4x2048x7168) S1x2048x7168.size (![n.val, 0, 0] : Fin 3 → ℕ) h).WholeWords (EltTy.packing .fp8e4m3)) := by
  decide
theorem words_scale : ∀ n : Fin 4, (∃ h : (∀ a, ((![n.val, 0, 0] : Fin 3 → ℕ) a + 1) * S1x1x7168.size a ≤ S4x1x7168.size a), EltTy.bits .f32 = 32 ∨ (Rect.block (s := S4x1x7168) S1x1x7168.size (![n.val, 0, 0] : Fin 3 → ℕ) h).WholeWords (EltTy.packing .f32)) := by
  decide
theorem words_out : ∀ n : Fin 60, (∃ h : (∀ a, ((![n.val, 0] : Fin 2 → ℕ) a + 1) * S512x7168.size a ≤ S30720x7168.size a), EltTy.bits .bf16 = 32 ∨ (Rect.block (s := S30720x7168) S512x7168.size (![n.val, 0] : Fin 2 → ℕ) h).WholeWords (EltTy.packing .bf16)) := by
  decide

/-- Every block the index maps name lies inside its array, when the tiles and the experts are in range. -/
theorem ok0_of (pf : pre0.Contents (Elt F)) (h0 : ∀ j : S63.Idx, BitVec.toNat (w := 32) (pf 0 j) < 60) (h1 : ∀ j : S63.Idx, BitVec.toNat (w := 32) (pf 1 j) < 4) :
    ok0 pf :=
  ⟨fun i => words_tile ⟨_, h0 _⟩, fun i => words_expert ⟨_, h1 _⟩, fun i => words_scale ⟨_, h1 _⟩, fun i => words_out ⟨_, h0 _⟩⟩

/-! ## The first-visit marks -/

theorem first_zero (t : IVec S63 32) : firstOf t (ix1 (n := 63) 0) = 1#32 := rfl

theorem first_succ (t : IVec S63 32) (i : Fin 62) :
    firstOf t (ix1 (n := 63) i.succ) = if t (ix1 (n := 63) i.succ) = t (ix1 (n := 63) i.castSucc) then 0#32 else 1#32 := by
  have hA : firstOf t (ix1 (n := 63) i.succ)
      = (IntOp.cmpi .ne (t (ix1 (n := 63) i.succ)) (t (ix1 (n := 63) i.castSucc))).setWidth 32 := by
    unfold firstOf
    rw [concatenate_pair_apply_right (s₁ := S1) (s₂ := S62) (t := S63) 0 _ _ concatenates_S1_S62_S63_d0 (ix1 (n := 63) i.succ) rfl rfl (ix1 (n := 62) i)
      (fun b hb => absurd (Subsingleton.elim _ _) hb) rfl]
    show (IntOp.cmpi .ne (extractStridedSlice S62 ![1] t slices_S63_S62_1 (ix1 (n := 62) i)) (extractStridedSlice S62 ![0] t slices_S63_S62_0 (ix1 (n := 62) i))).setWidth 32 = _
    rw [slice1 1 t slices_S63_S62_1 i (by omega), slice1 0 t slices_S63_S62_0 i (by omega)]
    have e1 : (⟨1 + i.val, by omega⟩ : Fin 63) = i.succ := Fin.ext (Nat.add_comm _ _)
    have e0 : (⟨0 + i.val, by omega⟩ : Fin 63) = i.castSucc := Fin.ext (Nat.zero_add _)
    rw [e1, e0]
  rw [hA]
  by_cases h : t (ix1 (n := 63) i.succ) = t (ix1 (n := 63) i.castSucc)
  · rw [if_pos h, h]; simp [IntOp.cmpi]
  · rw [if_neg h]; rw [show IntOp.cmpi .ne (t (ix1 (n := 63) i.succ)) (t (ix1 (n := 63) i.castSucc)) = 1#1 by simp only [IntOp.cmpi, bne, beq_eq_false_iff_ne.mpr h]; rfl]; rfl

end Cert.Kernel.Hand
-- ==== Proof.Phases.lean ====
module

public import proofs.«01_k».proof.Proof.Gen.Kernel.Launch
public import proofs.«01_k».proof.Proof.Gen.Kernel.Skeleton
public import Idealize.ShloMosaic.Lib.Claim
public import Idealize.ShloMosaic.Lib.VecWindow
public import Idealize.ShloMosaic.Lib.WholeRead
public import Idealize.ShloMosaic.Lib.ValueIdx

/-! # The kernel's body as three phases

The body reads three words of the prefetched tables — the first row `lo`, the end row `hi` and the mark `first` of the
grid point — and then runs up to three guarded phases: `quantise` fills the two scratch buffers with the codes and the
scales of the row tile, `writeAll` stores every column chunk of the output block, and `writeMasked` stores every column
chunk at the rows `lo ≤ r < hi` only. This module names the phases and says what the body does in terms of them. -/

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first phase: eight groups of 64 rows quantised one after the other. -/
def quantise (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) :
    Prog (TpuEff nD τ sig (Elt F) Λ₀ .tc) PUnit := do
  let ⟨v60, v62⟩ : Σ' (v60 : FVec F S64x2048 .fp8e4m3), IVec S64x1 32 ← k0_part1 i arg1 harg1 arg2 harg2 arg3 harg3 arg4 harg4 arg5 harg5 arg6 harg6 arg7 harg7 arg8 harg8 arg9 harg9 arg10 harg10 arg11 harg11
  let ⟨v74, v98, v102, c23_i32_31⟩ : Σ' (v74 : Vec F S64x2048 .bf16) (v98 : IVec S64x1 32) (v102 : IVec S64x1 32), BitVec 32 ← k0_part2 i arg1 harg1 arg2 harg2 arg3 harg3 arg4 harg4 arg5 harg5 arg6 harg6 arg7 harg7 arg8 harg8 arg9 harg9 arg10 harg10 arg11 harg11 v60 v62
  let ⟨v129, v145⟩ : Σ' (v129 : Vec F S64x2048 .bf16), IVec S64x255 32 ← k0_part3 i arg1 harg1 arg2 harg2 arg3 harg3 arg4 harg4 arg5 harg5 arg6 harg6 arg7 harg7 arg8 harg8 arg9 harg9 arg10 harg10 arg11 harg11 v74 v98 v102 c23_i32_31
  let ⟨v184, v186⟩ : Σ' (v184 : Vec F S64x2048 .bf16), FVec F S64 .bf16 ← k0_part4 i arg1 harg1 arg2 harg2 arg3 harg3 arg4 harg4 arg5 harg5 arg6 harg6 arg7 harg7 arg8 harg8 arg9 harg9 arg10 harg10 arg11 harg11 v129 v145
  let ⟨v225, v230⟩ : Σ' (v225 : FVec F S64x2048 .fp8e4m3), FVec F S64x1 .f32 ← k0_part5 i arg1 harg1 arg2 harg2 arg3 harg3 arg4 harg4 arg5 harg5 arg6 harg6 arg7 harg7 arg8 harg8 arg9 harg9 arg10 harg10 arg11 harg11 v184 v186
  let ⟨v263, v273⟩ : Σ' (v263 : IVec S64x1 32), FVec F S64x2048 .bf16 ← k0_part6 i arg1 harg1 arg2 harg2 arg3 harg3 arg4 harg4 arg5 harg5 arg6 harg6 arg7 harg7 arg8 harg8 arg9 harg9 arg10 harg10 arg11 harg11 v225 v230
  let ⟨v294, v312, v314, c126_i32_107⟩ : Σ' (v294 : Vec F S64x2048 .bf16) (v312 : IVec S64x1 32) (v314 : IVec S64x1 1), BitVec 32 ← k0_part7 i arg1 harg1 arg2 harg2 arg3 harg3 arg4 harg4 arg5 harg5 arg6 harg6 arg7 harg7 arg8 harg8 arg9 harg9 arg10 harg10 arg11 harg11 v263 v273
  let ⟨v349, v355, v356⟩ : Σ' (v349 : Vec F S64x2048 .bf16) (v355 : FVec F S64x1 .f32), IVec S1x255 32 ← k0_part8 i arg1 harg1 arg2 harg2 arg3 harg3 arg4 harg4 arg5 harg5 arg6 harg6 arg7 harg7 arg8 harg8 arg9 harg9 arg10 harg10 arg11 harg11 v294 v312 v314 c126_i32_107
  let v400 : FVec F S64x128 .f32 ← k0_part9 i arg1 harg1 arg2 harg2 arg3 harg3 arg4 harg4 arg5 harg5 arg6 harg6 arg7 harg7 arg8 harg8 arg9 harg9 arg10 harg10 arg11 harg11 v349 v355 v356
  let ⟨v428, v441, v442⟩ : Σ' (v428 : IVec S64x1 32) (v441 : FVec F S64x2048 .bf16), F .bf16 ← k0_part10 i arg1 harg1 arg2 harg2 arg3 harg3 arg4 harg4 arg5 harg5 arg6 harg6 arg7 harg7 arg8 harg8 arg9 harg9 arg10 harg10 arg11 harg11 v400
  let v451 : Vec F S64x2048 .fp8e4m3 ← Prog.lift (.load arg10 (Rect.unit (s := S512x2048) ![448, 0] S64x2048.size inb_S512x2048_S64x2048_448_0).toLoadRect (View.loadsAt_vmem h_S64x2048))
  Prog.lift (.store arg10 (Rect.unit (s := S512x2048) ![448, 0] S64x2048.size inb_S512x2048_S64x2048_448_0) (k0_pay1 v441 v442) Finset.univ (View.stores_vmem h_S64x2048 (harg10.storeExact_slice rfl _ packedfp8e4m3_S512x2048_S64x2048_448_0) (fun _ => rfl)) (.inl rfl))
  let v456 : Vec F S64x128 .f32 ← Prog.lift (.load arg11 (Rect.unit (s := S512x128) ![448, 0] S64x128.size inb_S512x128_S64x128_448_0).toLoadRect (View.loadsAt_vmem h_S64x128))
  Prog.lift (.store arg11 (Rect.unit (s := S512x128) ![448, 0] S64x128.size inb_S512x128_S64x128_448_0) (k0_pay2 (F := F) v428) Finset.univ (View.stores_vmem_bits_univ h_S64x128 rfl) (.inl rfl))
  pure ⟨⟩
/-- The body's second phase: fourteen column chunks of the block stored whole. -/
def writeAll (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) :
    Prog (TpuEff nD τ sig (Elt F) Λ₀ .tc) PUnit := do
  let v45 : Vec F S512x2048 .fp8e4m3 ← k0_part11 i arg1 harg1 arg2 harg2 arg3 harg3 arg4 harg4 arg5 harg5 arg6 harg6 arg7 harg7 arg8 harg8 arg9 harg9 arg10 harg10 arg11 harg11
  let v74 : FVec F S512x512 .f32 ← k0_part12 i arg1 harg1 arg2 harg2 arg3 harg3 arg4 harg4 arg5 harg5 arg6 harg6 arg7 harg7 arg8 harg8 arg9 harg9 arg10 harg10 arg11 harg11 v45
  let v103 : FVec F S512x512 .f32 ← k0_part13 i arg1 harg1 arg2 harg2 arg3 harg3 arg4 harg4 arg5 harg5 arg6 harg6 arg7 harg7 arg8 harg8 arg9 harg9 arg10 harg10 arg11 harg11 v74
  let v134 : FVec F S512x512 .bf16 ← k0_part14 i arg1 harg1 arg2 harg2 arg3 harg3 arg4 harg4 arg5 harg5 arg6 harg6 arg7 harg7 arg8 harg8 arg9 harg9 arg10 harg10 arg11 harg11 v103
  let v162 : Vec F S512x2048 .fp8e4m3 ← k0_part15 i arg1 harg1 arg2 harg2 arg3 harg3 arg4 harg4 arg5 harg5 arg6 harg6 arg7 harg7 arg8 harg8 arg9 harg9 arg10 harg10 arg11 harg11 v134
  let ⟨v188, v190, cst_163⟩ : Σ' (v188 : Vec F S512x2048 .fp8e4m3) (v190 : FVec F S2048x512 .fp8e4m3), FVec F S512x512 .f32 ← k0_part16 i arg1 harg1 arg2 harg2 arg3 harg3 arg4 harg4 arg5 harg5 arg6 harg6 arg7 harg7 arg8 harg8 arg9 harg9 arg10 harg10 arg11 harg11 v162
  let v192 : Vec F S512x1 .f32 ← Prog.lift (.load arg11 (Rect.unit (s := S512x128) ![0, 0] S512x1.size inb_S512x128_S512x1_0_0).toLoadRect (View.loadsAt_vmem h_S512x1))
  let v195 : Vec F S1x1x512 .f32 ← Prog.lift (.load arg8 (Rect.unit (s := S1x1x7168) ![0, 0, 6656] S1x1x512.size inb_S1x1x7168_S1x1x512_0_0_6656).toLoadRect (View.loadsAt_vmem h_S1x1x512))
  let v200 : Vec F S512x512 .bf16 ← Prog.lift (.load arg9 (Rect.unit (s := S512x7168) ![0, 6656] S512x512.size inb_S512x7168_S512x512_0_6656).toLoadRect (View.loadsAt_vmem h_S512x512))
  Prog.lift (.store arg9 (Rect.unit (s := S512x7168) ![0, 6656] S512x512.size inb_S512x7168_S512x512_0_6656) (k0_pay3 v188 v190 cst_163 v192 v195) Finset.univ (View.stores_vmem h_S512x512 (harg9.storeExact_slice rfl _ packedbf16_S512x7168_S512x512_0_6656) (fun _ => rfl)) (.inl rfl))
  pure ⟨⟩
/-- The body's third phase: fourteen column chunks of the block stored at the rows from `v1` below `v3`. -/
def writeMasked (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) (v1 v3 : Elt F .i32) :
    Prog (TpuEff nD τ sig (Elt F) Λ₀ .tc) PUnit := do
  let ⟨v49, v51⟩ : Σ' (v49 : FVec F S512x512 .f32), FVec F S1x512 .f32 ← k0_part17 i arg1 harg1 arg2 harg2 arg3 harg3 arg4 harg4 arg5 harg5 arg6 harg6 arg7 harg7 arg8 harg8 arg9 harg9 arg10 harg10 arg11 harg11 v1 v3
  k0_part18 i arg1 harg1 arg2 harg2 arg3 harg3 arg4 harg4 arg5 harg5 arg6 harg6 arg7 harg7 arg8 harg8 arg9 harg9 arg10 harg10 arg11 harg11 v1 v3 v49 v51
  let ⟨v121, v123⟩ : Σ' (v121 : FVec F S512x512 .f32), FVec F S1x512 .f32 ← k0_part19 i arg1 harg1 arg2 harg2 arg3 harg3 arg4 harg4 arg5 harg5 arg6 harg6 arg7 harg7 arg8 harg8 arg9 harg9 arg10 harg10 arg11 harg11 v1 v3
  k0_part20 i arg1 harg1 arg2 harg2 arg3 harg3 arg4 harg4 arg5 harg5 arg6 harg6 arg7 harg7 arg8 harg8 arg9 harg9 arg10 harg10 arg11 harg11 v1 v3 v121 v123
  let ⟨v193, v195⟩ : Σ' (v193 : FVec F S512x512 .f32), FVec F S1x512 .f32 ← k0_part21 i arg1 harg1 arg2 harg2 arg3 harg3 arg4 harg4 arg5 harg5 arg6 harg6 arg7 harg7 arg8 harg8 arg9 harg9 arg10 harg10 arg11 harg11 v1 v3
  k0_part22 i arg1 harg1 arg2 harg2 arg3 harg3 arg4 harg4 arg5 harg5 arg6 harg6 arg7 harg7 arg8 harg8 arg9 harg9 arg10 harg10 arg11 harg11 v1 v3 v193 v195
  let ⟨v265, v267⟩ : Σ' (v265 : FVec F S512x512 .f32), FVec F S1x512 .f32 ← k0_part23 i arg1 harg1 arg2 harg2 arg3 harg3 arg4 harg4 arg5 harg5 arg6 harg6 arg7 harg7 arg8 harg8 arg9 harg9 arg10 harg10 arg11 harg11 v1 v3
  k0_part24 i arg1 harg1 arg2 harg2 arg3 harg3 arg4 harg4 arg5 harg5 arg6 harg6 arg7 harg7 arg8 harg8 arg9 harg9 arg10 harg10 arg11 harg11 v1 v3 v265 v267
  let ⟨v337, v339⟩ : Σ' (v337 : FVec F S512x512 .f32), FVec F S1x512 .f32 ← k0_part25 i arg1 harg1 arg2 harg2 arg3 harg3 arg4 harg4 arg5 harg5 arg6 harg6 arg7 harg7 arg8 harg8 arg9 harg9 arg10 harg10 arg11 harg11 v1 v3
  let v349 : Vec F S512x512 .bf16 ← Prog.lift (.load arg9 (Rect.unit (s := S512x7168) ![0, 6656] S512x512.size inb_S512x7168_S512x512_0_6656).toLoadRect (View.loadsAt_vmem h_S512x512))
  let v354 : Vec F S512x512 .bf16 ← Prog.lift (.load arg9 (Rect.unit (s := S512x7168) ![0, 6656] S512x512.size inb_S512x7168_S512x512_0_6656).toLoadRect (View.loadsAt_vmem h_S512x512))
  Prog.lift (.store arg9 (Rect.unit (s := S512x7168) ![0, 6656] S512x512.size inb_S512x7168_S512x512_0_6656) (k0_pay4 v1 v3 v337 v339 v349) Finset.univ (View.stores_vmem h_S512x512 (harg9.storeExact_slice rfl _ packedbf16_S512x7168_S512x512_0_6656) (fun _ => rfl)) (.inl rfl))
  pure ⟨⟩
/-- The condition of the first phase. -/
abbrev condQ (v1 v3 v5 : BitVec 32) : BitVec 1 :=
  Scalar.cmpi .ne (Scalar.extui (Scalar.andi (Scalar.cmpi .eq v5 1#32) (Scalar.cmpi .slt v1 v3)) : BitVec 32) 0#32

/-- What the body does once the three words are read. -/
def phases (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) (v1 v3 v5 : Elt F .i32) :
    Prog (TpuEff nD τ sig (Elt F) Λ₀ .tc) PUnit := do
  if condQ v1 v3 v5 = 1#1 then quantise i arg1 harg1 arg2 harg2 arg3 harg3 arg4 harg4 arg5 harg5 arg6 harg6 arg7 harg7 arg8 harg8 arg9 harg9 arg10 harg10 arg11 harg11 else pure ⟨⟩
  if k0_cond2 v5 = 1#1 then writeAll i arg1 harg1 arg2 harg2 arg3 harg3 arg4 harg4 arg5 harg5 arg6 harg6 arg7 harg7 arg8 harg8 arg9 harg9 arg10 harg10 arg11 harg11 else pure ⟨⟩
  if k0_cond3 v1 v3 v5 = 1#1 then writeMasked i arg1 harg1 arg2 harg2 arg3 harg3 arg4 harg4 arg5 harg5 arg6 harg6 arg7 harg7 arg8 harg8 arg9 harg9 arg10 harg10 arg11 harg11 v1 v3 else pure ⟨⟩
  pure ⟨⟩

/-- The phases, one after another. -/
theorem phases_eq (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) (v1 v3 v5 : Elt F .i32) :
    phases i arg1 harg1 arg2 harg2 arg3 harg3 arg4 harg4 arg5 harg5 arg6 harg6 arg7 harg7 arg8 harg8 arg9 harg9 arg10 harg10 arg11 harg11 v1 v3 v5 =
  ((if condQ v1 v3 v5 = 1#1 then quantise i arg1 harg1 arg2 harg2 arg3 harg3 arg4 harg4 arg5 harg5 arg6 harg6 arg7 harg7 arg8 harg8 arg9 harg9 arg10 harg10 arg11 harg11 else pure ⟨⟩) >>= fun _ =>
  (if k0_cond2 v5 = 1#1 then writeAll i arg1 harg1 arg2 harg2 arg3 harg3 arg4 harg4 arg5 harg5 arg6 harg6 arg7 harg7 arg8 harg8 arg9 harg9 arg10 harg10 arg11 harg11 else pure ⟨⟩) >>= fun _ =>
  (if k0_cond3 v1 v3 v5 = 1#1 then writeMasked i arg1 harg1 arg2 harg2 arg3 harg3 arg4 harg4 arg5 harg5 arg6 harg6 arg7 harg7 arg8 harg8 arg9 harg9 arg10 harg10 arg11 harg11 v1 v3 else pure ⟨⟩) >>= fun _ => pure ⟨⟩) := by
  unfold phases
  by_cases h1 : condQ v1 v3 v5 = 1#1 <;> by_cases h2 : k0_cond2 v5 = 1#1 <;> by_cases h3 : k0_cond3 v1 v3 v5 = 1#1 <;>
    simp only [h1, h2, h3, if_true, if_false, pure_bind]

/-- The printed body is the three words' reads, then the phases. -/
theorem body_eq (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) :
    cc0_grouped_fp8_matmul (F := F) i arg1 harg1 arg2 harg2 arg3 harg3 arg4 harg4 arg5 harg5 arg6 harg6 arg7 harg7 arg8 harg8 arg9 harg9 arg10 harg10 arg11 harg11 = (do
      let v1 : Elt F .i32 ← smemLoad arg3 (Rect.unit (s := S63) (k0_off1 i) S1.size (k0_off1_inb i)) numel1_S1 rfl
      let v3 : Elt F .i32 ← smemLoad arg4 (Rect.unit (s := S63) (k0_off1 i) S1.size (k0_off1_inb i)) numel1_S1 rfl
      let v5 : Elt F .i32 ← smemLoad arg5 (Rect.unit (s := S63) (k0_off1 i) S1.size (k0_off1_inb i)) numel1_S1 rfl
      phases i arg1 harg1 arg2 harg2 arg3 harg3 arg4 harg4 arg5 harg5 arg6 harg6 arg7 harg7 arg8 harg8 arg9 harg9 arg10 harg10 arg11 harg11 v1 v3 v5) := by
  rw [cc0_grouped_fp8_matmul_eq_skeleton]; rfl

end Cert.Kernel.Hand
end
-- ==== Proof.Triples.lean ====
module

public import proofs.«01_k».proof.Proof.Phases
public import Idealize.ShloMosaic.Lib.Claim
public import Idealize.ShloMosaic.Lib.VecWindow
public import Idealize.ShloMosaic.Lib.WholeRead
public import Idealize.ShloMosaic.Lib.ValueIdx
public import Idealize.ShloMosaic.Lib.Ring

/-! # What each phase of the body leaves

`codesOf` and `scaleOf` are the two scratch buffers after the first phase, `fullOf` the output block after the second
and `maskOf` the output block after the third, each as a function of what the phase reads. -/

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

/-- The codes of one group of 64 rows. -/
def qcodes (v : Vec F S64x2048 .bf16) : FVec F S64x2048 .fp8e4m3 := k0_pay8 (k0_pay6 v)
/-- The scales of one group of 64 rows, each row's scale in 128 lanes. -/
def qscale (v : Vec F S64x2048 .bf16) : FVec F S64x128 .f32 := k0_pay9 (k0_pay7 v)

/-- Group `g` of 64 rows of the row tile. -/
def rows (x : Vec F S512x2048 .bf16) (g : Fin 8) : Vec F S64x2048 .bf16 :=
  fun y => x (ix2 ⟨64 * g.val + (y 0).val, by have := idx2_lt0 y; omega⟩ (y 1))

/-- The codes of a row tile. -/
def codesOf (x : Vec F S512x2048 .bf16) : Vec F S512x2048 .fp8e4m3 :=
  fun y => qcodes (rows x ⟨(y 0).val / 64, by have := idx2_lt0 y; omega⟩) (ix2 ⟨(y 0).val % 64, by omega⟩ (y 1))
/-- The scales of a row tile. -/
def scaleOf (x : Vec F S512x2048 .bf16) : Vec F S512x128 .f32 :=
  fun y => qscale (rows x ⟨(y 0).val / 64, by have := idx2_lt0 y; omega⟩) (ix2 ⟨(y 0).val % 64, by omega⟩ (y 1))

/-! The printed text of each group cuts the same formula at its own places; every group's stores are the first group's. -/

theorem codes_g0 (v : Vec F S64x2048 .bf16) : k0_pay8 (k0_pay6 v) = qcodes v := by
  simp only [qcodes, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem scale_g0 (v : Vec F S64x2048 .bf16) : k0_pay9 (k0_pay7 v) = qscale v := by
  simp only [qscale, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem codes_g1 (v : Vec F S64x2048 .bf16) : k0_pay12 v (k0_pay11 v) 23#32 = qcodes v := by
  simp only [qcodes, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem scale_g1 (v : Vec F S64x2048 .bf16) : k0_pay13 (k0_pay10 v) = qscale v := by
  simp only [qscale, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem codes_g2 (v : Vec F S64x2048 .bf16) : k0_pay16 v (k0_pay14 v) = qcodes v := by
  simp only [qcodes, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem scale_g2 (v : Vec F S64x2048 .bf16) : k0_pay17 (k0_pay14 v) = qscale v := by
  simp only [qscale, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem codes_g3 (v : Vec F S64x2048 .bf16) : k0_pay22 (k0_pay20 v (k0_pay18 v)) = qcodes v := by
  simp only [qcodes, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem scale_g3 (v : Vec F S64x2048 .bf16) : k0_pay23 (k0_pay21 (k0_pay18 v)) = qscale v := by
  simp only [qscale, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem codes_g4 (v : Vec F S64x2048 .bf16) : k0_pay26 (k0_pay25 v) = qcodes v := by
  simp only [qcodes, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem scale_g4 (v : Vec F S64x2048 .bf16) : k0_pay27 (k0_pay24 v) = qscale v := by
  simp only [qscale, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem codes_g5 (v : Vec F S64x2048 .bf16) : k0_pay31 v (k0_pay28 v) (k0_pay29 v) 126#32 = qcodes v := by
  simp only [qcodes, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem scale_g5 (v : Vec F S64x2048 .bf16) : k0_pay32 (k0_pay28 v) (k0_pay29 v) 126#32 = qscale v := by
  simp only [qscale, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem codes_g6 (v : Vec F S64x2048 .bf16) : k0_pay35 v (k0_pay33 v) (iota .tc S1x255 32 [1] iota_S1x255_d1_w32) = qcodes v := by
  simp only [qcodes, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem scale_g6 (v : Vec F S64x2048 .bf16) : k0_pay37 (k0_pay36 (k0_pay33 v) (iota .tc S1x255 32 [1] iota_S1x255_d1_w32)) = qscale v := by
  simp only [qscale, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem codes_g7 (v : Vec F S64x2048 .bf16) : k0_pay1 (k0_pay39 v) k0_pay40 = qcodes v := by
  simp only [qcodes, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem scale_g7 (v : Vec F S64x2048 .bf16) : k0_pay2 (k0_pay38 v) = qscale v := by
  simp only [qscale, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]

/-- A load of 64 rows of the tile is that group of rows. -/
theorem readAt_rows (arg6 : Memref sig .tc .vmem S512x2048 .bf16) (x : Vec F S512x2048 .bf16) (f : arg6.view.ty.Contents (Elt F))
    (hf : arg6.view.read (Elt F) f = x) (g : Fin 8) (n : ℕ) (hn : n = 64 * g.val) (inb : ∀ a, (![n, 0] : Fin 2 → ℕ) a + S64x2048.size a ≤ S512x2048.size a) :
    arg6.view.readAt (Elt F) (Rect.unit (s := S512x2048) ![n, 0] S64x2048.size inb).toLoadRect f = rows x g := by
  subst hn hf
  funext y
  show arg6.view.read (Elt F) f _ = arg6.view.read (Elt F) f _
  congr 1
  funext a
  match a with
  | ⟨0, _⟩ => apply Fin.ext; show 64 * g.val + 1 * (y 0).val = 64 * g.val + (y 0).val; omega
  | ⟨1, _⟩ => apply Fin.ext; show 0 + 1 * (y 1).val = (y 1).val; omega

/-- A group's stored codes are the tile's codes at the group's rows. -/
theorem codes_piece (x : Vec F S512x2048 .bf16) (g : Fin 8) (n : ℕ) (hn : n = 64 * g.val) (v : Vec F S64x2048 .bf16) (hv : v = rows x g)
    (p : FVec F S64x2048 .fp8e4m3) (hp : p = qcodes v) (inb : ∀ a, (![n, 0] : Fin 2 → ℕ) a + S64x2048.size a ≤ S512x2048.size a)
    (z : S64x2048.Idx) : p z = codesOf x ((Rect.unit (s := S512x2048) ![n, 0] S64x2048.size inb).emb z) := by
  subst hn hv hp
  have h0 : (z 0).val < 64 := (z 0).isLt
  show qcodes (rows x g) z = qcodes (rows x ⟨(64 * g.val + 1 * (z 0).val) / 64, _⟩) (ix2 ⟨(64 * g.val + 1 * (z 0).val) % 64, _⟩ ⟨0 + 1 * (z 1).val, _⟩)
  have e1 : (⟨(64 * g.val + 1 * (z 0).val) / 64, by omega⟩ : Fin 8) = g := Fin.ext (by show (64 * g.val + 1 * (z 0).val) / 64 = g.val; omega)
  rw [e1]
  congr 1
  funext a
  match a with
  | ⟨0, _⟩ => apply Fin.ext; show (z 0).val = (64 * g.val + 1 * (z 0).val) % 64; omega
  | ⟨1, _⟩ => apply Fin.ext; show (z 1).val = 0 + 1 * (z 1).val; omega

/-- A group's stored scales are the tile's scales at the group's rows. -/
theorem scale_piece (x : Vec F S512x2048 .bf16) (g : Fin 8) (n : ℕ) (hn : n = 64 * g.val) (v : Vec F S64x2048 .bf16) (hv : v = rows x g)
    (p : FVec F S64x128 .f32) (hp : p = qscale v) (inb : ∀ a, (![n, 0] : Fin 2 → ℕ) a + S64x128.size a ≤ S512x128.size a)
    (z : S64x128.Idx) : p z = scaleOf x ((Rect.unit (s := S512x128) ![n, 0] S64x128.size inb).emb z) := by
  subst hn hv hp
  have h0 : (z 0).val < 64 := (z 0).isLt
  show qscale (rows x g) z = qscale (rows x ⟨(64 * g.val + 1 * (z 0).val) / 64, _⟩) (ix2 ⟨(64 * g.val + 1 * (z 0).val) % 64, _⟩ ⟨0 + 1 * (z 1).val, _⟩)
  have e1 : (⟨(64 * g.val + 1 * (z 0).val) / 64, by omega⟩ : Fin 8) = g := Fin.ext (by show (64 * g.val + 1 * (z 0).val) / 64 = g.val; omega)
  rw [e1]
  congr 1
  funext a
  match a with
  | ⟨0, _⟩ => apply Fin.ext; show (z 0).val = (64 * g.val + 1 * (z 0).val) % 64; omega
  | ⟨1, _⟩ => apply Fin.ext; show (z 1).val = 0 + 1 * (z 1).val; omega

/-- The first phase leaves the tile's codes and scales in the two scratch buffers, whatever they held. -/
theorem quantise_wp (c : Dev nD) (E : Set ℕ) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole)
    (q6 : PosShare TreeShare) (x : Vec F S512x2048 .bf16) (cd : Vec F S512x2048 .fp8e4m3) (sc : Vec F S512x128 .f32) (K : PUnit → sProp 𝕄) :
    iprop(owns (c : Thread nD τ) arg6 q6 x ∗ owns (c : Thread nD τ) arg10 fullShare cd ∗ owns (c : Thread nD τ) arg11 fullShare sc
      ∗ (owns (c : Thread nD τ) arg6 q6 x ∗ owns (c : Thread nD τ) arg10 fullShare (codesOf x) ∗ owns (c : Thread nD τ) arg11 fullShare (scaleOf x) -∗ K ⟨⟩))
    ⊢ wp frame (wpE (defs₀ (F := F)) Variants.none c none) E (quantise i arg1 harg1 arg2 harg2 arg3 harg3 arg4 harg4 arg5 harg5 arg6 harg6 arg7 harg7 arg8 harg8 arg9 harg9 arg10 harg10 arg11 harg11) K := by
  unfold quantise
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f6, %hf6, H6⟩, ⟨%f10, %hf10, H10⟩, ⟨%f11, %hf11, H11⟩, Hk⟩
  sl_exec
  rw [wp_ret]; imodintro
  iapply Hk
  isplitl [H6]
  · iexists f6; isplitr; · ipureintro; exact hf6
    iexact H6
  isplitl [H10]
  · iexists _; isplitr [H10]; swap
    · iexact H10
    · ipureintro
      funext y
      refine View.read_writes_apply_of_pieces _ _ (codesOf x) _ ?_ y (View.cover_of_tiledL (s := S512x2048) _ ![64, 2048] (by sl_kernel_rfl) y)
      simp only [List.forall_mem_cons, List.not_mem_nil, false_imp_iff, implies_true, _root_.and_true]
      refine ⟨?_, ?_, ?_, ?_, ?_, ?_, ?_, ?_⟩
      · exact fun z => codes_piece x 7 448 rfl _ (readAt_rows arg6 x f6 hf6 7 448 rfl (by decide)) _ (codes_g7 _) _ z
      · exact fun z => codes_piece x 6 384 rfl _ (readAt_rows arg6 x f6 hf6 6 384 rfl (by decide)) _ (codes_g6 _) _ z
      · exact fun z => codes_piece x 5 320 rfl _ (readAt_rows arg6 x f6 hf6 5 320 rfl (by decide)) _ (codes_g5 _) _ z
      · exact fun z => codes_piece x 4 256 rfl _ (readAt_rows arg6 x f6 hf6 4 256 rfl (by decide)) _ (codes_g4 _) _ z
      · exact fun z => codes_piece x 3 192 rfl _ (readAt_rows arg6 x f6 hf6 3 192 rfl (by decide)) _ (codes_g3 _) _ z
      · exact fun z => codes_piece x 2 128 rfl _ (readAt_rows arg6 x f6 hf6 2 128 rfl (by decide)) _ (codes_g2 _) _ z
      · exact fun z => codes_piece x 1 64 rfl _ (readAt_rows arg6 x f6 hf6 1 64 rfl (by decide)) _ (codes_g1 _) _ z
      · exact fun z => codes_piece x 0 0 rfl _ (readAt_rows arg6 x f6 hf6 0 0 rfl (by decide)) _ (codes_g0 _) _ z
  · iexists _; isplitr [H11]; swap
    · iexact H11
    · ipureintro
      funext y
      refine View.read_writes_apply_of_pieces _ _ (scaleOf x) _ ?_ y (View.cover_of_tiledL (s := S512x128) _ ![64, 128] (by sl_kernel_rfl) y)
      simp only [List.forall_mem_cons, List.not_mem_nil, false_imp_iff, implies_true, _root_.and_true]
      refine ⟨?_, ?_, ?_, ?_, ?_, ?_, ?_, ?_⟩
      · exact fun z => scale_piece x 7 448 rfl _ (readAt_rows arg6 x f6 hf6 7 448 rfl (by decide)) _ (scale_g7 _) _ z
      · exact fun z => scale_piece x 6 384 rfl _ (readAt_rows arg6 x f6 hf6 6 384 rfl (by decide)) _ (scale_g6 _) _ z
      · exact fun z => scale_piece x 5 320 rfl _ (readAt_rows arg6 x f6 hf6 5 320 rfl (by decide)) _ (scale_g5 _) _ z
      · exact fun z => scale_piece x 4 256 rfl _ (readAt_rows arg6 x f6 hf6 4 256 rfl (by decide)) _ (scale_g4 _) _ z
      · exact fun z => scale_piece x 3 192 rfl _ (readAt_rows arg6 x f6 hf6 3 192 rfl (by decide)) _ (scale_g3 _) _ z
      · exact fun z => scale_piece x 2 128 rfl _ (readAt_rows arg6 x f6 hf6 2 128 rfl (by decide)) _ (scale_g2 _) _ z
      · exact fun z => scale_piece x 1 64 rfl _ (readAt_rows arg6 x f6 hf6 1 64 rfl (by decide)) _ (scale_g1 _) _ z
      · exact fun z => scale_piece x 0 0 rfl _ (readAt_rows arg6 x f6 hf6 0 0 rfl (by decide)) _ (scale_g0 _) _ z

end Cert.Kernel.Hand
end
-- ==== Proof.Stores.lean ====
module

public import proofs.«01_k».proof.Proof.Triples
public import Idealize.ShloMosaic.Lib.Claim
public import Idealize.ShloMosaic.Lib.VecWindow
public import Idealize.ShloMosaic.Lib.WholeRead
public import Idealize.ShloMosaic.Lib.ValueIdx
public import Idealize.ShloMosaic.Lib.Ring

/-! # What the two storing phases leave

`fullOf` is the output block after the second phase and `maskOf` the output block after the third, each as a function of
the codes, the scales, the expert's weights and their scales that the phase reads. -/

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

/-! The printed text of each chunk cuts the same formula at its own places; every chunk's store is the first chunk's. -/

theorem full_c0 (cd : Vec F S512x2048 .fp8e4m3) (w : Vec F S1x2048x512 .fp8e4m3) (sc : Vec F S512x1 .f32) (ws : Vec F S1x1x512 .f32) :
    k0_pay41 cd w sc ws = k0_pay41 cd w sc ws := by
  rfl
theorem full_c1 (cd : Vec F S512x2048 .fp8e4m3) (w : Vec F S1x2048x512 .fp8e4m3) (sc : Vec F S512x1 .f32) (ws : Vec F S1x1x512 .f32) :
    k0_pay42 cd w sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c2 (cd : Vec F S512x2048 .fp8e4m3) (w : Vec F S1x2048x512 .fp8e4m3) (sc : Vec F S512x1 .f32) (ws : Vec F S1x1x512 .f32) :
    k0_pay43 cd w sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c3 (cd : Vec F S512x2048 .fp8e4m3) (w : Vec F S1x2048x512 .fp8e4m3) (sc : Vec F S512x1 .f32) (ws : Vec F S1x1x512 .f32) :
    k0_pay44 cd w sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c4 (cd : Vec F S512x2048 .fp8e4m3) (w : Vec F S1x2048x512 .fp8e4m3) (sc : Vec F S512x1 .f32) (ws : Vec F S1x1x512 .f32) :
    k0_pay46 (k0_pay45 cd w) sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c5 (cd : Vec F S512x2048 .fp8e4m3) (w : Vec F S1x2048x512 .fp8e4m3) (sc : Vec F S512x1 .f32) (ws : Vec F S1x1x512 .f32) :
    k0_pay47 cd w sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c6 (cd : Vec F S512x2048 .fp8e4m3) (w : Vec F S1x2048x512 .fp8e4m3) (sc : Vec F S512x1 .f32) (ws : Vec F S1x1x512 .f32) :
    k0_pay49 (k0_pay48 cd w sc) ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c7 (cd : Vec F S512x2048 .fp8e4m3) (w : Vec F S1x2048x512 .fp8e4m3) (sc : Vec F S512x1 .f32) (ws : Vec F S1x1x512 .f32) :
    k0_pay50 cd w sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c8 (cd : Vec F S512x2048 .fp8e4m3) (w : Vec F S1x2048x512 .fp8e4m3) (sc : Vec F S512x1 .f32) (ws : Vec F S1x1x512 .f32) :
    k0_pay51 cd w sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c9 (cd : Vec F S512x2048 .fp8e4m3) (w : Vec F S1x2048x512 .fp8e4m3) (sc : Vec F S512x1 .f32) (ws : Vec F S1x1x512 .f32) :
    k0_pay52 cd w sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c10 (cd : Vec F S512x2048 .fp8e4m3) (w : Vec F S1x2048x512 .fp8e4m3) (sc : Vec F S512x1 .f32) (ws : Vec F S1x1x512 .f32) :
    k0_pay53 cd w sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c11 (cd : Vec F S512x2048 .fp8e4m3) (w : Vec F S1x2048x512 .fp8e4m3) (sc : Vec F S512x1 .f32) (ws : Vec F S1x1x512 .f32) :
    k0_pay54 cd w sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c12 (cd : Vec F S512x2048 .fp8e4m3) (w : Vec F S1x2048x512 .fp8e4m3) (sc : Vec F S512x1 .f32) (ws : Vec F S1x1x512 .f32) :
    k0_pay55 cd w sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c13 (cd : Vec F S512x2048 .fp8e4m3) (w : Vec F S1x2048x512 .fp8e4m3) (sc : Vec F S512x1 .f32) (ws : Vec F S1x1x512 .f32) :
    k0_pay3 cd (k0_pay56 w) (constant S512x512 .f32 0x00000000#32) sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c0 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay57 v1 v3 cd w sc ws o = k0_pay57 v1 v3 cd w sc ws o := by
  rfl
theorem mask_c1 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay60 v1 v3 (k0_pay58 cd w sc) (k0_pay59 ws) o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c2 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay61 v1 v3 cd w sc ws o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c3 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay62 v1 v3 cd w sc ws o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c4 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay65 v1 v3 (k0_pay63 cd w sc) (k0_pay64 ws) o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c5 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay66 v1 v3 cd w sc ws o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c6 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay67 v1 v3 cd w sc ws o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c7 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay70 v1 v3 (k0_pay68 cd w sc) (k0_pay69 ws) o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c8 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay71 v1 v3 cd w sc ws o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c9 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay72 v1 v3 cd w sc ws o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c10 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay75 v1 v3 (k0_pay73 cd w sc) (k0_pay74 ws) o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c11 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay76 v1 v3 cd w sc ws o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c12 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay77 v1 v3 cd w sc ws o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c13 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay4 v1 v3 (k0_pay78 cd w sc) (k0_pay79 ws) o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]

/-- Column chunk `k` of an expert's weights. -/
def wchunk (w : Vec F S1x2048x7168 .fp8e4m3) (k : Fin 14) : Vec F S1x2048x512 .fp8e4m3 :=
  fun y => w (ix3 (y 0) (y 1) ⟨512 * k.val + (y 2).val, by have h : (y 2).val < 512 := (y 2).isLt; omega⟩)
/-- Column chunk `k` of an expert's scales. -/
def wschunk (ws : Vec F S1x1x7168 .f32) (k : Fin 14) : Vec F S1x1x512 .f32 :=
  fun y => ws (ix3 (y 0) (y 1) ⟨512 * k.val + (y 2).val, by have h : (y 2).val < 512 := (y 2).isLt; omega⟩)
/-- The first lane of the row scales. -/
def scol (sc : Vec F S512x128 .f32) : Vec F S512x1 .f32 :=
  fun y => sc (ix2 (y 0) ⟨(y 1).val, by have h : (y 1).val < 1 := (y 1).isLt; omega⟩)
/-- Column chunk `k` of an output block. -/
def ochunk (o : Vec F S512x7168 .bf16) (k : Fin 14) : Vec F S512x512 .bf16 :=
  fun y => o (ix2 (y 0) ⟨512 * k.val + (y 1).val, by have h : (y 1).val < 512 := (y 1).isLt; omega⟩)

/-- The output block the second phase leaves. -/
def fullOf (cd : Vec F S512x2048 .fp8e4m3) (w : Vec F S1x2048x7168 .fp8e4m3) (sc : Vec F S512x128 .f32) (ws : Vec F S1x1x7168 .f32) : Vec F S512x7168 .bf16 :=
  fun y => k0_pay41 cd (wchunk w ⟨(y 1).val / 512, by have := idx2_lt1 y; omega⟩) (scol sc) (wschunk ws ⟨(y 1).val / 512, by have := idx2_lt1 y; omega⟩)
    (ix2 (y 0) ⟨(y 1).val % 512, by omega⟩)
/-- The output block the third phase leaves, `o` being the block before it. -/
def maskOf (v1 v3 : Elt F .i32) (cd : Vec F S512x2048 .fp8e4m3) (w : Vec F S1x2048x7168 .fp8e4m3) (sc : Vec F S512x128 .f32) (ws : Vec F S1x1x7168 .f32) (o : Vec F S512x7168 .bf16) : Vec F S512x7168 .bf16 :=
  fun y => k0_pay57 v1 v3 cd (wchunk w ⟨(y 1).val / 512, by have := idx2_lt1 y; omega⟩) (scol sc) (wschunk ws ⟨(y 1).val / 512, by have := idx2_lt1 y; omega⟩)
    (ochunk o ⟨(y 1).val / 512, by have := idx2_lt1 y; omega⟩) (ix2 (y 0) ⟨(y 1).val % 512, by omega⟩)

theorem readAt_wchunk (m : Memref sig .tc .vmem S1x2048x7168 .fp8e4m3) (w : Vec F S1x2048x7168 .fp8e4m3) (f : m.view.ty.Contents (Elt F))
    (hf : m.view.read (Elt F) f = w) (k : Fin 14) (n : ℕ) (hn : n = 512 * k.val) (inb : ∀ a, (![0, 0, n] : Fin 3 → ℕ) a + S1x2048x512.size a ≤ S1x2048x7168.size a) :
    m.view.readAt (Elt F) (Rect.unit (s := S1x2048x7168) ![0, 0, n] S1x2048x512.size inb).toLoadRect f = wchunk w k := by
  subst hn hf
  funext y
  show m.view.read (Elt F) f _ = m.view.read (Elt F) f _
  congr 1
  funext a
  match a with
  | ⟨0, _⟩ => apply Fin.ext; show 0 + 1 * (y 0).val = (y 0).val; omega
  | ⟨1, _⟩ => apply Fin.ext; show 0 + 1 * (y 1).val = (y 1).val; omega
  | ⟨2, _⟩ => apply Fin.ext; show 512 * k.val + 1 * (y 2).val = 512 * k.val + (y 2).val; omega

theorem readAt_wschunk (m : Memref sig .tc .vmem S1x1x7168 .f32) (w : Vec F S1x1x7168 .f32) (f : m.view.ty.Contents (Elt F))
    (hf : m.view.read (Elt F) f = w) (k : Fin 14) (n : ℕ) (hn : n = 512 * k.val) (inb : ∀ a, (![0, 0, n] : Fin 3 → ℕ) a + S1x1x512.size a ≤ S1x1x7168.size a) :
    m.view.readAt (Elt F) (Rect.unit (s := S1x1x7168) ![0, 0, n] S1x1x512.size inb).toLoadRect f = wschunk w k := by
  subst hn hf
  funext y
  show m.view.read (Elt F) f _ = m.view.read (Elt F) f _
  congr 1
  funext a
  match a with
  | ⟨0, _⟩ => apply Fin.ext; show 0 + 1 * (y 0).val = (y 0).val; omega
  | ⟨1, _⟩ => apply Fin.ext; show 0 + 1 * (y 1).val = (y 1).val; omega
  | ⟨2, _⟩ => apply Fin.ext; show 512 * k.val + 1 * (y 2).val = 512 * k.val + (y 2).val; omega

theorem readAt_scol (m : Memref sig .tc .vmem S512x128 .f32) (w : Vec F S512x128 .f32) (f : m.view.ty.Contents (Elt F))
    (hf : m.view.read (Elt F) f = w) (inb : ∀ a, (![0, 0] : Fin 2 → ℕ) a + S512x1.size a ≤ S512x128.size a) :
    m.view.readAt (Elt F) (Rect.unit (s := S512x128) ![0, 0] S512x1.size inb).toLoadRect f = scol w := by
  subst hf
  funext y
  show m.view.read (Elt F) f _ = m.view.read (Elt F) f _
  congr 1
  funext a
  match a with
  | ⟨0, _⟩ => apply Fin.ext; show 0 + 1 * (y 0).val = (y 0).val; omega
  | ⟨1, _⟩ => apply Fin.ext; show 0 + 1 * (y 1).val = (y 1).val; omega

theorem readAt_codes (m : Memref sig .tc .vmem S512x2048 .fp8e4m3) (w : Vec F S512x2048 .fp8e4m3) (f : m.view.ty.Contents (Elt F))
    (hf : m.view.read (Elt F) f = w) (inb : ∀ a, (![0, 0] : Fin 2 → ℕ) a + S512x2048.size a ≤ S512x2048.size a) :
    m.view.readAt (Elt F) (Rect.unit (s := S512x2048) ![0, 0] S512x2048.size inb).toLoadRect f = w := by
  subst hf
  funext y
  show m.view.read (Elt F) f _ = m.view.read (Elt F) f _
  congr 1
  funext a
  match a with
  | ⟨0, _⟩ => apply Fin.ext; show 0 + 1 * (y 0).val = (y 0).val; omega
  | ⟨1, _⟩ => apply Fin.ext; show 0 + 1 * (y 1).val = (y 1).val; omega

theorem readAt_ochunk (m : Memref sig .tc .vmem S512x7168 .bf16) (o : Vec F S512x7168 .bf16) (f : m.view.ty.Contents (Elt F))
    (hf : m.view.read (Elt F) f = o) (k : Fin 14) (n : ℕ) (hn : n = 512 * k.val) (inb : ∀ a, (![0, n] : Fin 2 → ℕ) a + S512x512.size a ≤ S512x7168.size a) :
    m.view.readAt (Elt F) (Rect.unit (s := S512x7168) ![0, n] S512x512.size inb).toLoadRect f = ochunk o k := by
  subst hn hf
  funext y
  show m.view.read (Elt F) f _ = m.view.read (Elt F) f _
  congr 1
  funext a
  match a with
  | ⟨0, _⟩ => apply Fin.ext; show 0 + 1 * (y 0).val = (y 0).val; omega
  | ⟨1, _⟩ => apply Fin.ext; show 512 * k.val + 1 * (y 1).val = 512 * k.val + (y 1).val; omega

/-- A stored chunk of the second phase is the block's columns there. -/
theorem full_piece (cd : Vec F S512x2048 .fp8e4m3) (w : Vec F S1x2048x7168 .fp8e4m3) (sc : Vec F S512x128 .f32) (ws : Vec F S1x1x7168 .f32) (k : Fin 14) (n : ℕ) (hn : n = 512 * k.val)
    (cd' : Vec F S512x2048 .fp8e4m3) (hcd : cd' = cd) (w' : Vec F S1x2048x512 .fp8e4m3) (hw : w' = wchunk w k) (sc' : Vec F S512x1 .f32) (hsc : sc' = scol sc)
    (ws' : Vec F S1x1x512 .f32) (hws : ws' = wschunk ws k) (p : FVec F S512x512 .bf16) (hp : p = k0_pay41 cd' w' sc' ws')
    (inb : ∀ a, (![0, n] : Fin 2 → ℕ) a + S512x512.size a ≤ S512x7168.size a) (z : S512x512.Idx) :
    p z = fullOf cd w sc ws ((Rect.unit (s := S512x7168) ![0, n] S512x512.size inb).emb z) := by
  subst hn hcd hw hsc hws hp
  have h0 : (z 1).val < 512 := (z 1).isLt
  have e1 : (⟨(512 * k.val + 1 * (z 1).val) / 512, by omega⟩ : Fin 14) = k := Fin.ext (by show (512 * k.val + 1 * (z 1).val) / 512 = k.val; omega)
  show k0_pay41 cd' (wchunk w k) (scol sc) (wschunk ws k) z = k0_pay41 cd' (wchunk w ⟨(512 * k.val + 1 * (z 1).val) / 512, _⟩) (scol sc)
    (wschunk ws ⟨(512 * k.val + 1 * (z 1).val) / 512, _⟩) (ix2 ⟨0 + 1 * (z 0).val, _⟩ ⟨(512 * k.val + 1 * (z 1).val) % 512, _⟩)
  rw [e1]
  congr 1
  funext a
  match a with
  | ⟨0, _⟩ => apply Fin.ext; show (z 0).val = 0 + 1 * (z 0).val; omega
  | ⟨1, _⟩ => apply Fin.ext; show (z 1).val = (512 * k.val + 1 * (z 1).val) % 512; omega

/-- A stored chunk of the third phase is the block's columns there. -/
theorem mask_piece (v1 v3 : Elt F .i32) (cd : Vec F S512x2048 .fp8e4m3) (w : Vec F S1x2048x7168 .fp8e4m3) (sc : Vec F S512x128 .f32) (ws : Vec F S1x1x7168 .f32) (o : Vec F S512x7168 .bf16) (k : Fin 14) (n : ℕ) (hn : n = 512 * k.val)
    (cd' : Vec F S512x2048 .fp8e4m3) (hcd : cd' = cd) (w' : Vec F S1x2048x512 .fp8e4m3) (hw : w' = wchunk w k) (sc' : Vec F S512x1 .f32) (hsc : sc' = scol sc)
    (ws' : Vec F S1x1x512 .f32) (hws : ws' = wschunk ws k) (o' : Vec F S512x512 .bf16) (ho : o' = ochunk o k)
    (p : FVec F S512x512 .bf16) (hp : p = k0_pay57 v1 v3 cd' w' sc' ws' o')
    (inb : ∀ a, (![0, n] : Fin 2 → ℕ) a + S512x512.size a ≤ S512x7168.size a) (z : S512x512.Idx) :
    p z = maskOf v1 v3 cd w sc ws o ((Rect.unit (s := S512x7168) ![0, n] S512x512.size inb).emb z) := by
  subst hn hcd hw hsc hws ho hp
  have h0 : (z 1).val < 512 := (z 1).isLt
  have e1 : (⟨(512 * k.val + 1 * (z 1).val) / 512, by omega⟩ : Fin 14) = k := Fin.ext (by show (512 * k.val + 1 * (z 1).val) / 512 = k.val; omega)
  show k0_pay57 v1 v3 cd' (wchunk w k) (scol sc) (wschunk ws k) (ochunk o k) z
    = k0_pay57 v1 v3 cd' (wchunk w ⟨(512 * k.val + 1 * (z 1).val) / 512, _⟩) (scol sc) (wschunk ws ⟨(512 * k.val + 1 * (z 1).val) / 512, _⟩)
      (ochunk o ⟨(512 * k.val + 1 * (z 1).val) / 512, _⟩) (ix2 ⟨0 + 1 * (z 0).val, _⟩ ⟨(512 * k.val + 1 * (z 1).val) % 512, _⟩)
  rw [e1]
  congr 1
  funext a
  match a with
  | ⟨0, _⟩ => apply Fin.ext; show (z 0).val = 0 + 1 * (z 0).val; omega
  | ⟨1, _⟩ => apply Fin.ext; show (z 1).val = (512 * k.val + 1 * (z 1).val) % 512; omega

/-- The second phase leaves the whole block at `fullOf`, whatever it held. -/
theorem writeAll_wp (c : Dev nD) (E : Set ℕ) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole)
    (q7 q8 : PosShare TreeShare) (w : Vec F S1x2048x7168 .fp8e4m3) (ws : Vec F S1x1x7168 .f32) (o : Vec F S512x7168 .bf16)
    (cd : Vec F S512x2048 .fp8e4m3) (sc : Vec F S512x128 .f32) (K : PUnit → sProp 𝕄) :
    iprop(owns (c : Thread nD τ) arg7 q7 w ∗ owns (c : Thread nD τ) arg8 q8 ws ∗ owns (c : Thread nD τ) arg9 fullShare o
      ∗ owns (c : Thread nD τ) arg10 fullShare cd ∗ owns (c : Thread nD τ) arg11 fullShare sc
      ∗ (owns (c : Thread nD τ) arg7 q7 w ∗ owns (c : Thread nD τ) arg8 q8 ws ∗ owns (c : Thread nD τ) arg9 fullShare (fullOf cd w sc ws)
      ∗ owns (c : Thread nD τ) arg10 fullShare cd ∗ owns (c : Thread nD τ) arg11 fullShare sc -∗ K ⟨⟩))
    ⊢ wp frame (wpE (defs₀ (F := F)) Variants.none c none) E (writeAll i arg1 harg1 arg2 harg2 arg3 harg3 arg4 harg4 arg5 harg5 arg6 harg6 arg7 harg7 arg8 harg8 arg9 harg9 arg10 harg10 arg11 harg11) K := by
  unfold writeAll
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold owns
  iintro ⟨⟨%f7, %hf7, H7⟩, ⟨%f8, %hf8, H8⟩, ⟨%f9, %hf9, H9⟩, ⟨%f10, %hf10, H10⟩, ⟨%f11, %hf11, H11⟩, Hk⟩
  sl_exec
  rw [wp_ret]; imodintro
  iapply Hk
  isplitl [H7]
  · iexists f7; isplitr; · ipureintro; exact hf7
    iexact H7
  isplitl [H8]
  · iexists f8; isplitr; · ipureintro; exact hf8
    iexact H8
  isplitl [H9]
  · iexists _; isplitr [H9]; swap
    · iexact H9
    · ipureintro
      funext y
      refine View.read_writes_apply_of_pieces _ _ (fullOf cd w sc ws) _ ?_ y (View.cover_of_tiledL (s := S512x7168) _ ![512, 512] (by sl_kernel_rfl) y)
      simp only [List.forall_mem_cons, List.not_mem_nil, false_imp_iff, implies_true, _root_.and_true]
      refine ⟨?_, ?_, ?_, ?_, ?_, ?_, ?_, ?_, ?_, ?_, ?_, ?_, ?_, ?_⟩
      · exact fun z => full_piece cd w sc ws 13 6656 rfl _ (readAt_codes arg10 cd f10 hf10 (by decide)) _ (readAt_wchunk arg7 w f7 hf7 13 6656 rfl (by decide)) _ (readAt_scol arg11 sc f11 hf11 (by decide)) _ (readAt_wschunk arg8 ws f8 hf8 13 6656 rfl (by decide)) _ (full_c13 _ _ _ _) _ z
      · exact fun z => full_piece cd w sc ws 12 6144 rfl _ (readAt_codes arg10 cd f10 hf10 (by decide)) _ (readAt_wchunk arg7 w f7 hf7 12 6144 rfl (by decide)) _ (readAt_scol arg11 sc f11 hf11 (by decide)) _ (readAt_wschunk arg8 ws f8 hf8 12 6144 rfl (by decide)) _ (full_c12 _ _ _ _) _ z
      · exact fun z => full_piece cd w sc ws 11 5632 rfl _ (readAt_codes arg10 cd f10 hf10 (by decide)) _ (readAt_wchunk arg7 w f7 hf7 11 5632 rfl (by decide)) _ (readAt_scol arg11 sc f11 hf11 (by decide)) _ (readAt_wschunk arg8 ws f8 hf8 11 5632 rfl (by decide)) _ (full_c11 _ _ _ _) _ z
      · exact fun z => full_piece cd w sc ws 10 5120 rfl _ (readAt_codes arg10 cd f10 hf10 (by decide)) _ (readAt_wchunk arg7 w f7 hf7 10 5120 rfl (by decide)) _ (readAt_scol arg11 sc f11 hf11 (by decide)) _ (readAt_wschunk arg8 ws f8 hf8 10 5120 rfl (by decide)) _ (full_c10 _ _ _ _) _ z
      · exact fun z => full_piece cd w sc ws 9 4608 rfl _ (readAt_codes arg10 cd f10 hf10 (by decide)) _ (readAt_wchunk arg7 w f7 hf7 9 4608 rfl (by decide)) _ (readAt_scol arg11 sc f11 hf11 (by decide)) _ (readAt_wschunk arg8 ws f8 hf8 9 4608 rfl (by decide)) _ (full_c9 _ _ _ _) _ z
      · exact fun z => full_piece cd w sc ws 8 4096 rfl _ (readAt_codes arg10 cd f10 hf10 (by decide)) _ (readAt_wchunk arg7 w f7 hf7 8 4096 rfl (by decide)) _ (readAt_scol arg11 sc f11 hf11 (by decide)) _ (readAt_wschunk arg8 ws f8 hf8 8 4096 rfl (by decide)) _ (full_c8 _ _ _ _) _ z
      · exact fun z => full_piece cd w sc ws 7 3584 rfl _ (readAt_codes arg10 cd f10 hf10 (by decide)) _ (readAt_wchunk arg7 w f7 hf7 7 3584 rfl (by decide)) _ (readAt_scol arg11 sc f11 hf11 (by decide)) _ (readAt_wschunk arg8 ws f8 hf8 7 3584 rfl (by decide)) _ (full_c7 _ _ _ _) _ z
      · exact fun z => full_piece cd w sc ws 6 3072 rfl _ (readAt_codes arg10 cd f10 hf10 (by decide)) _ (readAt_wchunk arg7 w f7 hf7 6 3072 rfl (by decide)) _ (readAt_scol arg11 sc f11 hf11 (by decide)) _ (readAt_wschunk arg8 ws f8 hf8 6 3072 rfl (by decide)) _ (full_c6 _ _ _ _) _ z
      · exact fun z => full_piece cd w sc ws 5 2560 rfl _ (readAt_codes arg10 cd f10 hf10 (by decide)) _ (readAt_wchunk arg7 w f7 hf7 5 2560 rfl (by decide)) _ (readAt_scol arg11 sc f11 hf11 (by decide)) _ (readAt_wschunk arg8 ws f8 hf8 5 2560 rfl (by decide)) _ (full_c5 _ _ _ _) _ z
      · exact fun z => full_piece cd w sc ws 4 2048 rfl _ (readAt_codes arg10 cd f10 hf10 (by decide)) _ (readAt_wchunk arg7 w f7 hf7 4 2048 rfl (by decide)) _ (readAt_scol arg11 sc f11 hf11 (by decide)) _ (readAt_wschunk arg8 ws f8 hf8 4 2048 rfl (by decide)) _ (full_c4 _ _ _ _) _ z
      · exact fun z => full_piece cd w sc ws 3 1536 rfl _ (readAt_codes arg10 cd f10 hf10 (by decide)) _ (readAt_wchunk arg7 w f7 hf7 3 1536 rfl (by decide)) _ (readAt_scol arg11 sc f11 hf11 (by decide)) _ (readAt_wschunk arg8 ws f8 hf8 3 1536 rfl (by decide)) _ (full_c3 _ _ _ _) _ z
      · exact fun z => full_piece cd w sc ws 2 1024 rfl _ (readAt_codes arg10 cd f10 hf10 (by decide)) _ (readAt_wchunk arg7 w f7 hf7 2 1024 rfl (by decide)) _ (readAt_scol arg11 sc f11 hf11 (by decide)) _ (readAt_wschunk arg8 ws f8 hf8 2 1024 rfl (by decide)) _ (full_c2 _ _ _ _) _ z
      · exact fun z => full_piece cd w sc ws 1 512 rfl _ (readAt_codes arg10 cd f10 hf10 (by decide)) _ (readAt_wchunk arg7 w f7 hf7 1 512 rfl (by decide)) _ (readAt_scol arg11 sc f11 hf11 (by decide)) _ (readAt_wschunk arg8 ws f8 hf8 1 512 rfl (by decide)) _ (full_c1 _ _ _ _) _ z
      · exact fun z => full_piece cd w sc ws 0 0 rfl _ (readAt_codes arg10 cd f10 hf10 (by decide)) _ (readAt_wchunk arg7 w f7 hf7 0 0 rfl (by decide)) _ (readAt_scol arg11 sc f11 hf11 (by decide)) _ (readAt_wschunk arg8 ws f8 hf8 0 0 rfl (by decide)) _ (full_c0 _ _ _ _) _ z
  isplitl [H10]
  · iexists f10; isplitr; · ipureintro; exact hf10
    iexact H10
  · iexists f11; isplitr; · ipureintro; exact hf11
    iexact H11

/-- The third phase turns the block `o` into `maskOf … o`. -/
theorem writeMasked_wp (c : Dev nD) (E : Set ℕ) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) (v1 v3 : Elt F .i32)
    (q7 q8 : PosShare TreeShare) (w : Vec F S1x2048x7168 .fp8e4m3) (ws : Vec F S1x1x7168 .f32) (o : Vec F S512x7168 .bf16)
    (cd : Vec F S512x2048 .fp8e4m3) (sc : Vec F S512x128 .f32) (K : PUnit → sProp 𝕄) :
    iprop(owns (c : Thread nD τ) arg7 q7 w ∗ owns (c : Thread nD τ) arg8 q8 ws ∗ owns (c : Thread nD τ) arg9 fullShare o
      ∗ owns (c : Thread nD τ) arg10 fullShare cd ∗ owns (c : Thread nD τ) arg11 fullShare sc
      ∗ (owns (c : Thread nD τ) arg7 q7 w ∗ owns (c : Thread nD τ) arg8 q8 ws ∗ owns (c : Thread nD τ) arg9 fullShare (maskOf v1 v3 cd w sc ws o)
      ∗ owns (c : Thread nD τ) arg10 fullShare cd ∗ owns (c : Thread nD τ) arg11 fullShare sc -∗ K ⟨⟩))
    ⊢ wp frame (wpE (defs₀ (F := F)) Variants.none c none) E (writeMasked i arg1 harg1 arg2 harg2 arg3 harg3 arg4 harg4 arg5 harg5 arg6 harg6 arg7 harg7 arg8 harg8 arg9 harg9 arg10 harg10 arg11 harg11 v1 v3) K := by
  unfold writeMasked
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold owns
  iintro ⟨⟨%f7, %hf7, H7⟩, ⟨%f8, %hf8, H8⟩, ⟨%f9, %hf9, H9⟩, ⟨%f10, %hf10, H10⟩, ⟨%f11, %hf11, H11⟩, Hk⟩
  sl_exec
  rw [wp_ret]; imodintro
  iapply Hk
  isplitl [H7]
  · iexists f7; isplitr; · ipureintro; exact hf7
    iexact H7
  isplitl [H8]
  · iexists f8; isplitr; · ipureintro; exact hf8
    iexact H8
  isplitl [H9]
  · iexists _; isplitr [H9]; swap
    · iexact H9
    · ipureintro
      funext y
      refine View.read_writes_apply_of_pieces _ _ (maskOf v1 v3 cd w sc ws o) _ ?_ y (View.cover_of_tiledL (s := S512x7168) _ ![512, 512] (by sl_kernel_rfl) y)
      simp only [List.forall_mem_cons, List.not_mem_nil, false_imp_iff, implies_true, _root_.and_true]
      refine ⟨?_, ?_, ?_, ?_, ?_, ?_, ?_, ?_, ?_, ?_, ?_, ?_, ?_, ?_⟩
      · exact fun z => mask_piece v1 v3 cd w sc ws o 13 6656 rfl _ (readAt_codes arg10 cd f10 hf10 (by decide)) _ (readAt_wchunk arg7 w f7 hf7 13 6656 rfl (by decide)) _ (readAt_scol arg11 sc f11 hf11 (by decide)) _ (readAt_wschunk arg8 ws f8 hf8 13 6656 rfl (by decide)) _ (readAt_ochunk arg9 o f9 hf9 13 6656 rfl (by decide)) _ (mask_c13 _ _ _ _ _ _ _) _ z
      · exact fun z => mask_piece v1 v3 cd w sc ws o 12 6144 rfl _ (readAt_codes arg10 cd f10 hf10 (by decide)) _ (readAt_wchunk arg7 w f7 hf7 12 6144 rfl (by decide)) _ (readAt_scol arg11 sc f11 hf11 (by decide)) _ (readAt_wschunk arg8 ws f8 hf8 12 6144 rfl (by decide)) _ (readAt_ochunk arg9 o f9 hf9 12 6144 rfl (by decide)) _ (mask_c12 _ _ _ _ _ _ _) _ z
      · exact fun z => mask_piece v1 v3 cd w sc ws o 11 5632 rfl _ (readAt_codes arg10 cd f10 hf10 (by decide)) _ (readAt_wchunk arg7 w f7 hf7 11 5632 rfl (by decide)) _ (readAt_scol arg11 sc f11 hf11 (by decide)) _ (readAt_wschunk arg8 ws f8 hf8 11 5632 rfl (by decide)) _ (readAt_ochunk arg9 o f9 hf9 11 5632 rfl (by decide)) _ (mask_c11 _ _ _ _ _ _ _) _ z
      · exact fun z => mask_piece v1 v3 cd w sc ws o 10 5120 rfl _ (readAt_codes arg10 cd f10 hf10 (by decide)) _ (readAt_wchunk arg7 w f7 hf7 10 5120 rfl (by decide)) _ (readAt_scol arg11 sc f11 hf11 (by decide)) _ (readAt_wschunk arg8 ws f8 hf8 10 5120 rfl (by decide)) _ (readAt_ochunk arg9 o f9 hf9 10 5120 rfl (by decide)) _ (mask_c10 _ _ _ _ _ _ _) _ z
      · exact fun z => mask_piece v1 v3 cd w sc ws o 9 4608 rfl _ (readAt_codes arg10 cd f10 hf10 (by decide)) _ (readAt_wchunk arg7 w f7 hf7 9 4608 rfl (by decide)) _ (readAt_scol arg11 sc f11 hf11 (by decide)) _ (readAt_wschunk arg8 ws f8 hf8 9 4608 rfl (by decide)) _ (readAt_ochunk arg9 o f9 hf9 9 4608 rfl (by decide)) _ (mask_c9 _ _ _ _ _ _ _) _ z
      · exact fun z => mask_piece v1 v3 cd w sc ws o 8 4096 rfl _ (readAt_codes arg10 cd f10 hf10 (by decide)) _ (readAt_wchunk arg7 w f7 hf7 8 4096 rfl (by decide)) _ (readAt_scol arg11 sc f11 hf11 (by decide)) _ (readAt_wschunk arg8 ws f8 hf8 8 4096 rfl (by decide)) _ (readAt_ochunk arg9 o f9 hf9 8 4096 rfl (by decide)) _ (mask_c8 _ _ _ _ _ _ _) _ z
      · exact fun z => mask_piece v1 v3 cd w sc ws o 7 3584 rfl _ (readAt_codes arg10 cd f10 hf10 (by decide)) _ (readAt_wchunk arg7 w f7 hf7 7 3584 rfl (by decide)) _ (readAt_scol arg11 sc f11 hf11 (by decide)) _ (readAt_wschunk arg8 ws f8 hf8 7 3584 rfl (by decide)) _ (readAt_ochunk arg9 o f9 hf9 7 3584 rfl (by decide)) _ (mask_c7 _ _ _ _ _ _ _) _ z
      · exact fun z => mask_piece v1 v3 cd w sc ws o 6 3072 rfl _ (readAt_codes arg10 cd f10 hf10 (by decide)) _ (readAt_wchunk arg7 w f7 hf7 6 3072 rfl (by decide)) _ (readAt_scol arg11 sc f11 hf11 (by decide)) _ (readAt_wschunk arg8 ws f8 hf8 6 3072 rfl (by decide)) _ (readAt_ochunk arg9 o f9 hf9 6 3072 rfl (by decide)) _ (mask_c6 _ _ _ _ _ _ _) _ z
      · exact fun z => mask_piece v1 v3 cd w sc ws o 5 2560 rfl _ (readAt_codes arg10 cd f10 hf10 (by decide)) _ (readAt_wchunk arg7 w f7 hf7 5 2560 rfl (by decide)) _ (readAt_scol arg11 sc f11 hf11 (by decide)) _ (readAt_wschunk arg8 ws f8 hf8 5 2560 rfl (by decide)) _ (readAt_ochunk arg9 o f9 hf9 5 2560 rfl (by decide)) _ (mask_c5 _ _ _ _ _ _ _) _ z
      · exact fun z => mask_piece v1 v3 cd w sc ws o 4 2048 rfl _ (readAt_codes arg10 cd f10 hf10 (by decide)) _ (readAt_wchunk arg7 w f7 hf7 4 2048 rfl (by decide)) _ (readAt_scol arg11 sc f11 hf11 (by decide)) _ (readAt_wschunk arg8 ws f8 hf8 4 2048 rfl (by decide)) _ (readAt_ochunk arg9 o f9 hf9 4 2048 rfl (by decide)) _ (mask_c4 _ _ _ _ _ _ _) _ z
      · exact fun z => mask_piece v1 v3 cd w sc ws o 3 1536 rfl _ (readAt_codes arg10 cd f10 hf10 (by decide)) _ (readAt_wchunk arg7 w f7 hf7 3 1536 rfl (by decide)) _ (readAt_scol arg11 sc f11 hf11 (by decide)) _ (readAt_wschunk arg8 ws f8 hf8 3 1536 rfl (by decide)) _ (readAt_ochunk arg9 o f9 hf9 3 1536 rfl (by decide)) _ (mask_c3 _ _ _ _ _ _ _) _ z
      · exact fun z => mask_piece v1 v3 cd w sc ws o 2 1024 rfl _ (readAt_codes arg10 cd f10 hf10 (by decide)) _ (readAt_wchunk arg7 w f7 hf7 2 1024 rfl (by decide)) _ (readAt_scol arg11 sc f11 hf11 (by decide)) _ (readAt_wschunk arg8 ws f8 hf8 2 1024 rfl (by decide)) _ (readAt_ochunk arg9 o f9 hf9 2 1024 rfl (by decide)) _ (mask_c2 _ _ _ _ _ _ _) _ z
      · exact fun z => mask_piece v1 v3 cd w sc ws o 1 512 rfl _ (readAt_codes arg10 cd f10 hf10 (by decide)) _ (readAt_wchunk arg7 w f7 hf7 1 512 rfl (by decide)) _ (readAt_scol arg11 sc f11 hf11 (by decide)) _ (readAt_wschunk arg8 ws f8 hf8 1 512 rfl (by decide)) _ (readAt_ochunk arg9 o f9 hf9 1 512 rfl (by decide)) _ (mask_c1 _ _ _ _ _ _ _) _ z
      · exact fun z => mask_piece v1 v3 cd w sc ws o 0 0 rfl _ (readAt_codes arg10 cd f10 hf10 (by decide)) _ (readAt_wchunk arg7 w f7 hf7 0 0 rfl (by decide)) _ (readAt_scol arg11 sc f11 hf11 (by decide)) _ (readAt_wschunk arg8 ws f8 hf8 0 0 rfl (by decide)) _ (readAt_ochunk arg9 o f9 hf9 0 0 rfl (by decide)) _ (mask_c0 _ _ _ _ _ _ _) _ z
  isplitl [H10]
  · iexists f10; isplitr; · ipureintro; exact hf10
    iexact H10
  · iexists f11; isplitr; · ipureintro; exact hf11
    iexact H11

end Cert.Kernel.Hand
end
-- ==== Proof.Body.lean ====
module

public import proofs.«01_k».proof.Proof.Stores
public import Idealize.ShloMosaic.Lib.Claim
public import Idealize.ShloMosaic.Lib.VecWindow
public import Idealize.ShloMosaic.Lib.WholeRead
public import Idealize.ShloMosaic.Lib.ValueIdx

/-! # What one grid point's body does

The phases of Triples.lean and Stores.lean put together with the three words read from the tables. -/

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

/-- The word of a table at the grid point `i`. -/
def wd (t : Vec F S63 .i32) (i : grid0.Coords) : Elt F .i32 :=
  t (fun a => ⟨k0_off1 i a, by have h := k0_off1_inb i a; match a with | ⟨0, _⟩ => exact h⟩)

/-- The three reads of the tables. -/
theorem words_wp (c : Dev nD) (E : Set ℕ) (i : grid0.Coords) (arg3 arg4 arg5 : Memref sig .tc .smem S63 .i32)
    (q : PosShare TreeShare) (t3 t4 t5 : Vec F S63 .i32) (k : Elt F .i32 → Elt F .i32 → Elt F .i32 → Prog (TpuEff nD τ sig (Elt F) Λ₀ .tc) PUnit) (K : PUnit → sProp 𝕄) :
    iprop(owns (c : Thread nD τ) arg3 q t3 ∗ owns (c : Thread nD τ) arg4 q t4 ∗ owns (c : Thread nD τ) arg5 q t5
      ∗ (owns (c : Thread nD τ) arg3 q t3 ∗ owns (c : Thread nD τ) arg4 q t4 ∗ owns (c : Thread nD τ) arg5 q t5
        -∗ wp frame (wpE (defs₀ (F := F)) Variants.none c none) E (k (wd t3 i) (wd t4 i) (wd t5 i)) K))
    ⊢ wp frame (wpE (defs₀ (F := F)) Variants.none c none) E (do
      let v1 : Elt F .i32 ← smemLoad arg3 (Rect.unit (s := S63) (k0_off1 i) S1.size (k0_off1_inb i)) numel1_S1 rfl
      let v3 : Elt F .i32 ← smemLoad arg4 (Rect.unit (s := S63) (k0_off1 i) S1.size (k0_off1_inb i)) numel1_S1 rfl
      let v5 : Elt F .i32 ← smemLoad arg5 (Rect.unit (s := S63) (k0_off1 i) S1.size (k0_off1_inb i)) numel1_S1 rfl
      k v1 v3 v5) K := by
  unfold owns
  iintro ⟨⟨%f3, %hf3, H3⟩, ⟨%f4, %hf4, H4⟩, ⟨%f5, %hf5, H5⟩, Hk⟩
  sl_exec
  have e3 : words_wp.sl.r c i arg3 f3 = wd t3 i := by
    subst hf3
    show arg3.view.read (Elt F) f3 _ = arg3.view.read (Elt F) f3 _
    congr 1
  have e4 : words_wp.sl.r_1 c i arg4 f4 = wd t4 i := by
    subst hf4
    show arg4.view.read (Elt F) f4 _ = arg4.view.read (Elt F) f4 _
    congr 1
  have e5 : words_wp.sl.r_2 c i arg5 f5 = wd t5 i := by
    subst hf5
    show arg5.view.read (Elt F) f5 _ = arg5.view.read (Elt F) f5 _
    congr 1
  rw [e3, e4, e5]
  iapply Hk
  isplitl [H3]
  · iexists f3; isplitr; · ipureintro; exact hf3
    iexact H3
  isplitl [H4]
  · iexists f4; isplitr; · ipureintro; exact hf4
    iexact H4
  · iexists f5; isplitr; · ipureintro; exact hf5
    iexact H5

/-- The codes after the first phase, `cd` being those before. -/
def cdAfter (v1 v3 v5 : Elt F .i32) (x : Vec F S512x2048 .bf16) (cd : Vec F S512x2048 .fp8e4m3) : Vec F S512x2048 .fp8e4m3 :=
  if condQ v1 v3 v5 = 1#1 then codesOf x else cd
/-- The scales after the first phase, `sc` being those before. -/
def scAfter (v1 v3 v5 : Elt F .i32) (x : Vec F S512x2048 .bf16) (sc : Vec F S512x128 .f32) : Vec F S512x128 .f32 :=
  if condQ v1 v3 v5 = 1#1 then scaleOf x else sc
/-- The output block after the last two phases, `o` being the block before and `cd`, `sc` the scratch buffers then. -/
def outAfter (v1 v3 v5 : Elt F .i32) (cd : Vec F S512x2048 .fp8e4m3) (w : Vec F S1x2048x7168 .fp8e4m3) (sc : Vec F S512x128 .f32)
    (ws : Vec F S1x1x7168 .f32) (o : Vec F S512x7168 .bf16) : Vec F S512x7168 .bf16 :=
  if k0_cond3 v1 v3 v5 = 1#1 then maskOf v1 v3 cd w sc ws (if k0_cond2 v5 = 1#1 then fullOf cd w sc ws else o)
  else if k0_cond2 v5 = 1#1 then fullOf cd w sc ws else o

/-- A program that only returns. -/
theorem pure_wp (c : Dev nD) (E : Set ℕ) (K : PUnit → sProp 𝕄) :
    wp frame (wpE (defs₀ (F := F)) Variants.none c none) E (pure ⟨⟩ : Prog (TpuEff nD τ sig (Elt F) Λ₀ .tc) PUnit) K = iprop(|={E}[frame]=> K ⟨⟩) := rfl

theorem quantise_if (c : Dev nD) (E : Set ℕ) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) (v1 v3 v5 : Elt F .i32) (q6 : PosShare TreeShare)
    (x : Vec F S512x2048 .bf16) (cd : Vec F S512x2048 .fp8e4m3) (sc : Vec F S512x128 .f32) (K : PUnit → sProp 𝕄) :
    iprop(owns (c : Thread nD τ) arg6 q6 x ∗ owns (c : Thread nD τ) arg10 fullShare cd ∗ owns (c : Thread nD τ) arg11 fullShare sc
      ∗ (owns (c : Thread nD τ) arg6 q6 x ∗ owns (c : Thread nD τ) arg10 fullShare (cdAfter v1 v3 v5 x cd) ∗ owns (c : Thread nD τ) arg11 fullShare (scAfter v1 v3 v5 x sc) -∗ K ⟨⟩))
    ⊢ wp frame (wpE (defs₀ (F := F)) Variants.none c none) E (if condQ v1 v3 v5 = 1#1 then quantise i arg1 harg1 arg2 harg2 arg3 harg3 arg4 harg4 arg5 harg5 arg6 harg6 arg7 harg7 arg8 harg8 arg9 harg9 arg10 harg10 arg11 harg11 else pure ⟨⟩) K := by
  unfold cdAfter scAfter
  by_cases h : condQ v1 v3 v5 = 1#1
  · rw [if_pos h, if_pos h, if_pos h]
    exact quantise_wp c E i arg1 harg1 arg2 harg2 arg3 harg3 arg4 harg4 arg5 harg5 arg6 harg6 arg7 harg7 arg8 harg8 arg9 harg9 arg10 harg10 arg11 harg11 q6 x cd sc K
  · rw [if_neg h, if_neg h, if_neg h]
    iintro ⟨H6, H10, H11, Hk⟩
    rw [pure_wp]; imodintro
    iapply Hk
    isplitl [H6]; · iexact H6
    isplitl [H10]; · iexact H10
    iexact H11

theorem writeAll_if (c : Dev nD) (E : Set ℕ) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) (v1 v3 v5 : Elt F .i32) (q7 q8 : PosShare TreeShare)
    (w : Vec F S1x2048x7168 .fp8e4m3) (ws : Vec F S1x1x7168 .f32)
    (o : Vec F S512x7168 .bf16) (cd : Vec F S512x2048 .fp8e4m3) (sc : Vec F S512x128 .f32) (K : PUnit → sProp 𝕄) :
    iprop(owns (c : Thread nD τ) arg7 q7 w ∗ owns (c : Thread nD τ) arg8 q8 ws ∗ owns (c : Thread nD τ) arg9 fullShare o ∗ owns (c : Thread nD τ) arg10 fullShare cd ∗ owns (c : Thread nD τ) arg11 fullShare sc ∗ (owns (c : Thread nD τ) arg7 q7 w ∗ owns (c : Thread nD τ) arg8 q8 ws ∗ owns (c : Thread nD τ) arg9 fullShare (if k0_cond2 v5 = 1#1 then fullOf cd w sc ws else o) ∗ owns (c : Thread nD τ) arg10 fullShare cd ∗ owns (c : Thread nD τ) arg11 fullShare sc -∗ K ⟨⟩))
    ⊢ wp frame (wpE (defs₀ (F := F)) Variants.none c none) E (if k0_cond2 v5 = 1#1 then writeAll i arg1 harg1 arg2 harg2 arg3 harg3 arg4 harg4 arg5 harg5 arg6 harg6 arg7 harg7 arg8 harg8 arg9 harg9 arg10 harg10 arg11 harg11 else pure ⟨⟩) K := by
  by_cases h : k0_cond2 v5 = 1#1
  · rw [if_pos h, if_pos h]
    exact writeAll_wp c E i arg1 harg1 arg2 harg2 arg3 harg3 arg4 harg4 arg5 harg5 arg6 harg6 arg7 harg7 arg8 harg8 arg9 harg9 arg10 harg10 arg11 harg11 q7 q8 w ws o cd sc K
  · rw [if_neg h, if_neg h]
    iintro ⟨H7, H8, H9, H10, H11, Hk⟩
    rw [pure_wp]; imodintro
    iapply Hk
    isplitl [H7]; · iexact H7
    isplitl [H8]; · iexact H8
    isplitl [H9]; · iexact H9
    isplitl [H10]; · iexact H10
    iexact H11

theorem writeMasked_if (c : Dev nD) (E : Set ℕ) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) (v1 v3 v5 : Elt F .i32) (q7 q8 : PosShare TreeShare)
    (w : Vec F S1x2048x7168 .fp8e4m3) (ws : Vec F S1x1x7168 .f32)
    (o : Vec F S512x7168 .bf16) (cd : Vec F S512x2048 .fp8e4m3) (sc : Vec F S512x128 .f32) (K : PUnit → sProp 𝕄) :
    iprop(owns (c : Thread nD τ) arg7 q7 w ∗ owns (c : Thread nD τ) arg8 q8 ws ∗ owns (c : Thread nD τ) arg9 fullShare o ∗ owns (c : Thread nD τ) arg10 fullShare cd ∗ owns (c : Thread nD τ) arg11 fullShare sc ∗ (owns (c : Thread nD τ) arg7 q7 w ∗ owns (c : Thread nD τ) arg8 q8 ws ∗ owns (c : Thread nD τ) arg9 fullShare (if k0_cond3 v1 v3 v5 = 1#1 then maskOf v1 v3 cd w sc ws o else o) ∗ owns (c : Thread nD τ) arg10 fullShare cd ∗ owns (c : Thread nD τ) arg11 fullShare sc -∗ K ⟨⟩))
    ⊢ wp frame (wpE (defs₀ (F := F)) Variants.none c none) E (if k0_cond3 v1 v3 v5 = 1#1 then writeMasked i arg1 harg1 arg2 harg2 arg3 harg3 arg4 harg4 arg5 harg5 arg6 harg6 arg7 harg7 arg8 harg8 arg9 harg9 arg10 harg10 arg11 harg11 v1 v3 else pure ⟨⟩) K := by
  by_cases h : k0_cond3 v1 v3 v5 = 1#1
  · rw [if_pos h, if_pos h]
    exact writeMasked_wp c E i arg1 harg1 arg2 harg2 arg3 harg3 arg4 harg4 arg5 harg5 arg6 harg6 arg7 harg7 arg8 harg8 arg9 harg9 arg10 harg10 arg11 harg11 v1 v3 q7 q8 w ws o cd sc K
  · rw [if_neg h, if_neg h]
    iintro ⟨H7, H8, H9, H10, H11, Hk⟩
    rw [pure_wp]; imodintro
    iapply Hk
    isplitl [H7]; · iexact H7
    isplitl [H8]; · iexact H8
    isplitl [H9]; · iexact H9
    isplitl [H10]; · iexact H10
    iexact H11

/-- The three phases. -/
theorem phases_wp (c : Dev nD) (E : Set ℕ) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) (v1 v3 v5 : Elt F .i32) (q6 q7 q8 : PosShare TreeShare)
    (x : Vec F S512x2048 .bf16) (w : Vec F S1x2048x7168 .fp8e4m3) (ws : Vec F S1x1x7168 .f32)
    (o : Vec F S512x7168 .bf16) (cd : Vec F S512x2048 .fp8e4m3) (sc : Vec F S512x128 .f32) (K : PUnit → sProp 𝕄) :
    iprop(owns (c : Thread nD τ) arg6 q6 x ∗ owns (c : Thread nD τ) arg7 q7 w ∗ owns (c : Thread nD τ) arg8 q8 ws ∗ owns (c : Thread nD τ) arg9 fullShare o ∗ owns (c : Thread nD τ) arg10 fullShare cd ∗ owns (c : Thread nD τ) arg11 fullShare sc
      ∗ (owns (c : Thread nD τ) arg6 q6 x ∗ owns (c : Thread nD τ) arg7 q7 w ∗ owns (c : Thread nD τ) arg8 q8 ws
        ∗ owns (c : Thread nD τ) arg9 fullShare (outAfter v1 v3 v5 (cdAfter v1 v3 v5 x cd) w (scAfter v1 v3 v5 x sc) ws o)
        ∗ owns (c : Thread nD τ) arg10 fullShare (cdAfter v1 v3 v5 x cd) ∗ owns (c : Thread nD τ) arg11 fullShare (scAfter v1 v3 v5 x sc) -∗ K ⟨⟩))
    ⊢ wp frame (wpE (defs₀ (F := F)) Variants.none c none) E (phases i arg1 harg1 arg2 harg2 arg3 harg3 arg4 harg4 arg5 harg5 arg6 harg6 arg7 harg7 arg8 harg8 arg9 harg9 arg10 harg10 arg11 harg11 v1 v3 v5) K := by
  rw [phases_eq, wp_bind]
  iintro ⟨H6, H7, H8, H9, H10, H11, Hk⟩
  iapply (quantise_if c E i arg1 harg1 arg2 harg2 arg3 harg3 arg4 harg4 arg5 harg5 arg6 harg6 arg7 harg7 arg8 harg8 arg9 harg9 arg10 harg10 arg11 harg11 v1 v3 v5 q6 x cd sc _)
  isplitl [H6]; · iexact H6
  isplitl [H10]; · iexact H10
  isplitl [H11]; · iexact H11
  iintro ⟨H6, H10, H11⟩
  rw [wp_bind]
  iapply (writeAll_if c E i arg1 harg1 arg2 harg2 arg3 harg3 arg4 harg4 arg5 harg5 arg6 harg6 arg7 harg7 arg8 harg8 arg9 harg9 arg10 harg10 arg11 harg11 v1 v3 v5 q7 q8 w ws o _ _ _)
  isplitl [H7]; · iexact H7
  isplitl [H8]; · iexact H8
  isplitl [H9]; · iexact H9
  isplitl [H10]; · iexact H10
  isplitl [H11]; · iexact H11
  iintro ⟨H7, H8, H9, H10, H11⟩
  rw [wp_bind]
  iapply (writeMasked_if c E i arg1 harg1 arg2 harg2 arg3 harg3 arg4 harg4 arg5 harg5 arg6 harg6 arg7 harg7 arg8 harg8 arg9 harg9 arg10 harg10 arg11 harg11 v1 v3 v5 q7 q8 w ws _ _ _ _)
  isplitl [H7]; · iexact H7
  isplitl [H8]; · iexact H8
  isplitl [H9]; · iexact H9
  isplitl [H10]; · iexact H10
  isplitl [H11]; · iexact H11
  iintro ⟨H7, H8, H9, H10, H11⟩
  rw [pure_wp]; imodintro
  iapply Hk
  isplitl [H6]; · iexact H6
  isplitl [H7]; · iexact H7
  isplitl [H8]; · iexact H8
  isplitl [H9]; · iexact H9
  isplitl [H10]; · iexact H10
  iexact H11

/-- One grid point's body. -/
theorem body_wp (c : Dev nD) (E : Set ℕ) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) (q q6 q7 q8 : PosShare TreeShare) (t3 t4 t5 : Vec F S63 .i32)
    (x : Vec F S512x2048 .bf16) (w : Vec F S1x2048x7168 .fp8e4m3) (ws : Vec F S1x1x7168 .f32)
    (o : Vec F S512x7168 .bf16) (cd : Vec F S512x2048 .fp8e4m3) (sc : Vec F S512x128 .f32) (K : PUnit → sProp 𝕄) :
    iprop((owns (c : Thread nD τ) arg3 q t3 ∗ owns (c : Thread nD τ) arg4 q t4 ∗ owns (c : Thread nD τ) arg5 q t5)
      ∗ (owns (c : Thread nD τ) arg6 q6 x ∗ owns (c : Thread nD τ) arg7 q7 w ∗ owns (c : Thread nD τ) arg8 q8 ws ∗ owns (c : Thread nD τ) arg9 fullShare o ∗ owns (c : Thread nD τ) arg10 fullShare cd ∗ owns (c : Thread nD τ) arg11 fullShare sc)
      ∗ ((owns (c : Thread nD τ) arg3 q t3 ∗ owns (c : Thread nD τ) arg4 q t4 ∗ owns (c : Thread nD τ) arg5 q t5)
        ∗ (owns (c : Thread nD τ) arg6 q6 x ∗ owns (c : Thread nD τ) arg7 q7 w ∗ owns (c : Thread nD τ) arg8 q8 ws
        ∗ owns (c : Thread nD τ) arg9 fullShare (outAfter (wd t3 i) (wd t4 i) (wd t5 i) (cdAfter (wd t3 i) (wd t4 i) (wd t5 i) x cd) w
            (scAfter (wd t3 i) (wd t4 i) (wd t5 i) x sc) ws o)
        ∗ owns (c : Thread nD τ) arg10 fullShare (cdAfter (wd t3 i) (wd t4 i) (wd t5 i) x cd) ∗ owns (c : Thread nD τ) arg11 fullShare (scAfter (wd t3 i) (wd t4 i) (wd t5 i) x sc)) -∗ K ⟨⟩))
    ⊢ wp frame (wpE (defs₀ (F := F)) Variants.none c none) E (cc0_grouped_fp8_matmul i arg1 harg1 arg2 harg2 arg3 harg3 arg4 harg4 arg5 harg5 arg6 harg6 arg7 harg7 arg8 harg8 arg9 harg9 arg10 harg10 arg11 harg11) K := by
  rw [body_eq]
  iintro ⟨⟨H3, H4, H5⟩, ⟨H6, H7, H8, H9, H10, H11⟩, Hk⟩
  iapply (words_wp c E i arg3 arg4 arg5 q t3 t4 t5 (fun v1 v3 v5 => phases i arg1 harg1 arg2 harg2 arg3 harg3 arg4 harg4 arg5 harg5 arg6 harg6 arg7 harg7 arg8 harg8 arg9 harg9 arg10 harg10 arg11 harg11 v1 v3 v5) K)
  isplitl [H3]; · iexact H3
  isplitl [H4]; · iexact H4
  isplitl [H5]; · iexact H5
  iintro ⟨H3, H4, H5⟩
  iapply (phases_wp c E i arg1 harg1 arg2 harg2 arg3 harg3 arg4 harg4 arg5 harg5 arg6 harg6 arg7 harg7 arg8 harg8 arg9 harg9 arg10 harg10 arg11 harg11 (wd t3 i) (wd t4 i) (wd t5 i) q6 q7 q8 x w ws o cd sc K)
  isplitl [H6]; · iexact H6
  isplitl [H7]; · iexact H7
  isplitl [H8]; · iexact H8
  isplitl [H9]; · iexact H9
  isplitl [H10]; · iexact H10
  isplitl [H11]; · iexact H11
  iintro ⟨H6, H7, H8, H9, H10, H11⟩
  iapply Hk
  isplitl [H3 H4 H5]
  · isplitl [H3]; · iexact H3
    isplitl [H4]; · iexact H4
    iexact H5
  isplitl [H6]; · iexact H6
  isplitl [H7]; · iexact H7
  isplitl [H8]; · iexact H8
  isplitl [H9]; · iexact H9
  isplitl [H10]; · iexact H10
  iexact H11

end Cert.Kernel.Hand
end
-- ==== Proof.Entry.lean ====
module

public import proofs.«01_k».proof.Proof.Gen.Kernel.Launch
public import proofs.«01_k».proof.Proof.Gen.Kernel.Skeleton
public import proofs.«01_k».proof.Proof.Ranges
public import proofs.«01_k».proof.Proof.Body
public import Idealize.ShloMosaic.Lib.Claim
public import Idealize.ShloMosaic.Lib.VecWindow
public import Idealize.ShloMosaic.Lib.WholeRead
public import Idealize.ShloMosaic.Lib.ValueIdx

/-! # The launch: what the region finds and the tables it is entered with

`V` is what every buffer holds when the grid's loop is entered, and `adm` the five tables together with the fact that
every block they name lies in its array. -/

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- What each buffer of core `c` holds when the grid's loop is entered. -/
abbrev V (c : Dev nD) (b : Ref sig .tc) : Buf (Elt F) ((c : Thread nD τ).loc b) :=
  StableHlo.after (opss (F := F)).flatten (fun b => m (c, b)) b

/-- The group sizes as launched. -/
abbrev gs (c : Dev nD) : IVec S4 32 := m ((c : Thread nD τ).loc main_arg1)

/-- The five tables of group sizes `g`. -/
def tabs (g : IVec S4 32) : pre0.Contents (Elt F) := fun
  | 0 => tileT g
  | 1 => expertT g
  | 2 => loT g
  | 3 => hiT g
  | 4 => firstT g
  | ⟨_ + 5, h⟩ => absurd h (Nat.not_lt.2 (Nat.le_add_left _ _))

/-- The tables with their side condition. -/
def adm (p : Fin 1) : (pcfgs (F := F) p).Adm :=
  ⟨tabs (gs m 0), ok0_of _ (fun j => tile_lt (gs m 0) j) (fun j => expert_lt (gs m 0) j)⟩

theorem V_v40 (c : Dev nD) : V m c main_v40 = tileT (gs m c) := line_tile (fun b => m (c, b))
theorem V_v41 (c : Dev nD) : V m c main_v41 = expertT (gs m c) := line_expert (fun b => m (c, b))
theorem V_v50 (c : Dev nD) : V m c main_v50 = loT (gs m c) := line_lo (fun b => m (c, b))
theorem V_v59 (c : Dev nD) : V m c main_v59 = hiT (gs m c) := line_hi (fun b => m (c, b))
theorem V_v65 (c : Dev nD) : V m c main_v65 = firstT (gs m c) := line_first (fun b => m (c, b))
theorem V_v66 (c : Dev nD) : V m c main_v66 = (broadcastInDim S4x1x7168 ![0, 2] bcast_S4x7168_S4x1x7168_0_2 (m ((c : Thread nD τ).loc main_arg3) : Vec F S4x7168 .f32) : Vec F S4x1x7168 .f32) := line_scales (fun b => m (c, b))

/-- The region finds the tables `adm` records. -/
theorem V_tables (c : Dev nD) : ∀ (k : Fin 5), V m c (pre0.ref k) = (adm m 0).1 k := by
  have hc : c = 0 := Subsingleton.elim _ _
  subst hc
  have h0 : (adm m 0).1 = tabs (gs m 0) := rfl
  rw [h0]
  intro k
  match k with
  | 0 => exact V_v40 m 0
  | 1 => exact V_v41 m 0
  | 2 => exact V_v50 m 0
  | 3 => exact V_v59 m 0
  | 4 => exact V_v65 m 0

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub⟩

theorem opss_fresh : (opss (F := F)).Forall fun ops => ops.Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss opss_sub opss_fresh main_chain

/-- No host operation writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [opss, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [opss, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [opss, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [opss, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Every grid point's block of window `w`, read from what the region finds. -/
def iblk (c : Dev nD) (w : Fin 4) (t : Fin (cfg0 (adm m 0)).N) :
    (((cfg0 (adm m 0)).win w).xblock ((cfg0 (adm m 0)).grid.coords t)).Idx → Elt F ((cfg0 (adm m 0)).win w).elt :=
  (((cfg0 (adm m 0)).win w).blk t).view.read (Elt F) (V m c (Pipeline.arrRef spec0 w))

end Cert.Kernel.Hand
end
-- ==== Proof.Point.lean ====
module

public import proofs.«01_k».proof.Proof.Gen.Kernel.Launch
public import proofs.«01_k».proof.Proof.Gen.Kernel.Skeleton
public import proofs.«01_k».proof.Proof.Entry
public import Idealize.ShloMosaic.Lib.Claim
public import Idealize.ShloMosaic.Lib.VecWindow
public import Idealize.ShloMosaic.Lib.WholeRead
public import Idealize.ShloMosaic.Lib.ValueIdx

/-! # One grid point, as the grid's loop runs it

The body's triple restated at the loop's own staging buffers, tables and scratch; and the proof that every execution
ends with the arguments unchanged, which needs to know nothing of what the body writes. -/

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline at the tables the region finds. -/
abbrev cfgA : Cfg sig Λ₀ := cfg0 (adm m 0)

abbrev ms0 (t : Fin (cfgA m).N) : Memref sig .tc .vmem S512x2048 .bf16 := ((cfgA m).win 0).stage ((cfgA m).slots t 0)
abbrev ms1 (t : Fin (cfgA m).N) : Memref sig .tc .vmem S1x2048x7168 .fp8e4m3 := ((cfgA m).win 1).stage ((cfgA m).slots t 1)
abbrev ms2 (t : Fin (cfgA m).N) : Memref sig .tc .vmem S1x1x7168 .f32 := ((cfgA m).win 2).stage ((cfgA m).slots t 2)
abbrev ms3 (t : Fin (cfgA m).N) : Memref sig .tc .vmem S512x7168 .bf16 := ((cfgA m).win 3).stage ((cfgA m).slots t 3)

/-- The three table words the body reads at point `t`. -/
abbrev wlo (t : Fin (cfgA m).N) : BitVec 32 := wd (F := F) (loT (gs m 0)) (grid0.coords t)
abbrev whi (t : Fin (cfgA m).N) : BitVec 32 := wd (F := F) (hiT (gs m 0)) (grid0.coords t)
abbrev wfirst (t : Fin (cfgA m).N) : BitVec 32 := wd (F := F) (firstT (gs m 0)) (grid0.coords t)

/-- The tables' halves one by one. -/
theorem tables_eq (c : Dev nD) (v : pre0.Contents (Elt F)) :
    (Pipeline.ΦT pre0 v c : sProp 𝕄)
      = iprop((((c : Thread nD τ).loc main_v40) ↦{fullShare.right} (v 0)) ∗ (((c : Thread nD τ).loc main_v41) ↦{fullShare.right} (v 1))
        ∗ (((c : Thread nD τ).loc main_v50) ↦{fullShare.right} (v 2)) ∗ (((c : Thread nD τ).loc main_v59) ↦{fullShare.right} (v 3))
        ∗ (((c : Thread nD τ).loc main_v65) ↦{fullShare.right} (v 4))) :=
  bigSep_univ_eq_bigSepL [(0 : Fin 5), (1 : Fin 5), (2 : Fin 5), (3 : Fin 5), (4 : Fin 5)] (by decide) (by decide) _

/-- A whole buffer's ownership through its whole memref. -/
theorem whole_iff (c : Dev nD) (b : Ref sig .tc) (q : PosShare TreeShare) (X : b.ty.Contents (Elt F)) :
    (owns (c : Thread nD τ) (Memref.whole b) q X : sProp 𝕄) = (((c : Thread nD τ).loc b) ↦{q} X) := by
  rw [owns_whole_eq]
  have h1 : iprop(∃ f : Buf (Elt F) ((c : Thread nD τ).loc b), ⌜f = X⌝ ∗ (((c : Thread nD τ).loc b) ↦{q} f)) ⊢ (((c : Thread nD τ).loc b) ↦{q} X : sProp 𝕄) := by
    iintro ⟨%f, %h, H⟩; subst h; iexact H
  have h2 : (((c : Thread nD τ).loc b) ↦{q} X : sProp 𝕄) ⊢ iprop(∃ f : Buf (Elt F) ((c : Thread nD τ).loc b), ⌜f = X⌝ ∗ (((c : Thread nD τ).loc b) ↦{q} f)) := by
    iintro H; iexists X; isplitr
    swap; · iexact H
    ipureintro; rfl
  exact Idealize.SL.BI.Entails.antisymm h1 h2

/-- The body at point `t`, from the tables, the staging buffers and the scratch at any contents. -/
theorem body_at (c : Dev nD) (t : Fin (cfgA m).N) (x : Vec F S512x2048 .bf16) (w : Vec F S1x2048x7168 .fp8e4m3) (ws : Vec F S1x1x7168 .f32)
    (o : Vec F S512x7168 .bf16) (cd : Vec F S512x2048 .fp8e4m3) (sc : Vec F S512x128 .f32) (K : PUnit → sProp 𝕄) :
    iprop(Pipeline.ΦT pre0 (adm m 0).1 c
      ∗ owns (c : Thread nD τ) (ms0 m t) fullShare x ∗ owns (c : Thread nD τ) (ms1 m t) fullShare w ∗ owns (c : Thread nD τ) (ms2 m t) fullShare ws
      ∗ owns (c : Thread nD τ) (ms3 m t) fullShare o
      ∗ (((c : Thread nD τ).loc cc0_scratch0) ↦{fullShare} cd) ∗ (((c : Thread nD τ).loc cc0_scratch1) ↦{fullShare} sc)
      ∗ ((Pipeline.ΦT pre0 (adm m 0).1 c
        ∗ owns (c : Thread nD τ) (ms0 m t) fullShare x ∗ owns (c : Thread nD τ) (ms1 m t) fullShare w ∗ owns (c : Thread nD τ) (ms2 m t) fullShare ws
        ∗ owns (c : Thread nD τ) (ms3 m t) fullShare (outAfter (wlo m t) (whi m t) (wfirst m t) (cdAfter (wlo m t) (whi m t) (wfirst m t) x cd) w
            (scAfter (wlo m t) (whi m t) (wfirst m t) x sc) ws o)
        ∗ (((c : Thread nD τ).loc cc0_scratch0) ↦{fullShare} (cdAfter (wlo m t) (whi m t) (wfirst m t) x cd))
        ∗ (((c : Thread nD τ).loc cc0_scratch1) ↦{fullShare} (scAfter (wlo m t) (whi m t) (wfirst m t) x sc))) -∗ K ⟨⟩))
    ⊢ wp frame (wpE (defs₀ (F := F)) Variants.none c none) Set.univ
        (defs₀ (F := F) .tc (cfgA m).body ((cfgA m).bodyArgs t ((cfgA m).slots t))) K := by
  have hb : defs₀ (F := F) .tc (cfgA m).body ((cfgA m).bodyArgs t ((cfgA m).slots t))
      = cc0_grouped_fp8_matmul (grid0.coords t) (Memref.whole main_v40) (Memref.isWhole_whole _) (Memref.whole main_v41) (Memref.isWhole_whole _) (Memref.whole main_v50) (Memref.isWhole_whole _) (Memref.whole main_v59) (Memref.isWhole_whole _) (Memref.whole main_v65) (Memref.isWhole_whole _)
          (ms0 m t) (hstage0_0 (((cfgA m).slots t 0).cast nbuf0_0)) (ms1 m t) (hstage0_1 (((cfgA m).slots t 1).cast nbuf0_1)) (ms2 m t) (hstage0_2 (((cfgA m).slots t 2).cast nbuf0_2)) (ms3 m t) (hstage0_3 (((cfgA m).slots t 3).cast nbuf0_3))
          (Memref.whole cc0_scratch0) (Memref.isWhole_whole _) (Memref.whole cc0_scratch1) (Memref.isWhole_whole _) := by
    unfold defs₀; rw [Defs.onTc_tc]; rfl
  rw [hb, tables_eq]
  have h0 : (adm m 0).1 = tabs (gs m 0) := rfl
  rw [h0]
  have e2 : tabs (F := F) (gs m 0) 2 = loT (gs m 0) := by unfold tabs; with_reducible rfl
  have e3 : tabs (F := F) (gs m 0) 3 = hiT (gs m 0) := by unfold tabs; with_reducible rfl
  have e4 : tabs (F := F) (gs m 0) 4 = firstT (gs m 0) := by unfold tabs; with_reducible rfl
  rw [e2, e3, e4]
  have k := body_wp (F := F) c Set.univ (grid0.coords t) (Memref.whole main_v40) (Memref.isWhole_whole _) (Memref.whole main_v41) (Memref.isWhole_whole _) (Memref.whole main_v50) (Memref.isWhole_whole _) (Memref.whole main_v59) (Memref.isWhole_whole _) (Memref.whole main_v65) (Memref.isWhole_whole _)
          (ms0 m t) (hstage0_0 (((cfgA m).slots t 0).cast nbuf0_0)) (ms1 m t) (hstage0_1 (((cfgA m).slots t 1).cast nbuf0_1)) (ms2 m t) (hstage0_2 (((cfgA m).slots t 2).cast nbuf0_2)) (ms3 m t) (hstage0_3 (((cfgA m).slots t 3).cast nbuf0_3))
          (Memref.whole cc0_scratch0) (Memref.isWhole_whole _) (Memref.whole cc0_scratch1) (Memref.isWhole_whole _)
          fullShare.right fullShare fullShare fullShare (loT (gs m 0)) (hiT (gs m 0)) (firstT (gs m 0)) x w ws o cd sc K
  rw [whole_iff c main_v50, whole_iff c main_v59, whole_iff c main_v65] at k
  simp only [whole_iff c cc0_scratch0, whole_iff c cc0_scratch1] at k
  iintro ⟨⟨T0, T1, T2, T3, T4⟩, H0, H1, H2, H3, HC, HS, Hk⟩
  iapply k
  isplitl [T2 T3 T4]
  · isplitl [T2]; · iexact T2
    isplitl [T3]; · iexact T3
    iexact T4
  isplitl [H0 H1 H2 H3 HC HS]
  · isplitl [H0]; · iexact H0
    isplitl [H1]; · iexact H1
    isplitl [H2]; · iexact H2
    isplitl [H3]; · iexact H3
    isplitl [HC]; · iexact HC
    iexact HS
  iintro ⟨⟨T2, T3, T4⟩, H0, H1, H2, H3, HC, HS⟩
  iapply Hk
  isplitl [T0 T1 T2 T3 T4]
  · isplitl [T0]; · iexact T0
    isplitl [T1]; · iexact T1
    isplitl [T2]; · iexact T2
    isplitl [T3]; · iexact T3
    iexact T4
  isplitl [H0]; · iexact H0
  isplitl [H1]; · iexact H1
  isplitl [H2]; · iexact H2
  isplitl [H3]; · iexact H3
  isplitl [HC]; · iexact HC
  iexact HS

/-- Input window 0's staging buffer holds its block at every point. -/
theorem before0_of {c : Dev nD} (dat : Dat τ (Elt F) Unit ℕ (UR sig nD τ) ℕ (cfgA m) c) (hA : dat.A 0 = V m c (Pipeline.arrRef spec0 0))
    (hafter : ∀ t, dat.after 0 t = iblk m c 0 t) (t : Fin (cfgA m).N) (d) : dat.before 0 t d = iblk m c 0 t :=
  (dat.before_in_eq_fetched 0 rfl (fun _ => rfl) (fun _ _ _ => rfl)
    (fun t => by rw [hafter]; unfold Dat.blockOf iblk; rw [hA]; try rfl) t d).trans (by unfold Dat.fetched Dat.blockOf iblk; rw [hA]; try rfl)

/-- Input window 1's staging buffer holds its block at every point. -/
theorem before1_of {c : Dev nD} (dat : Dat τ (Elt F) Unit ℕ (UR sig nD τ) ℕ (cfgA m) c) (hA : dat.A 1 = V m c (Pipeline.arrRef spec0 1))
    (hafter : ∀ t, dat.after 1 t = iblk m c 1 t) (t : Fin (cfgA m).N) (d) : dat.before 1 t d = iblk m c 1 t :=
  (dat.before_in_eq_fetched 1 rfl (fun _ => rfl) (fun _ _ _ => rfl)
    (fun t => by rw [hafter]; unfold Dat.blockOf iblk; rw [hA]; try rfl) t d).trans (by unfold Dat.fetched Dat.blockOf iblk; rw [hA]; try rfl)

/-- Input window 2's staging buffer holds its block at every point. -/
theorem before2_of {c : Dev nD} (dat : Dat τ (Elt F) Unit ℕ (UR sig nD τ) ℕ (cfgA m) c) (hA : dat.A 2 = V m c (Pipeline.arrRef spec0 2))
    (hafter : ∀ t, dat.after 2 t = iblk m c 2 t) (t : Fin (cfgA m).N) (d) : dat.before 2 t d = iblk m c 2 t :=
  (dat.before_in_eq_fetched 2 rfl (fun _ => rfl) (fun _ _ _ => rfl)
    (fun t => by rw [hafter]; unfold Dat.blockOf iblk; rw [hA]; try rfl) t d).trans (by unfold Dat.fetched Dat.blockOf iblk; rw [hA]; try rfl)

end Cert.Kernel.Hand
end
-- ==== Proof.Frame.lean ====
module

public import proofs.«01_k».proof.Proof.Gen.Kernel.Launch
public import proofs.«01_k».proof.Proof.Gen.Kernel.Skeleton
public import proofs.«01_k».proof.Proof.Point
public import Idealize.ShloMosaic.Lib.Claim
public import Idealize.ShloMosaic.Lib.VecWindow
public import Idealize.ShloMosaic.Lib.WholeRead
public import Idealize.ShloMosaic.Lib.ValueIdx

/-! # Every execution ends, with the arguments unchanged

The run that forgets what the output window holds. It needs no hypothesis on the arguments: the tables are always within
their bounds, and whatever the body writes goes to the output. -/

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows forgotten: the output. -/
abbrev fgt : Fin 4 → Bool := fun | 0 => false | 1 => false | 2 => false | 3 => true | ⟨_ + 4, h⟩ => absurd h (Nat.not_lt.2 (Nat.le_add_left _ _))

/-- The proof data of the forgetful run. -/
def datF (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := iprop(Pipeline.ΦA spec0 c ∗ Pipeline.ΦT pre0 (adm m 0).1 c)
  q _ := fullShare
  owed _ := 0

theorem datF_A (c : Dev nD) (w : Fin (cfgA m).W) : (datF m 0 c).A w = V m c (Pipeline.arrRef spec0 w) := by dsimp only [datF]; try rfl
theorem datF_after0 (c : Dev nD) (t) : (datF m 0 c).after 0 t = iblk m c 0 t := by dsimp only [datF]; try rfl
theorem datF_after1 (c : Dev nD) (t) : (datF m 0 c).after 1 t = iblk m c 1 t := by dsimp only [datF]; try rfl
theorem datF_after2 (c : Dev nD) (t) : (datF m 0 c).after 2 t = iblk m c 2 t := by dsimp only [datF]; try rfl

theorem datF_before0 (c : Dev nD) (t) (d) : (datF m 0 c).before 0 t d = iblk m c 0 t := before0_of m (datF m 0 c) (datF_A m c 0) (datF_after0 m c) t d
theorem datF_before1 (c : Dev nD) (t) (d) : (datF m 0 c).before 1 t d = iblk m c 1 t := before1_of m (datF m 0 c) (datF_A m c 1) (datF_after1 m c) t d
theorem datF_before2 (c : Dev nD) (t) (d) : (datF m 0 c).before 2 t d = iblk m c 2 t := before2_of m (datF m 0 c) (datF_A m c 2) (datF_after2 m c) t d

def preF (c : Dev nD) (t : Fin (cfgA m).N) : sProp 𝕄 :=
  iprop((datF m 0 c).Φ t.castSucc ∗ (datF m 0 c).owesAt () t.castSucc
    ∗ (∃ d, owns (c : Thread nD τ) (ms0 m t) fullShare ((datF m 0 c).before 0 t d))
    ∗ (∃ d, owns (c : Thread nD τ) (ms1 m t) fullShare ((datF m 0 c).before 1 t d))
    ∗ (∃ d, owns (c : Thread nD τ) (ms2 m t) fullShare ((datF m 0 c).before 2 t d))
    ∗ (∃ X, owns (c : Thread nD τ) (ms3 m t) fullShare X))

def postF (c : Dev nD) (t : Fin (cfgA m).N) : sProp 𝕄 :=
  iprop((datF m 0 c).Φ t.succ ∗ (datF m 0 c).owesAt () t.succ
    ∗ owns (c : Thread nD τ) (ms0 m t) fullShare ((datF m 0 c).after 0 t)
    ∗ owns (c : Thread nD τ) (ms1 m t) fullShare ((datF m 0 c).after 1 t)
    ∗ owns (c : Thread nD τ) (ms2 m t) fullShare ((datF m 0 c).after 2 t)
    ∗ (∃ X, owns (c : Thread nD τ) (ms3 m t) fullShare X))

theorem soundF (c : Dev nD) (t : Fin (cfgA m).N) :
    preF m c t ⊢ wp frame (wpE (defs₀ (F := F)) Variants.none c none) Set.univ
      (defs₀ (F := F) .tc (cfgA m).body ((cfgA m).bodyArgs t ((cfgA m).slots t))) (fun _ => postF m c t) := by
  unfold preF postF
  simp only [datF_before0, datF_before1, datF_before2]
  rw [show (datF m 0 c).Φ t.succ = (datF m 0 c).Φ t.castSucc from rfl,
    show (datF m 0 c).owesAt () t.succ = (datF m 0 c).owesAt () t.castSucc from rfl,
    datF_after0, datF_after1, datF_after2,
    show (datF m 0 c).Φ t.castSucc = iprop(Pipeline.ΦA spec0 c ∗ Pipeline.ΦT pre0 (adm m 0).1 c) from rfl]
  unfold Pipeline.ΦA
  rw [scopedRest0_eq]
  iintro ⟨⟨⟨⟨⟨%cd, HC⟩, ⟨%sc, HS⟩⟩, HR⟩, HT⟩, Ho, ⟨%d0, H0⟩, ⟨%d1, H1⟩, ⟨%d2, H2⟩, ⟨%o, H3⟩⟩
  iapply (body_at m c t (iblk m c 0 t) (iblk m c 1 t) (iblk m c 2 t) o cd sc)
  isplitl [HT]; · iexact HT
  isplitl [H0]; · iexact H0
  isplitl [H1]; · iexact H1
  isplitl [H2]; · iexact H2
  isplitl [H3]; · iexact H3
  isplitl [HC]; · iexact HC
  isplitl [HS]; · iexact HS
  iintro ⟨HT, H0, H1, H2, H3, HC, HS⟩
  isplitl [HT HC HS HR]
  · isplitl [HC HS HR]
    · isplitl [HC HS]
      · isplitl [HC]
        · iexists _; iexact HC
        · iexists _; iexact HS
      iexact HR
    iexact HT
  isplitl [Ho]; · iexact Ho
  isplitl [H0]; · iexact H0
  isplitl [H1]; · iexact H1
  isplitl [H2]; · iexact H2
  iexists _; iexact H3

theorem obligationF (c : Dev nD) : BodyObligation (datF (F := F) m 0 c) (defs₀ (F := F)) Variants.none () Set.univ fgt := fun t => by
  rw [bigSep_W0, bigSep_W0]
  exact triple_restated (soundF m c t) rfl .rfl fun _ => .rfl

set_option backward.isDefEq.respectTransparency.types false in
theorem runF : θ_run defs (onTc (τ := τ) (main (F := F))) (s₀ m ρ)
    (fun r => Pipeline.RDat.FramePost (cfgA m) (fun c => (datF m 0 c).toRForget fgt) (V m) r ∧ r.2.sem = fun _ => 0) :=
  Pipeline.θ_run_frameP_forget (Q' := _) pcfgs (adm m) (datF m) (0 : Fin 1) launch0 defs₀ Variants.none fgt m ρ main
    (hbody := fun c => (obligationF m c).loose) (hshare := fun c => (datF m 0 c).share_full fun _ => rfl)
    (howed := fun _ _ => rfl) (V := V m) (hmain := hmain m Variants.none) (hA := datF_A m) (hpf := V_tables m) (hΦ := fun _ _ => rfl)

/-- Every execution of @main ends, with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨
      (Pipeline.RDat.FramePost.arr_in h.1 c 0 rfl).trans ((datF_A m c 0).trans (V_main_arg0 m c)),
      ((h.1 c).2 main_arg1 (Pipeline.mem_restRefs_of main_arg1 (by decide) (show ∀ w : Fin 4, (spec0 w).arr.view.ref ≠ main_arg1 from by decide))).trans (V_main_arg1 m c),
      (Pipeline.RDat.FramePost.arr_in h.1 c 1 rfl).trans ((datF_A m c 1).trans (V_main_arg2 m c)),
      ((h.1 c).2 main_arg3 (Pipeline.mem_restRefs_of main_arg3 (by decide) (show ∀ w : Fin 4, (spec0 w).arr.view.ref ≠ main_arg3 from by decide))).trans (V_main_arg3 m c)⟩, h.2⟩) (runF m ρ)

end Cert.Kernel.Hand
end
-- ==== Proof.Ideal.Tables.lean ====
module

public import proofs.«01_k».proof.Proof.Gen.KernelIdeal.Launch
public import proofs.«01_k».proof.Proof.Gen.KernelIdeal.Skeleton
public import Idealize.ShloMosaic.Lib.Claim
public import Idealize.ShloMosaic.Lib.VecWindow
public import Idealize.ShloMosaic.Lib.WholeRead
public import Idealize.ShloMosaic.Lib.ValueIdx
public import Idealize.ShloMosaic.Lib.StableHlo.RunRead

/-! # The five prefetched tables as functions of the group sizes

The host fills five tables before the call: the row tile, the expert, the first and the end row and the first-visit
mark of each of the 63 grid points. This module names the terms the host program computes, one definition per step, and
shows that the host line leaves exactly these terms in the buffers the call reads. -/

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The end row of each expert: the running sum of the group sizes. -/
def ends (g : IVec S4 32) : IVec S4 32 :=
  Host.reduceWindow IntOp.addi ![4] ![1] ![3] ![0] g (broadcastInDim S_ ![] bcast_S_S_ (constantI S_ 32 0#32)) reduceWindows_S4_S4_w4s1p3_0 h_S_

/-- For each (expert, tile) pair, a row of the expert counted from the tile's first row: `x - 512 * tile`. -/
def offsetBy (i : IVec S60 32) (x : IVec S4 32) : IVec S4x60 32 :=
  subi (broadcastInDim S4x60 ![0, 1] bcast_S4x1_S4x60_0_1 (broadcastInDim S4x1 ![0] bcast_S4_S4x1_0 x))
    (broadcastInDim S4x60 ![0, 1] bcast_S1x60_S4x60_0_1
      (muli (broadcastInDim S1x60 ![1] bcast_S60_S1x60_1 i)
        (broadcastInDim S1x60 ![] bcast_S_S1x60 (constantI S_ 32 512#32))))

/-- The rows clipped to a range. -/
def clipBy (a b : IVec S_ 32) (x : IVec S4x60 32) : IVec S4x60 32 :=
  minsi (broadcastInDim S4x60 ![] bcast_S_S4x60 (id b)) (maxsi (broadcastInDim S4x60 ![] bcast_S_S4x60 (id a)) x)

/-- The rows clipped to `[0, 512]`. -/
def clipped (x : IVec S4 32) : IVec S4x60 32 := clipBy (constantI S_ 32 0#32) (constantI S_ 32 512#32) (offsetBy (iotaInDim S60 32 0) x)

/-- The first row of each pair within its tile. -/
def loAll (g : IVec S4 32) : IVec S4x60 32 := clipped (subi (ends g) g)

/-- The end row of each pair within its tile. -/
def hiAll (g : IVec S4 32) : IVec S4x60 32 := clipped (ends g)

/-- Which pairs have a row, pairs counted expert by expert. -/
def liveOf (hi lo : IVec S4x60 32) : IVec S240 1 := shapeCast S240 (cmpi .sgt hi lo) shapeCasts_S4x60_S240

/-- Which pairs have a row, from the group sizes. -/
def live (g : IVec S4 32) : IVec S240 1 := liveOf (hiAll g) (loAll g)

/-- The pair numbers sorted by a mark, otherwise in order. -/
def orderOf (x : IVec S240 1) : IVec S240 32 := (Host.sort2 S240 0 comparator_i1_i32_d0 x (iotaInDim S240 32 0)).2

/-- How many pairs are live. -/
def nLive (l : IVec S240 1) : IVec S_ 32 :=
  Host.reduce IntOp.addi (extui 32 l natLt_1_32) (constantI S_ 32 0#32) reducesTo_S240_S_d0 h_S_

/-- The position in the order each grid point takes: its own, or the last live one. -/
def pos (l : IVec S240 1) : IVec S63 32 :=
  minsi (iotaInDim S63 32 0) (broadcastInDim S63 ![] bcast_S_S63 (subi (nLive l) (constantI S_ 32 1#32)))

/-- An index below zero counts from the end. -/
def wrapped (n : BitVec 32) (x : IVec S63 32) : IVec S63 32 :=
  select (cmpi .slt x (broadcastInDim S63 ![] bcast_S_S63 (constantI S_ 32 0#32)))
    (addi x (broadcastInDim S63 ![] bcast_S_S63 (constantI S_ 32 n))) x

/-- The pair each grid point works on. -/
def pairBy (l : IVec S240 1) (o : IVec S240 32) : IVec S63 32 :=
  Host.gather gather_S63_S63x1_S63_n_0_n_n_0_1_1 (extractStridedSlice S63 ![0] o slices_S240_S63_0)
    (broadcastInDim S63x1 ![0] bcast_S63_S63x1_0 (wrapped 63#32 (pos l)))

/-- The pair each grid point works on, from the group sizes. -/
def pairOf (g : IVec S4 32) : IVec S63 32 := pairBy (live g) (orderOf (noti (live g)))

/-- Which grid points have a live pair of their own. -/
def validOf (l : IVec S240 1) : IVec S63 1 := cmpi .slt (iotaInDim S63 32 0) (broadcastInDim S63 ![] bcast_S_S63 (nLive l))

/-- The divisor of the remainder, guarded against zero. -/
def divisor (d : IVec S_ 32) : IVec S_ 32 :=
  select (cmpi .eq (id d) (constantI S_ 32 0#32)) (constantI S_ 32 1#32) (id d)

/-- The remainder, with the sign of the divisor. -/
def remBy (d : IVec S_ 32) (x : IVec S63 32) : IVec S63 32 :=
  select (andi (cmpi .ne
      (cmpi .slt (Host.remsi x (broadcastInDim S63 ![] bcast_S_S63 (divisor d))) (broadcastInDim S63 ![] bcast_S_S63 (constantI S_ 32 0#32)))
      (broadcastInDim S63 ![] bcast_S_S63 (cmpi .slt (divisor d) (constantI S_ 32 0#32))))
      (cmpi .ne (Host.remsi x (broadcastInDim S63 ![] bcast_S_S63 (divisor d))) (broadcastInDim S63 ![] bcast_S_S63 (constantI S_ 32 0#32))))
    (addi (Host.remsi x (broadcastInDim S63 ![] bcast_S_S63 (divisor d))) (broadcastInDim S63 ![] bcast_S_S63 (divisor d)))
    (Host.remsi x (broadcastInDim S63 ![] bcast_S_S63 (divisor d)))

/-- The quotient, rounded down. -/
def divBy (d : IVec S_ 32) (x : IVec S63 32) : IVec S63 32 :=
  select (andi (cmpi .ne (signi x) (broadcastInDim S63 ![] bcast_S_S63 (signi (id d))))
      (cmpi .ne (Host.remsi x (broadcastInDim S63 ![] bcast_S_S63 (id d))) (broadcastInDim S63 ![] bcast_S_S63 (constantI S_ 32 0#32))))
    (subi (Host.divsi x (broadcastInDim S63 ![] bcast_S_S63 (id d))) (broadcastInDim S63 ![] bcast_S_S63 (constantI S_ 32 1#32)))
    (Host.divsi x (broadcastInDim S63 ![] bcast_S_S63 (id d)))

/-- The row tile of each grid point. -/
def tileT (g : IVec S4 32) : IVec S63 32 := remBy (constantI S_ 32 60#32) (pairOf g)

/-- The expert of each grid point. -/
def expertT (g : IVec S4 32) : IVec S63 32 := divBy (constantI S_ 32 60#32) (pairOf g)

/-- A row bound of the pair of each grid point. -/
def takeBound (p : IVec S63 32) (x : IVec S4x60 32) : IVec S63 32 :=
  Host.gather gather_S240_S63x1_S63_n_0_n_n_0_1_1 (shapeCast S240 x shapeCasts_S4x60_S240)
    (broadcastInDim S63x1 ![0] bcast_S63_S63x1_0 (wrapped 240#32 p))

/-- The bound where a mark is set, else a fixed word. -/
def orElse (v : IVec S63 1) (x : IVec S63 32) (z : IVec S_ 32) : IVec S63 32 := select v x (broadcastInDim S63 ![] bcast_S_S63 (id z))

/-- A row bound of each grid point: that of its pair, or zero for a grid point without a live pair of its own. -/
def boundT (g : IVec S4 32) (x : IVec S4x60 32) : IVec S63 32 :=
  orElse (validOf (live g)) (takeBound (pairOf g) x) (constantI S_ 32 0#32)

/-- The first row of each grid point within its tile. -/
def loT (g : IVec S4 32) : IVec S63 32 := boundT g (loAll g)

/-- The end row of each grid point within its tile. -/
def hiT (g : IVec S4 32) : IVec S63 32 := boundT g (hiAll g)

/-- Whether each grid point's tile differs from the one before it. -/
def firstOf (t : IVec S63 32) : IVec S63 32 :=
  concatenate S63 0
    [⟨S1, (broadcastInDim S1 ![] bcast_S_S1 (constantI S_ 32 1#32) : IVec S1 32)⟩,
     ⟨S62, extui 32 (cmpi .ne (extractStridedSlice S62 ![1] t slices_S63_S62_1)
        (extractStridedSlice S62 ![0] t slices_S63_S62_0)) natLt_1_32⟩] concatenates_S1_S62_S63_d0

/-- Whether each grid point is the first to visit its tile. -/
def firstT (g : IVec S4 32) : IVec S63 32 := firstOf (tileT g)

/-! ## One lemma per list of operations -/

variable (X : Valuation τ sig (Elt F))

theorem at_0_v0 : StableHlo.after (hostOps0 (F := F)) X (Proc.devRef .tc main_v0) = ends (X (Proc.devRef .tc main_arg1)) := by
  first | (after_reads_simp; done) | (after_reads_simp; rfl)

theorem at_1_c_0 : StableHlo.after (hostOps0_1 (F := F)) X (Proc.devRef .tc main_c_0) = constantI S_ 32 0#32 := by
  first | (after_reads_simp; done) | (after_reads_simp; rfl)

theorem at_1_c_1 : StableHlo.after (hostOps0_1 (F := F)) X (Proc.devRef .tc main_c_1) = constantI S_ 32 512#32 := by
  first | (after_reads_simp; done) | (after_reads_simp; rfl)

theorem at_1_v9 : StableHlo.after (hostOps0_1 (F := F)) X (Proc.devRef .tc main_v9) = offsetBy (iotaInDim S60 32 0) (subi ((X (Proc.devRef .tc main_v0)) : IVec S4 32) (X (Proc.devRef .tc main_arg1))) := by
  first | (after_reads_simp; done) | (after_reads_simp; rfl)

theorem at_1_v2 : StableHlo.after (hostOps0_1 (F := F)) X (Proc.devRef .tc main_v2) = iotaInDim S60 32 0 := by
  first | (after_reads_simp; done) | (after_reads_simp; rfl)

theorem at_2_v10 : StableHlo.after (hostOps0_2 (F := F)) X (Proc.devRef .tc main_v10) = clipBy (X (Proc.devRef .tc main_c_0)) (X (Proc.devRef .tc main_c_1)) (X (Proc.devRef .tc main_v9)) := by
  first | (after_reads_simp; done) | (after_reads_simp; rfl)

theorem at_3_c_3 : StableHlo.after (hostOps0_3 (F := F)) X (Proc.devRef .tc main_c_3) = constantI S_ 32 0#32 := by
  first | (after_reads_simp; done) | (after_reads_simp; rfl)

theorem at_3_c_4 : StableHlo.after (hostOps0_3 (F := F)) X (Proc.devRef .tc main_c_4) = constantI S_ 32 512#32 := by
  first | (after_reads_simp; done) | (after_reads_simp; rfl)

theorem at_3_v17 : StableHlo.after (hostOps0_3 (F := F)) X (Proc.devRef .tc main_v17) = offsetBy (X (Proc.devRef .tc main_v2)) (X (Proc.devRef .tc main_v0)) := by
  first | (after_reads_simp; done) | (after_reads_simp; rfl)

theorem at_4_v18 : StableHlo.after (hostOps0_4 (F := F)) X (Proc.devRef .tc main_v18) = clipBy (X (Proc.devRef .tc main_c_3)) (X (Proc.devRef .tc main_c_4)) (X (Proc.devRef .tc main_v17)) := by
  first | (after_reads_simp; done) | (after_reads_simp; rfl)

theorem at_5_v20 : StableHlo.after (hostOps0_5 (F := F)) X (Proc.devRef .tc main_v20) = liveOf (X (Proc.devRef .tc main_v18)) (X (Proc.devRef .tc main_v10)) := by
  first | (after_reads_simp; done) | (after_reads_simp; rfl)

theorem at_5_v21 : StableHlo.after (hostOps0_5 (F := F)) X (Proc.devRef .tc main_v21) = noti (liveOf (X (Proc.devRef .tc main_v18)) (X (Proc.devRef .tc main_v10))) := by
  first | (after_reads_simp; done) | (after_reads_simp; rfl)

theorem at_6_v22 : StableHlo.after (hostOps0_6 (F := F)) X (Proc.devRef .tc main_v22) = orderOf (X (Proc.devRef .tc main_v21)) := by
  first | (after_reads_simp; done) | (after_reads_simp; rfl)

theorem at_7_v36 : StableHlo.after (hostOps0_7 (F := F)) X (Proc.devRef .tc main_v36) = pairBy (X (Proc.devRef .tc main_v20)) (X (Proc.devRef .tc main_v22)) := by
  after_reads_simp
  unfold pairBy wrapped pos nLive
  with_reducible rfl

theorem at_7_v39 : StableHlo.after (hostOps0_7 (F := F)) X (Proc.devRef .tc main_v39) = validOf (X (Proc.devRef .tc main_v20)) := by
  first | (after_reads_simp; done) | (after_reads_simp; rfl)

theorem at_7_c_9 : StableHlo.after (hostOps0_7 (F := F)) X (Proc.devRef .tc main_c_9) = constantI S_ 32 60#32 := by
  first | (after_reads_simp; done) | (after_reads_simp; rfl)

theorem at_8_v40 : StableHlo.after (hostOps0_8 (F := F)) X (Proc.devRef .tc main_v40) = remBy (X (Proc.devRef .tc main_c_9)) (X (Proc.devRef .tc main_v36)) := by
  after_reads_simp
  simp only [StableHlo.TRef.ofBuf_toBuf]
  rfl

theorem at_9_c_10 : StableHlo.after (hostOps0_9 (F := F)) X (Proc.devRef .tc main_c_10) = constantI S_ 32 60#32 := by
  first | (after_reads_simp; done) | (after_reads_simp; rfl)

theorem at_10_v41 : StableHlo.after (hostOps0_10 (F := F)) X (Proc.devRef .tc main_v41) = divBy (X (Proc.devRef .tc main_c_10)) (X (Proc.devRef .tc main_v36)) := by
  first | (after_reads_simp; done) | (after_reads_simp; rfl)

theorem at_11_v49 : StableHlo.after (hostOps0_11 (F := F)) X (Proc.devRef .tc main_v49) = takeBound (X (Proc.devRef .tc main_v36)) (X (Proc.devRef .tc main_v10)) := by
  first | (after_reads_simp; done) | (after_reads_simp; rfl)

theorem at_11_c_13 : StableHlo.after (hostOps0_11 (F := F)) X (Proc.devRef .tc main_c_13) = constantI S_ 32 0#32 := by
  first | (after_reads_simp; done) | (after_reads_simp; rfl)

theorem at_12_v50 : StableHlo.after (hostOps0_12 (F := F)) X (Proc.devRef .tc main_v50) = orElse (X (Proc.devRef .tc main_v39)) (X (Proc.devRef .tc main_v49)) (X (Proc.devRef .tc main_c_13)) := by
  first | (after_reads_simp; done) | (after_reads_simp; rfl)

theorem at_13_v58 : StableHlo.after (hostOps0_13 (F := F)) X (Proc.devRef .tc main_v58) = takeBound (X (Proc.devRef .tc main_v36)) (X (Proc.devRef .tc main_v18)) := by
  first | (after_reads_simp; done) | (after_reads_simp; rfl)

theorem at_13_c_16 : StableHlo.after (hostOps0_13 (F := F)) X (Proc.devRef .tc main_c_16) = constantI S_ 32 0#32 := by
  first | (after_reads_simp; done) | (after_reads_simp; rfl)

theorem at_14_v59 : StableHlo.after (hostOps0_14 (F := F)) X (Proc.devRef .tc main_v59) = orElse (X (Proc.devRef .tc main_v39)) (X (Proc.devRef .tc main_v58)) (X (Proc.devRef .tc main_c_16)) := by
  first | (after_reads_simp; done) | (after_reads_simp; rfl)

theorem at_15_v65 : StableHlo.after (hostOps0_15 (F := F)) X (Proc.devRef .tc main_v65) = firstOf (X (Proc.devRef .tc main_v40)) := by
  first | (after_reads_simp; done) | (after_reads_simp; rfl)

theorem at_15_v66 : StableHlo.after (hostOps0_15 (F := F)) X (Proc.devRef .tc main_v66) = (broadcastInDim S4x1x7168 ![0, 2] bcast_S4x7168_S4x1x7168_0_2 ((X (Proc.devRef .tc main_arg3)) : Vec F S4x7168 .f32) : Vec F S4x1x7168 .f32) := by
  first | (after_reads_simp; done) | (after_reads_simp; rfl)

theorem keep_0_arg1 : StableHlo.after (hostOps0 (F := F)) X (Proc.devRef .tc main_arg1) = X (Proc.devRef .tc main_arg1) := by
  after_reads_simp

theorem keep_0_arg3 : StableHlo.after (hostOps0 (F := F)) X (Proc.devRef .tc main_arg3) = X (Proc.devRef .tc main_arg3) := by
  after_reads_simp

theorem keep_1_arg3 : StableHlo.after (hostOps0_1 (F := F)) X (Proc.devRef .tc main_arg3) = X (Proc.devRef .tc main_arg3) := by
  after_reads_simp

theorem keep_2_arg3 : StableHlo.after (hostOps0_2 (F := F)) X (Proc.devRef .tc main_arg3) = X (Proc.devRef .tc main_arg3) := by
  after_reads_simp

theorem keep_3_arg3 : StableHlo.after (hostOps0_3 (F := F)) X (Proc.devRef .tc main_arg3) = X (Proc.devRef .tc main_arg3) := by
  after_reads_simp

theorem keep_4_arg3 : StableHlo.after (hostOps0_4 (F := F)) X (Proc.devRef .tc main_arg3) = X (Proc.devRef .tc main_arg3) := by
  after_reads_simp

theorem keep_5_arg3 : StableHlo.after (hostOps0_5 (F := F)) X (Proc.devRef .tc main_arg3) = X (Proc.devRef .tc main_arg3) := by
  after_reads_simp

theorem keep_6_arg3 : StableHlo.after (hostOps0_6 (F := F)) X (Proc.devRef .tc main_arg3) = X (Proc.devRef .tc main_arg3) := by
  after_reads_simp

theorem keep_7_arg3 : StableHlo.after (hostOps0_7 (F := F)) X (Proc.devRef .tc main_arg3) = X (Proc.devRef .tc main_arg3) := by
  after_reads_simp

theorem keep_8_arg3 : StableHlo.after (hostOps0_8 (F := F)) X (Proc.devRef .tc main_arg3) = X (Proc.devRef .tc main_arg3) := by
  after_reads_simp

theorem keep_9_arg3 : StableHlo.after (hostOps0_9 (F := F)) X (Proc.devRef .tc main_arg3) = X (Proc.devRef .tc main_arg3) := by
  after_reads_simp

theorem keep_10_arg3 : StableHlo.after (hostOps0_10 (F := F)) X (Proc.devRef .tc main_arg3) = X (Proc.devRef .tc main_arg3) := by
  after_reads_simp

theorem keep_11_arg3 : StableHlo.after (hostOps0_11 (F := F)) X (Proc.devRef .tc main_arg3) = X (Proc.devRef .tc main_arg3) := by
  after_reads_simp

theorem keep_12_arg3 : StableHlo.after (hostOps0_12 (F := F)) X (Proc.devRef .tc main_arg3) = X (Proc.devRef .tc main_arg3) := by
  after_reads_simp

theorem keep_13_arg3 : StableHlo.after (hostOps0_13 (F := F)) X (Proc.devRef .tc main_arg3) = X (Proc.devRef .tc main_arg3) := by
  after_reads_simp

theorem keep_14_arg3 : StableHlo.after (hostOps0_14 (F := F)) X (Proc.devRef .tc main_arg3) = X (Proc.devRef .tc main_arg3) := by
  after_reads_simp

theorem keep_1_v0 : StableHlo.after (hostOps0_1 (F := F)) X (Proc.devRef .tc main_v0) = X (Proc.devRef .tc main_v0) := by
  after_reads_simp

theorem keep_2_v0 : StableHlo.after (hostOps0_2 (F := F)) X (Proc.devRef .tc main_v0) = X (Proc.devRef .tc main_v0) := by
  after_reads_simp

theorem keep_3_v10 : StableHlo.after (hostOps0_3 (F := F)) X (Proc.devRef .tc main_v10) = X (Proc.devRef .tc main_v10) := by
  after_reads_simp

theorem keep_4_v10 : StableHlo.after (hostOps0_4 (F := F)) X (Proc.devRef .tc main_v10) = X (Proc.devRef .tc main_v10) := by
  after_reads_simp

theorem keep_5_v10 : StableHlo.after (hostOps0_5 (F := F)) X (Proc.devRef .tc main_v10) = X (Proc.devRef .tc main_v10) := by
  after_reads_simp

theorem keep_6_v10 : StableHlo.after (hostOps0_6 (F := F)) X (Proc.devRef .tc main_v10) = X (Proc.devRef .tc main_v10) := by
  after_reads_simp

theorem keep_7_v10 : StableHlo.after (hostOps0_7 (F := F)) X (Proc.devRef .tc main_v10) = X (Proc.devRef .tc main_v10) := by
  after_reads_simp

theorem keep_8_v10 : StableHlo.after (hostOps0_8 (F := F)) X (Proc.devRef .tc main_v10) = X (Proc.devRef .tc main_v10) := by
  after_reads_simp

theorem keep_9_v10 : StableHlo.after (hostOps0_9 (F := F)) X (Proc.devRef .tc main_v10) = X (Proc.devRef .tc main_v10) := by
  after_reads_simp

theorem keep_10_v10 : StableHlo.after (hostOps0_10 (F := F)) X (Proc.devRef .tc main_v10) = X (Proc.devRef .tc main_v10) := by
  after_reads_simp

theorem keep_5_v18 : StableHlo.after (hostOps0_5 (F := F)) X (Proc.devRef .tc main_v18) = X (Proc.devRef .tc main_v18) := by
  after_reads_simp

theorem keep_6_v18 : StableHlo.after (hostOps0_6 (F := F)) X (Proc.devRef .tc main_v18) = X (Proc.devRef .tc main_v18) := by
  after_reads_simp

theorem keep_7_v18 : StableHlo.after (hostOps0_7 (F := F)) X (Proc.devRef .tc main_v18) = X (Proc.devRef .tc main_v18) := by
  after_reads_simp

theorem keep_8_v18 : StableHlo.after (hostOps0_8 (F := F)) X (Proc.devRef .tc main_v18) = X (Proc.devRef .tc main_v18) := by
  after_reads_simp

theorem keep_9_v18 : StableHlo.after (hostOps0_9 (F := F)) X (Proc.devRef .tc main_v18) = X (Proc.devRef .tc main_v18) := by
  after_reads_simp

theorem keep_10_v18 : StableHlo.after (hostOps0_10 (F := F)) X (Proc.devRef .tc main_v18) = X (Proc.devRef .tc main_v18) := by
  after_reads_simp

theorem keep_11_v18 : StableHlo.after (hostOps0_11 (F := F)) X (Proc.devRef .tc main_v18) = X (Proc.devRef .tc main_v18) := by
  after_reads_simp

theorem keep_12_v18 : StableHlo.after (hostOps0_12 (F := F)) X (Proc.devRef .tc main_v18) = X (Proc.devRef .tc main_v18) := by
  after_reads_simp

theorem keep_2_v2 : StableHlo.after (hostOps0_2 (F := F)) X (Proc.devRef .tc main_v2) = X (Proc.devRef .tc main_v2) := by
  after_reads_simp

theorem keep_6_v20 : StableHlo.after (hostOps0_6 (F := F)) X (Proc.devRef .tc main_v20) = X (Proc.devRef .tc main_v20) := by
  after_reads_simp

theorem keep_8_v36 : StableHlo.after (hostOps0_8 (F := F)) X (Proc.devRef .tc main_v36) = X (Proc.devRef .tc main_v36) := by
  after_reads_simp

theorem keep_9_v36 : StableHlo.after (hostOps0_9 (F := F)) X (Proc.devRef .tc main_v36) = X (Proc.devRef .tc main_v36) := by
  after_reads_simp

theorem keep_10_v36 : StableHlo.after (hostOps0_10 (F := F)) X (Proc.devRef .tc main_v36) = X (Proc.devRef .tc main_v36) := by
  after_reads_simp

theorem keep_11_v36 : StableHlo.after (hostOps0_11 (F := F)) X (Proc.devRef .tc main_v36) = X (Proc.devRef .tc main_v36) := by
  after_reads_simp

theorem keep_12_v36 : StableHlo.after (hostOps0_12 (F := F)) X (Proc.devRef .tc main_v36) = X (Proc.devRef .tc main_v36) := by
  after_reads_simp

theorem keep_8_v39 : StableHlo.after (hostOps0_8 (F := F)) X (Proc.devRef .tc main_v39) = X (Proc.devRef .tc main_v39) := by
  after_reads_simp

theorem keep_9_v39 : StableHlo.after (hostOps0_9 (F := F)) X (Proc.devRef .tc main_v39) = X (Proc.devRef .tc main_v39) := by
  after_reads_simp

theorem keep_10_v39 : StableHlo.after (hostOps0_10 (F := F)) X (Proc.devRef .tc main_v39) = X (Proc.devRef .tc main_v39) := by
  after_reads_simp

theorem keep_11_v39 : StableHlo.after (hostOps0_11 (F := F)) X (Proc.devRef .tc main_v39) = X (Proc.devRef .tc main_v39) := by
  after_reads_simp

theorem keep_12_v39 : StableHlo.after (hostOps0_12 (F := F)) X (Proc.devRef .tc main_v39) = X (Proc.devRef .tc main_v39) := by
  after_reads_simp

theorem keep_13_v39 : StableHlo.after (hostOps0_13 (F := F)) X (Proc.devRef .tc main_v39) = X (Proc.devRef .tc main_v39) := by
  after_reads_simp

theorem keep_9_v40 : StableHlo.after (hostOps0_9 (F := F)) X (Proc.devRef .tc main_v40) = X (Proc.devRef .tc main_v40) := by
  after_reads_simp

theorem keep_10_v40 : StableHlo.after (hostOps0_10 (F := F)) X (Proc.devRef .tc main_v40) = X (Proc.devRef .tc main_v40) := by
  after_reads_simp

theorem keep_11_v40 : StableHlo.after (hostOps0_11 (F := F)) X (Proc.devRef .tc main_v40) = X (Proc.devRef .tc main_v40) := by
  after_reads_simp

theorem keep_12_v40 : StableHlo.after (hostOps0_12 (F := F)) X (Proc.devRef .tc main_v40) = X (Proc.devRef .tc main_v40) := by
  after_reads_simp

theorem keep_13_v40 : StableHlo.after (hostOps0_13 (F := F)) X (Proc.devRef .tc main_v40) = X (Proc.devRef .tc main_v40) := by
  after_reads_simp

theorem keep_14_v40 : StableHlo.after (hostOps0_14 (F := F)) X (Proc.devRef .tc main_v40) = X (Proc.devRef .tc main_v40) := by
  after_reads_simp

theorem keep_15_v40 : StableHlo.after (hostOps0_15 (F := F)) X (Proc.devRef .tc main_v40) = X (Proc.devRef .tc main_v40) := by
  after_reads_simp

theorem keep_11_v41 : StableHlo.after (hostOps0_11 (F := F)) X (Proc.devRef .tc main_v41) = X (Proc.devRef .tc main_v41) := by
  after_reads_simp

theorem keep_12_v41 : StableHlo.after (hostOps0_12 (F := F)) X (Proc.devRef .tc main_v41) = X (Proc.devRef .tc main_v41) := by
  after_reads_simp

theorem keep_13_v41 : StableHlo.after (hostOps0_13 (F := F)) X (Proc.devRef .tc main_v41) = X (Proc.devRef .tc main_v41) := by
  after_reads_simp

theorem keep_14_v41 : StableHlo.after (hostOps0_14 (F := F)) X (Proc.devRef .tc main_v41) = X (Proc.devRef .tc main_v41) := by
  after_reads_simp

theorem keep_15_v41 : StableHlo.after (hostOps0_15 (F := F)) X (Proc.devRef .tc main_v41) = X (Proc.devRef .tc main_v41) := by
  after_reads_simp

theorem keep_13_v50 : StableHlo.after (hostOps0_13 (F := F)) X (Proc.devRef .tc main_v50) = X (Proc.devRef .tc main_v50) := by
  after_reads_simp

theorem keep_14_v50 : StableHlo.after (hostOps0_14 (F := F)) X (Proc.devRef .tc main_v50) = X (Proc.devRef .tc main_v50) := by
  after_reads_simp

theorem keep_15_v50 : StableHlo.after (hostOps0_15 (F := F)) X (Proc.devRef .tc main_v50) = X (Proc.devRef .tc main_v50) := by
  after_reads_simp

theorem keep_15_v59 : StableHlo.after (hostOps0_15 (F := F)) X (Proc.devRef .tc main_v59) = X (Proc.devRef .tc main_v59) := by
  after_reads_simp

/-! ## The whole line -/

/-- The host operations before the call, in order. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]

omit [FloatOps F] in
theorem after_flatten (ls : List (List (HloOp τ sig (Elt F)))) (l : List (HloOp τ sig (Elt F))) (V : Valuation τ sig (Elt F)) :
    StableHlo.after (l :: ls).flatten V = StableHlo.after ls.flatten (StableHlo.after l V) := by
  rw [List.flatten_cons, StableHlo.after_append]

omit [FloatOps F] in
theorem after_flatten_nil (V : Valuation τ sig (Elt F)) :
    StableHlo.after (([] : List (List (HloOp τ sig (Elt F)))).flatten) V = V := rfl

theorem line_tile : StableHlo.after (opss (F := F)).flatten X (Proc.devRef .tc main_v40) = tileT (X (Proc.devRef .tc main_arg1)) := by
  simp only [after_flatten, after_flatten_nil]
  rw [keep_15_v40, keep_14_v40, keep_13_v40, keep_12_v40, keep_11_v40, keep_10_v40, keep_9_v40, at_8_v40, at_7_c_9, at_7_v36, keep_6_v20, at_5_v20, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1, at_6_v22, at_5_v21, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1]
  rfl

theorem line_expert : StableHlo.after (opss (F := F)).flatten X (Proc.devRef .tc main_v41) = expertT (X (Proc.devRef .tc main_arg1)) := by
  simp only [after_flatten, after_flatten_nil]
  rw [keep_15_v41, keep_14_v41, keep_13_v41, keep_12_v41, keep_11_v41, at_10_v41, at_9_c_10, keep_9_v36, keep_8_v36, at_7_v36, keep_6_v20, at_5_v20, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1, at_6_v22, at_5_v21, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1]
  rfl

theorem line_lo : StableHlo.after (opss (F := F)).flatten X (Proc.devRef .tc main_v50) = loT (X (Proc.devRef .tc main_arg1)) := by
  simp only [after_flatten, after_flatten_nil]
  rw [keep_15_v50, keep_14_v50, keep_13_v50, at_12_v50, keep_11_v39, keep_10_v39, keep_9_v39, keep_8_v39, at_7_v39, keep_6_v20, at_5_v20, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1, at_11_v49, keep_10_v36, keep_9_v36, keep_8_v36, at_7_v36, keep_6_v20, at_5_v20, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1, at_6_v22, at_5_v21, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1, keep_10_v10, keep_9_v10, keep_8_v10, keep_7_v10, keep_6_v10, keep_5_v10, keep_4_v10, keep_3_v10, at_2_v10, at_1_c_0, at_1_c_1, at_1_v9, at_0_v0, keep_0_arg1, at_11_c_13]
  rfl

theorem line_hi : StableHlo.after (opss (F := F)).flatten X (Proc.devRef .tc main_v59) = hiT (X (Proc.devRef .tc main_arg1)) := by
  simp only [after_flatten, after_flatten_nil]
  rw [keep_15_v59, at_14_v59, keep_13_v39, keep_12_v39, keep_11_v39, keep_10_v39, keep_9_v39, keep_8_v39, at_7_v39, keep_6_v20, at_5_v20, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1, at_13_v58, keep_12_v36, keep_11_v36, keep_10_v36, keep_9_v36, keep_8_v36, at_7_v36, keep_6_v20, at_5_v20, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1, at_6_v22, at_5_v21, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1, keep_12_v18, keep_11_v18, keep_10_v18, keep_9_v18, keep_8_v18, keep_7_v18, keep_6_v18, keep_5_v18, at_4_v18, at_3_c_3, at_3_c_4, at_3_v17, keep_2_v2, at_1_v2, keep_2_v0, keep_1_v0, at_0_v0, at_13_c_16]
  rfl

theorem line_first : StableHlo.after (opss (F := F)).flatten X (Proc.devRef .tc main_v65) = firstT (X (Proc.devRef .tc main_arg1)) := by
  simp only [after_flatten, after_flatten_nil]
  rw [at_15_v65, keep_14_v40, keep_13_v40, keep_12_v40, keep_11_v40, keep_10_v40, keep_9_v40, at_8_v40, at_7_c_9, at_7_v36, keep_6_v20, at_5_v20, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1, at_6_v22, at_5_v21, at_4_v18, at_3_c_3, at_3_c_4, at_3_v17, keep_2_v2, at_1_v2, keep_2_v0, keep_1_v0, at_0_v0, keep_4_v10, keep_3_v10, at_2_v10, at_1_c_0, at_1_c_1, at_1_v9, at_0_v0, keep_0_arg1]
  rfl

theorem line_scales : StableHlo.after (opss (F := F)).flatten X (Proc.devRef .tc main_v66) = (broadcastInDim S4x1x7168 ![0, 2] bcast_S4x7168_S4x1x7168_0_2 (X (Proc.devRef .tc main_arg3) : Vec F S4x7168 .f32) : Vec F S4x1x7168 .f32) := by
  simp only [after_flatten, after_flatten_nil]
  rw [at_15_v66, keep_14_arg3, keep_13_arg3, keep_12_arg3, keep_11_arg3, keep_10_arg3, keep_9_arg3, keep_8_arg3, keep_7_arg3, keep_6_arg3, keep_5_arg3, keep_4_arg3, keep_3_arg3, keep_2_arg3, keep_1_arg3, keep_0_arg3]

end Cert.KernelIdeal.Hand
-- ==== Proof.Ideal.Ranges.lean ====
module

public import proofs.«01_k».proof.Proof.Ideal.Tables
public import proofs.«01_k».proof.Proof.Gen.KernelIdeal.Skeleton
public import Idealize.ShloMosaic.Lib.Claim
public import Idealize.ShloMosaic.Lib.VecWindow
public import Idealize.ShloMosaic.Lib.WholeRead
public import Idealize.ShloMosaic.Lib.ValueIdx
public import Idealize.ShloMosaic.Lib.Routing.OpsSearch
public import Idealize.ShloMosaic.Lib.Routing.OpsSet
public import Idealize.ShloMosaic.Lib.Routing.OpsPair
public import Idealize.ShloMosaic.Lib.Pipeline.Value
public import Idealize.ShloMosaic.Lib.SortFacts

/-! # Every table entry is in range

The order of the pairs is a permutation of `0 … 239`, whatever the group sizes, so every grid point's pair is one of the
240, its tile one of the 60 and its expert one of the 4; and a grid point is marked as a first visit exactly when it is
the first of all or its tile differs from the one before it. -/

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.Routing
open Cert.KernelIdeal Cert.KernelIdeal.Gen

variable {F : FTy → Type} [FloatOps F]

local notation "𝕄" => MT nD τ sig Unit (Elt F) ℕ (UR sig nD τ) ℕ

/-- Each entry of the order is a pair number. -/
theorem order_range (x : IVec S240 1) (j : S240.Idx) : ∃ k : Fin 240, orderOf x j = BitVec.ofNat 32 k.val :=
  ⟨_, rfl⟩

/-- Each grid point's pair is a pair number. -/
theorem pair_range (l : IVec S240 1) (o : IVec S240 32) (ho : ∀ j, ∃ k : Fin 240, o j = BitVec.ofNat 32 k.val) (p : S63.Idx) :
    ∃ k : Fin 240, pairBy l o p = BitVec.ofNat 32 k.val := ho _

theorem pairOf_range (g : IVec S4 32) (p : S63.Idx) : ∃ k : Fin 240, pairOf g p = BitVec.ofNat 32 k.val :=
  pair_range _ _ (order_range _) p

/-- The remainder by 60 of a pair number. -/
theorem rem_word (x : IVec S63 32) (p : S63.Idx) {k : ℕ} (hk : k < 240) (hx : x p = BitVec.ofNat 32 k) :
    remBy (constantI S_ 32 60#32) x p = BitVec.ofNat 32 (k % 60) :=
  pyRem_ap (hb := bcast_S_S63) x (id (constantI S_ 32 60#32)) p hx rfl (by omega) (by omega) (by omega)

/-- The quotient by 60 of a pair number. -/
theorem div_word (x : IVec S63 32) (p : S63.Idx) {k : ℕ} (hk : k < 240) (hx : x p = BitVec.ofNat 32 k) :
    divBy (constantI S_ 32 60#32) x p = BitVec.ofNat 32 (k / 60) :=
  pyDiv_ap (hb := bcast_S_S63) x (id (constantI S_ 32 60#32)) p hx rfl (by omega) (by omega) (by omega)

theorem tile_lt (g : IVec S4 32) (p : S63.Idx) : (tileT g p).toNat < 60 := by
  obtain ⟨k, hk⟩ := pairOf_range g p
  unfold tileT
  rw [rem_word _ p k.isLt hk, BitVec.toNat_ofNat, Nat.mod_eq_of_lt (by omega)]
  omega

theorem expert_lt (g : IVec S4 32) (p : S63.Idx) : (expertT g p).toNat < 4 := by
  obtain ⟨k, hk⟩ := pairOf_range g p
  unfold expertT
  rw [div_word _ p k.isLt hk, BitVec.toNat_ofNat, Nat.mod_eq_of_lt (by omega)]
  omega

theorem words_tile : ∀ n : Fin 60, (∃ h : (∀ a, ((![n.val, 0] : Fin 2 → ℕ) a + 1) * S512x2048.size a ≤ S30720x2048.size a), EltTy.bits .bf16 = 32 ∨ (Rect.block (s := S30720x2048) S512x2048.size (![n.val, 0] : Fin 2 → ℕ) h).WholeWords (EltTy.packing .bf16)) := by
  decide
theorem words_expert : ∀ n : Fin 4, (∃ h : (∀ a, ((![n.val, 0, 0] : Fin 3 → ℕ) a + 1) * S1x2048x7168.size a ≤ S4x2048x7168.size a), EltTy.bits .fp8e4m3 = 32 ∨ (Rect.block (s := S4x2048x7168) S1x2048x7168.size (![n.val, 0, 0] : Fin 3 → ℕ) h).WholeWords (EltTy.packing .fp8e4m3)) := by
  decide
theorem words_scale : ∀ n : Fin 4, (∃ h : (∀ a, ((![n.val, 0, 0] : Fin 3 → ℕ) a + 1) * S1x1x7168.size a ≤ S4x1x7168.size a), EltTy.bits .f32 = 32 ∨ (Rect.block (s := S4x1x7168) S1x1x7168.size (![n.val, 0, 0] : Fin 3 → ℕ) h).WholeWords (EltTy.packing .f32)) := by
  decide
theorem words_out : ∀ n : Fin 60, (∃ h : (∀ a, ((![n.val, 0] : Fin 2 → ℕ) a + 1) * S512x7168.size a ≤ S30720x7168.size a), EltTy.bits .bf16 = 32 ∨ (Rect.block (s := S30720x7168) S512x7168.size (![n.val, 0] : Fin 2 → ℕ) h).WholeWords (EltTy.packing .bf16)) := by
  decide

/-- Every block the index maps name lies inside its array, when the tiles and the experts are in range. -/
theorem ok0_of (pf : pre0.Contents (Elt F)) (h0 : ∀ j : S63.Idx, BitVec.toNat (w := 32) (pf 0 j) < 60) (h1 : ∀ j : S63.Idx, BitVec.toNat (w := 32) (pf 1 j) < 4) :
    ok0 pf :=
  ⟨fun i => words_tile ⟨_, h0 _⟩, fun i => words_expert ⟨_, h1 _⟩, fun i => words_scale ⟨_, h1 _⟩, fun i => words_out ⟨_, h0 _⟩⟩

/-! ## The first-visit marks -/

theorem first_zero (t : IVec S63 32) : firstOf t (ix1 (n := 63) 0) = 1#32 := rfl

theorem first_succ (t : IVec S63 32) (i : Fin 62) :
    firstOf t (ix1 (n := 63) i.succ) = if t (ix1 (n := 63) i.succ) = t (ix1 (n := 63) i.castSucc) then 0#32 else 1#32 := by
  have hA : firstOf t (ix1 (n := 63) i.succ)
      = (IntOp.cmpi .ne (t (ix1 (n := 63) i.succ)) (t (ix1 (n := 63) i.castSucc))).setWidth 32 := by
    unfold firstOf
    rw [concatenate_pair_apply_right (s₁ := S1) (s₂ := S62) (t := S63) 0 _ _ concatenates_S1_S62_S63_d0 (ix1 (n := 63) i.succ) rfl rfl (ix1 (n := 62) i)
      (fun b hb => absurd (Subsingleton.elim _ _) hb) rfl]
    show (IntOp.cmpi .ne (extractStridedSlice S62 ![1] t slices_S63_S62_1 (ix1 (n := 62) i)) (extractStridedSlice S62 ![0] t slices_S63_S62_0 (ix1 (n := 62) i))).setWidth 32 = _
    rw [slice1 1 t slices_S63_S62_1 i (by omega), slice1 0 t slices_S63_S62_0 i (by omega)]
    have e1 : (⟨1 + i.val, by omega⟩ : Fin 63) = i.succ := Fin.ext (Nat.add_comm _ _)
    have e0 : (⟨0 + i.val, by omega⟩ : Fin 63) = i.castSucc := Fin.ext (Nat.zero_add _)
    rw [e1, e0]
  rw [hA]
  by_cases h : t (ix1 (n := 63) i.succ) = t (ix1 (n := 63) i.castSucc)
  · rw [if_pos h, h]; simp [IntOp.cmpi]
  · rw [if_neg h]; rw [show IntOp.cmpi .ne (t (ix1 (n := 63) i.succ)) (t (ix1 (n := 63) i.castSucc)) = 1#1 by simp only [IntOp.cmpi, bne, beq_eq_false_iff_ne.mpr h]; rfl]; rfl

end Cert.KernelIdeal.Hand
-- ==== Proof.Ideal.Phases.lean ====
module

public import proofs.«01_k».proof.Proof.Gen.KernelIdeal.Launch
public import proofs.«01_k».proof.Proof.Gen.KernelIdeal.Skeleton
public import Idealize.ShloMosaic.Lib.Claim
public import Idealize.ShloMosaic.Lib.VecWindow
public import Idealize.ShloMosaic.Lib.WholeRead
public import Idealize.ShloMosaic.Lib.ValueIdx

/-! # The kernel's body as three phases

The body reads three words of the prefetched tables — the first row `lo`, the end row `hi` and the mark `first` of the
grid point — and then runs up to three guarded phases: `quantise` fills the two scratch buffers with the codes and the
scales of the row tile, `writeAll` stores every column chunk of the output block, and `writeMasked` stores every column
chunk at the rows `lo ≤ r < hi` only. This module names the phases and says what the body does in terms of them. -/

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first phase: eight groups of 64 rows quantised one after the other. -/
def quantise (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) :
    Prog (TpuEff nD τ sig (Elt F) Λ₀ .tc) PUnit := do
  let ⟨v60, v62⟩ : Σ' (v60 : FVec F S64x2048 .fp8e4m3), IVec S64x1 32 ← k0_part1 i arg1 harg1 arg2 harg2 arg3 harg3 arg4 harg4 arg5 harg5 arg6 harg6 arg7 harg7 arg8 harg8 arg9 harg9 arg10 harg10 arg11 harg11
  let ⟨v74, v98, v102, c23_i32_31⟩ : Σ' (v74 : Vec F S64x2048 .bf16) (v98 : IVec S64x1 32) (v102 : IVec S64x1 32), BitVec 32 ← k0_part2 i arg1 harg1 arg2 harg2 arg3 harg3 arg4 harg4 arg5 harg5 arg6 harg6 arg7 harg7 arg8 harg8 arg9 harg9 arg10 harg10 arg11 harg11 v60 v62
  let ⟨v129, v145⟩ : Σ' (v129 : Vec F S64x2048 .bf16), IVec S64x255 32 ← k0_part3 i arg1 harg1 arg2 harg2 arg3 harg3 arg4 harg4 arg5 harg5 arg6 harg6 arg7 harg7 arg8 harg8 arg9 harg9 arg10 harg10 arg11 harg11 v74 v98 v102 c23_i32_31
  let ⟨v184, v186⟩ : Σ' (v184 : Vec F S64x2048 .bf16), FVec F S64 .bf16 ← k0_part4 i arg1 harg1 arg2 harg2 arg3 harg3 arg4 harg4 arg5 harg5 arg6 harg6 arg7 harg7 arg8 harg8 arg9 harg9 arg10 harg10 arg11 harg11 v129 v145
  let ⟨v225, v230⟩ : Σ' (v225 : FVec F S64x2048 .fp8e4m3), FVec F S64x1 .f32 ← k0_part5 i arg1 harg1 arg2 harg2 arg3 harg3 arg4 harg4 arg5 harg5 arg6 harg6 arg7 harg7 arg8 harg8 arg9 harg9 arg10 harg10 arg11 harg11 v184 v186
  let ⟨v263, v273⟩ : Σ' (v263 : IVec S64x1 32), FVec F S64x2048 .bf16 ← k0_part6 i arg1 harg1 arg2 harg2 arg3 harg3 arg4 harg4 arg5 harg5 arg6 harg6 arg7 harg7 arg8 harg8 arg9 harg9 arg10 harg10 arg11 harg11 v225 v230
  let ⟨v294, v312, v314, c126_i32_107⟩ : Σ' (v294 : Vec F S64x2048 .bf16) (v312 : IVec S64x1 32) (v314 : IVec S64x1 1), BitVec 32 ← k0_part7 i arg1 harg1 arg2 harg2 arg3 harg3 arg4 harg4 arg5 harg5 arg6 harg6 arg7 harg7 arg8 harg8 arg9 harg9 arg10 harg10 arg11 harg11 v263 v273
  let ⟨v349, v355, v356⟩ : Σ' (v349 : Vec F S64x2048 .bf16) (v355 : FVec F S64x1 .f32), IVec S1x255 32 ← k0_part8 i arg1 harg1 arg2 harg2 arg3 harg3 arg4 harg4 arg5 harg5 arg6 harg6 arg7 harg7 arg8 harg8 arg9 harg9 arg10 harg10 arg11 harg11 v294 v312 v314 c126_i32_107
  let v400 : FVec F S64x128 .f32 ← k0_part9 i arg1 harg1 arg2 harg2 arg3 harg3 arg4 harg4 arg5 harg5 arg6 harg6 arg7 harg7 arg8 harg8 arg9 harg9 arg10 harg10 arg11 harg11 v349 v355 v356
  let ⟨v428, v441, v442⟩ : Σ' (v428 : IVec S64x1 32) (v441 : FVec F S64x2048 .bf16), F .bf16 ← k0_part10 i arg1 harg1 arg2 harg2 arg3 harg3 arg4 harg4 arg5 harg5 arg6 harg6 arg7 harg7 arg8 harg8 arg9 harg9 arg10 harg10 arg11 harg11 v400
  let v451 : Vec F S64x2048 .fp8e4m3 ← Prog.lift (.load arg10 (Rect.unit (s := S512x2048) ![448, 0] S64x2048.size inb_S512x2048_S64x2048_448_0).toLoadRect (View.loadsAt_vmem h_S64x2048))
  Prog.lift (.store arg10 (Rect.unit (s := S512x2048) ![448, 0] S64x2048.size inb_S512x2048_S64x2048_448_0) (k0_pay1 v441 v442) Finset.univ (View.stores_vmem h_S64x2048 (harg10.storeExact_slice rfl _ packedfp8e4m3_S512x2048_S64x2048_448_0) (fun _ => rfl)) (.inl rfl))
  let v456 : Vec F S64x128 .f32 ← Prog.lift (.load arg11 (Rect.unit (s := S512x128) ![448, 0] S64x128.size inb_S512x128_S64x128_448_0).toLoadRect (View.loadsAt_vmem h_S64x128))
  Prog.lift (.store arg11 (Rect.unit (s := S512x128) ![448, 0] S64x128.size inb_S512x128_S64x128_448_0) (k0_pay2 (F := F) v428) Finset.univ (View.stores_vmem_bits_univ h_S64x128 rfl) (.inl rfl))
  pure ⟨⟩
/-- The body's second phase: fourteen column chunks of the block stored whole. -/
def writeAll (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) :
    Prog (TpuEff nD τ sig (Elt F) Λ₀ .tc) PUnit := do
  let v45 : Vec F S512x2048 .fp8e4m3 ← k0_part11 i arg1 harg1 arg2 harg2 arg3 harg3 arg4 harg4 arg5 harg5 arg6 harg6 arg7 harg7 arg8 harg8 arg9 harg9 arg10 harg10 arg11 harg11
  let v74 : FVec F S512x512 .f32 ← k0_part12 i arg1 harg1 arg2 harg2 arg3 harg3 arg4 harg4 arg5 harg5 arg6 harg6 arg7 harg7 arg8 harg8 arg9 harg9 arg10 harg10 arg11 harg11 v45
  let v103 : FVec F S512x512 .f32 ← k0_part13 i arg1 harg1 arg2 harg2 arg3 harg3 arg4 harg4 arg5 harg5 arg6 harg6 arg7 harg7 arg8 harg8 arg9 harg9 arg10 harg10 arg11 harg11 v74
  let v134 : FVec F S512x512 .bf16 ← k0_part14 i arg1 harg1 arg2 harg2 arg3 harg3 arg4 harg4 arg5 harg5 arg6 harg6 arg7 harg7 arg8 harg8 arg9 harg9 arg10 harg10 arg11 harg11 v103
  let v162 : Vec F S512x2048 .fp8e4m3 ← k0_part15 i arg1 harg1 arg2 harg2 arg3 harg3 arg4 harg4 arg5 harg5 arg6 harg6 arg7 harg7 arg8 harg8 arg9 harg9 arg10 harg10 arg11 harg11 v134
  let ⟨v188, v190, cst_163⟩ : Σ' (v188 : Vec F S512x2048 .fp8e4m3) (v190 : FVec F S2048x512 .fp8e4m3), FVec F S512x512 .f32 ← k0_part16 i arg1 harg1 arg2 harg2 arg3 harg3 arg4 harg4 arg5 harg5 arg6 harg6 arg7 harg7 arg8 harg8 arg9 harg9 arg10 harg10 arg11 harg11 v162
  let v192 : Vec F S512x1 .f32 ← Prog.lift (.load arg11 (Rect.unit (s := S512x128) ![0, 0] S512x1.size inb_S512x128_S512x1_0_0).toLoadRect (View.loadsAt_vmem h_S512x1))
  let v195 : Vec F S1x1x512 .f32 ← Prog.lift (.load arg8 (Rect.unit (s := S1x1x7168) ![0, 0, 6656] S1x1x512.size inb_S1x1x7168_S1x1x512_0_0_6656).toLoadRect (View.loadsAt_vmem h_S1x1x512))
  let v200 : Vec F S512x512 .bf16 ← Prog.lift (.load arg9 (Rect.unit (s := S512x7168) ![0, 6656] S512x512.size inb_S512x7168_S512x512_0_6656).toLoadRect (View.loadsAt_vmem h_S512x512))
  Prog.lift (.store arg9 (Rect.unit (s := S512x7168) ![0, 6656] S512x512.size inb_S512x7168_S512x512_0_6656) (k0_pay3 v188 v190 cst_163 v192 v195) Finset.univ (View.stores_vmem h_S512x512 (harg9.storeExact_slice rfl _ packedbf16_S512x7168_S512x512_0_6656) (fun _ => rfl)) (.inl rfl))
  pure ⟨⟩
/-- The body's third phase: fourteen column chunks of the block stored at the rows from `v1` below `v3`. -/
def writeMasked (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) (v1 v3 : Elt F .i32) :
    Prog (TpuEff nD τ sig (Elt F) Λ₀ .tc) PUnit := do
  let ⟨v49, v51⟩ : Σ' (v49 : FVec F S512x512 .f32), FVec F S1x512 .f32 ← k0_part17 i arg1 harg1 arg2 harg2 arg3 harg3 arg4 harg4 arg5 harg5 arg6 harg6 arg7 harg7 arg8 harg8 arg9 harg9 arg10 harg10 arg11 harg11 v1 v3
  k0_part18 i arg1 harg1 arg2 harg2 arg3 harg3 arg4 harg4 arg5 harg5 arg6 harg6 arg7 harg7 arg8 harg8 arg9 harg9 arg10 harg10 arg11 harg11 v1 v3 v49 v51
  let ⟨v121, v123⟩ : Σ' (v121 : FVec F S512x512 .f32), FVec F S1x512 .f32 ← k0_part19 i arg1 harg1 arg2 harg2 arg3 harg3 arg4 harg4 arg5 harg5 arg6 harg6 arg7 harg7 arg8 harg8 arg9 harg9 arg10 harg10 arg11 harg11 v1 v3
  k0_part20 i arg1 harg1 arg2 harg2 arg3 harg3 arg4 harg4 arg5 harg5 arg6 harg6 arg7 harg7 arg8 harg8 arg9 harg9 arg10 harg10 arg11 harg11 v1 v3 v121 v123
  let ⟨v193, v195⟩ : Σ' (v193 : FVec F S512x512 .f32), FVec F S1x512 .f32 ← k0_part21 i arg1 harg1 arg2 harg2 arg3 harg3 arg4 harg4 arg5 harg5 arg6 harg6 arg7 harg7 arg8 harg8 arg9 harg9 arg10 harg10 arg11 harg11 v1 v3
  k0_part22 i arg1 harg1 arg2 harg2 arg3 harg3 arg4 harg4 arg5 harg5 arg6 harg6 arg7 harg7 arg8 harg8 arg9 harg9 arg10 harg10 arg11 harg11 v1 v3 v193 v195
  let ⟨v265, v267⟩ : Σ' (v265 : FVec F S512x512 .f32), FVec F S1x512 .f32 ← k0_part23 i arg1 harg1 arg2 harg2 arg3 harg3 arg4 harg4 arg5 harg5 arg6 harg6 arg7 harg7 arg8 harg8 arg9 harg9 arg10 harg10 arg11 harg11 v1 v3
  k0_part24 i arg1 harg1 arg2 harg2 arg3 harg3 arg4 harg4 arg5 harg5 arg6 harg6 arg7 harg7 arg8 harg8 arg9 harg9 arg10 harg10 arg11 harg11 v1 v3 v265 v267
  let ⟨v337, v339⟩ : Σ' (v337 : FVec F S512x512 .f32), FVec F S1x512 .f32 ← k0_part25 i arg1 harg1 arg2 harg2 arg3 harg3 arg4 harg4 arg5 harg5 arg6 harg6 arg7 harg7 arg8 harg8 arg9 harg9 arg10 harg10 arg11 harg11 v1 v3
  let v349 : Vec F S512x512 .bf16 ← Prog.lift (.load arg9 (Rect.unit (s := S512x7168) ![0, 6656] S512x512.size inb_S512x7168_S512x512_0_6656).toLoadRect (View.loadsAt_vmem h_S512x512))
  let v354 : Vec F S512x512 .bf16 ← Prog.lift (.load arg9 (Rect.unit (s := S512x7168) ![0, 6656] S512x512.size inb_S512x7168_S512x512_0_6656).toLoadRect (View.loadsAt_vmem h_S512x512))
  Prog.lift (.store arg9 (Rect.unit (s := S512x7168) ![0, 6656] S512x512.size inb_S512x7168_S512x512_0_6656) (k0_pay4 v1 v3 v337 v339 v349) Finset.univ (View.stores_vmem h_S512x512 (harg9.storeExact_slice rfl _ packedbf16_S512x7168_S512x512_0_6656) (fun _ => rfl)) (.inl rfl))
  pure ⟨⟩
/-- The condition of the first phase. -/
abbrev condQ (v1 v3 v5 : BitVec 32) : BitVec 1 :=
  Scalar.cmpi .ne (Scalar.extui (Scalar.andi (Scalar.cmpi .eq v5 1#32) (Scalar.cmpi .slt v1 v3)) : BitVec 32) 0#32

/-- What the body does once the three words are read. -/
def phases (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) (v1 v3 v5 : Elt F .i32) :
    Prog (TpuEff nD τ sig (Elt F) Λ₀ .tc) PUnit := do
  if condQ v1 v3 v5 = 1#1 then quantise i arg1 harg1 arg2 harg2 arg3 harg3 arg4 harg4 arg5 harg5 arg6 harg6 arg7 harg7 arg8 harg8 arg9 harg9 arg10 harg10 arg11 harg11 else pure ⟨⟩
  if k0_cond2 v5 = 1#1 then writeAll i arg1 harg1 arg2 harg2 arg3 harg3 arg4 harg4 arg5 harg5 arg6 harg6 arg7 harg7 arg8 harg8 arg9 harg9 arg10 harg10 arg11 harg11 else pure ⟨⟩
  if k0_cond3 v1 v3 v5 = 1#1 then writeMasked i arg1 harg1 arg2 harg2 arg3 harg3 arg4 harg4 arg5 harg5 arg6 harg6 arg7 harg7 arg8 harg8 arg9 harg9 arg10 harg10 arg11 harg11 v1 v3 else pure ⟨⟩
  pure ⟨⟩

/-- The phases, one after another. -/
theorem phases_eq (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) (v1 v3 v5 : Elt F .i32) :
    phases i arg1 harg1 arg2 harg2 arg3 harg3 arg4 harg4 arg5 harg5 arg6 harg6 arg7 harg7 arg8 harg8 arg9 harg9 arg10 harg10 arg11 harg11 v1 v3 v5 =
  ((if condQ v1 v3 v5 = 1#1 then quantise i arg1 harg1 arg2 harg2 arg3 harg3 arg4 harg4 arg5 harg5 arg6 harg6 arg7 harg7 arg8 harg8 arg9 harg9 arg10 harg10 arg11 harg11 else pure ⟨⟩) >>= fun _ =>
  (if k0_cond2 v5 = 1#1 then writeAll i arg1 harg1 arg2 harg2 arg3 harg3 arg4 harg4 arg5 harg5 arg6 harg6 arg7 harg7 arg8 harg8 arg9 harg9 arg10 harg10 arg11 harg11 else pure ⟨⟩) >>= fun _ =>
  (if k0_cond3 v1 v3 v5 = 1#1 then writeMasked i arg1 harg1 arg2 harg2 arg3 harg3 arg4 harg4 arg5 harg5 arg6 harg6 arg7 harg7 arg8 harg8 arg9 harg9 arg10 harg10 arg11 harg11 v1 v3 else pure ⟨⟩) >>= fun _ => pure ⟨⟩) := by
  unfold phases
  by_cases h1 : condQ v1 v3 v5 = 1#1 <;> by_cases h2 : k0_cond2 v5 = 1#1 <;> by_cases h3 : k0_cond3 v1 v3 v5 = 1#1 <;>
    simp only [h1, h2, h3, if_true, if_false, pure_bind]

/-- The printed body is the three words' reads, then the phases. -/
theorem body_eq (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) :
    cc0_grouped_fp8_matmul (F := F) i arg1 harg1 arg2 harg2 arg3 harg3 arg4 harg4 arg5 harg5 arg6 harg6 arg7 harg7 arg8 harg8 arg9 harg9 arg10 harg10 arg11 harg11 = (do
      let v1 : Elt F .i32 ← smemLoad arg3 (Rect.unit (s := S63) (k0_off1 i) S1.size (k0_off1_inb i)) numel1_S1 rfl
      let v3 : Elt F .i32 ← smemLoad arg4 (Rect.unit (s := S63) (k0_off1 i) S1.size (k0_off1_inb i)) numel1_S1 rfl
      let v5 : Elt F .i32 ← smemLoad arg5 (Rect.unit (s := S63) (k0_off1 i) S1.size (k0_off1_inb i)) numel1_S1 rfl
      phases i arg1 harg1 arg2 harg2 arg3 harg3 arg4 harg4 arg5 harg5 arg6 harg6 arg7 harg7 arg8 harg8 arg9 harg9 arg10 harg10 arg11 harg11 v1 v3 v5) := by
  rw [cc0_grouped_fp8_matmul_eq_skeleton]; rfl

end Cert.KernelIdeal.Hand
end
-- ==== Proof.Ideal.Triples.lean ====
module

public import proofs.«01_k».proof.Proof.Ideal.Phases
public import Idealize.ShloMosaic.Lib.Claim
public import Idealize.ShloMosaic.Lib.VecWindow
public import Idealize.ShloMosaic.Lib.WholeRead
public import Idealize.ShloMosaic.Lib.ValueIdx
public import Idealize.ShloMosaic.Lib.Ring

/-! # What each phase of the body leaves

`codesOf` and `scaleOf` are the two scratch buffers after the first phase, `fullOf` the output block after the second
and `maskOf` the output block after the third, each as a function of what the phase reads. -/

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

/-- The codes of one group of 64 rows. -/
def qcodes (v : Vec F S64x2048 .bf16) : FVec F S64x2048 .fp8e4m3 := k0_pay8 (k0_pay6 v)
/-- The scales of one group of 64 rows, each row's scale in 128 lanes. -/
def qscale (v : Vec F S64x2048 .bf16) : FVec F S64x128 .f32 := k0_pay9 (k0_pay7 v)

/-- Group `g` of 64 rows of the row tile. -/
def rows (x : Vec F S512x2048 .bf16) (g : Fin 8) : Vec F S64x2048 .bf16 :=
  fun y => x (ix2 ⟨64 * g.val + (y 0).val, by have := idx2_lt0 y; omega⟩ (y 1))

/-- The codes of a row tile. -/
def codesOf (x : Vec F S512x2048 .bf16) : Vec F S512x2048 .fp8e4m3 :=
  fun y => qcodes (rows x ⟨(y 0).val / 64, by have := idx2_lt0 y; omega⟩) (ix2 ⟨(y 0).val % 64, by omega⟩ (y 1))
/-- The scales of a row tile. -/
def scaleOf (x : Vec F S512x2048 .bf16) : Vec F S512x128 .f32 :=
  fun y => qscale (rows x ⟨(y 0).val / 64, by have := idx2_lt0 y; omega⟩) (ix2 ⟨(y 0).val % 64, by omega⟩ (y 1))

/-! The printed text of each group cuts the same formula at its own places; every group's stores are the first group's. -/

theorem codes_g0 (v : Vec F S64x2048 .bf16) : k0_pay8 (k0_pay6 v) = qcodes v := by
  simp only [qcodes, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem scale_g0 (v : Vec F S64x2048 .bf16) : k0_pay9 (k0_pay7 v) = qscale v := by
  simp only [qscale, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem codes_g1 (v : Vec F S64x2048 .bf16) : k0_pay12 v (k0_pay11 v) 23#32 = qcodes v := by
  simp only [qcodes, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem scale_g1 (v : Vec F S64x2048 .bf16) : k0_pay13 (k0_pay10 v) = qscale v := by
  simp only [qscale, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem codes_g2 (v : Vec F S64x2048 .bf16) : k0_pay16 v (k0_pay14 v) = qcodes v := by
  simp only [qcodes, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem scale_g2 (v : Vec F S64x2048 .bf16) : k0_pay17 (k0_pay14 v) = qscale v := by
  simp only [qscale, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem codes_g3 (v : Vec F S64x2048 .bf16) : k0_pay22 (k0_pay20 v (k0_pay18 v)) = qcodes v := by
  simp only [qcodes, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem scale_g3 (v : Vec F S64x2048 .bf16) : k0_pay23 (k0_pay21 (k0_pay18 v)) = qscale v := by
  simp only [qscale, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem codes_g4 (v : Vec F S64x2048 .bf16) : k0_pay26 (k0_pay25 v) = qcodes v := by
  simp only [qcodes, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem scale_g4 (v : Vec F S64x2048 .bf16) : k0_pay27 (k0_pay24 v) = qscale v := by
  simp only [qscale, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem codes_g5 (v : Vec F S64x2048 .bf16) : k0_pay31 v (k0_pay28 v) (k0_pay29 v) 126#32 = qcodes v := by
  simp only [qcodes, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem scale_g5 (v : Vec F S64x2048 .bf16) : k0_pay32 (k0_pay28 v) (k0_pay29 v) 126#32 = qscale v := by
  simp only [qscale, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem codes_g6 (v : Vec F S64x2048 .bf16) : k0_pay35 v (k0_pay33 v) (iota .tc S1x255 32 [1] iota_S1x255_d1_w32) = qcodes v := by
  simp only [qcodes, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem scale_g6 (v : Vec F S64x2048 .bf16) : k0_pay37 (k0_pay36 (k0_pay33 v) (iota .tc S1x255 32 [1] iota_S1x255_d1_w32)) = qscale v := by
  simp only [qscale, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem codes_g7 (v : Vec F S64x2048 .bf16) : k0_pay1 (k0_pay39 v) k0_pay40 = qcodes v := by
  simp only [qcodes, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
theorem scale_g7 (v : Vec F S64x2048 .bf16) : k0_pay2 (k0_pay38 v) = qscale v := by
  simp only [qscale, k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]

/-- A load of 64 rows of the tile is that group of rows. -/
theorem readAt_rows (arg6 : Memref sig .tc .vmem S512x2048 .bf16) (x : Vec F S512x2048 .bf16) (f : arg6.view.ty.Contents (Elt F))
    (hf : arg6.view.read (Elt F) f = x) (g : Fin 8) (n : ℕ) (hn : n = 64 * g.val) (inb : ∀ a, (![n, 0] : Fin 2 → ℕ) a + S64x2048.size a ≤ S512x2048.size a) :
    arg6.view.readAt (Elt F) (Rect.unit (s := S512x2048) ![n, 0] S64x2048.size inb).toLoadRect f = rows x g := by
  subst hn hf
  funext y
  show arg6.view.read (Elt F) f _ = arg6.view.read (Elt F) f _
  congr 1
  funext a
  match a with
  | ⟨0, _⟩ => apply Fin.ext; show 64 * g.val + 1 * (y 0).val = 64 * g.val + (y 0).val; omega
  | ⟨1, _⟩ => apply Fin.ext; show 0 + 1 * (y 1).val = (y 1).val; omega

/-- A group's stored codes are the tile's codes at the group's rows. -/
theorem codes_piece (x : Vec F S512x2048 .bf16) (g : Fin 8) (n : ℕ) (hn : n = 64 * g.val) (v : Vec F S64x2048 .bf16) (hv : v = rows x g)
    (p : FVec F S64x2048 .fp8e4m3) (hp : p = qcodes v) (inb : ∀ a, (![n, 0] : Fin 2 → ℕ) a + S64x2048.size a ≤ S512x2048.size a)
    (z : S64x2048.Idx) : p z = codesOf x ((Rect.unit (s := S512x2048) ![n, 0] S64x2048.size inb).emb z) := by
  subst hn hv hp
  have h0 : (z 0).val < 64 := (z 0).isLt
  show qcodes (rows x g) z = qcodes (rows x ⟨(64 * g.val + 1 * (z 0).val) / 64, _⟩) (ix2 ⟨(64 * g.val + 1 * (z 0).val) % 64, _⟩ ⟨0 + 1 * (z 1).val, _⟩)
  have e1 : (⟨(64 * g.val + 1 * (z 0).val) / 64, by omega⟩ : Fin 8) = g := Fin.ext (by show (64 * g.val + 1 * (z 0).val) / 64 = g.val; omega)
  rw [e1]
  congr 1
  funext a
  match a with
  | ⟨0, _⟩ => apply Fin.ext; show (z 0).val = (64 * g.val + 1 * (z 0).val) % 64; omega
  | ⟨1, _⟩ => apply Fin.ext; show (z 1).val = 0 + 1 * (z 1).val; omega

/-- A group's stored scales are the tile's scales at the group's rows. -/
theorem scale_piece (x : Vec F S512x2048 .bf16) (g : Fin 8) (n : ℕ) (hn : n = 64 * g.val) (v : Vec F S64x2048 .bf16) (hv : v = rows x g)
    (p : FVec F S64x128 .f32) (hp : p = qscale v) (inb : ∀ a, (![n, 0] : Fin 2 → ℕ) a + S64x128.size a ≤ S512x128.size a)
    (z : S64x128.Idx) : p z = scaleOf x ((Rect.unit (s := S512x128) ![n, 0] S64x128.size inb).emb z) := by
  subst hn hv hp
  have h0 : (z 0).val < 64 := (z 0).isLt
  show qscale (rows x g) z = qscale (rows x ⟨(64 * g.val + 1 * (z 0).val) / 64, _⟩) (ix2 ⟨(64 * g.val + 1 * (z 0).val) % 64, _⟩ ⟨0 + 1 * (z 1).val, _⟩)
  have e1 : (⟨(64 * g.val + 1 * (z 0).val) / 64, by omega⟩ : Fin 8) = g := Fin.ext (by show (64 * g.val + 1 * (z 0).val) / 64 = g.val; omega)
  rw [e1]
  congr 1
  funext a
  match a with
  | ⟨0, _⟩ => apply Fin.ext; show (z 0).val = (64 * g.val + 1 * (z 0).val) % 64; omega
  | ⟨1, _⟩ => apply Fin.ext; show (z 1).val = 0 + 1 * (z 1).val; omega

/-- The first phase leaves the tile's codes and scales in the two scratch buffers, whatever they held. -/
theorem quantise_wp (c : Dev nD) (E : Set ℕ) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole)
    (q6 : PosShare TreeShare) (x : Vec F S512x2048 .bf16) (cd : Vec F S512x2048 .fp8e4m3) (sc : Vec F S512x128 .f32) (K : PUnit → sProp 𝕄) :
    iprop(owns (c : Thread nD τ) arg6 q6 x ∗ owns (c : Thread nD τ) arg10 fullShare cd ∗ owns (c : Thread nD τ) arg11 fullShare sc
      ∗ (owns (c : Thread nD τ) arg6 q6 x ∗ owns (c : Thread nD τ) arg10 fullShare (codesOf x) ∗ owns (c : Thread nD τ) arg11 fullShare (scaleOf x) -∗ K ⟨⟩))
    ⊢ wp frame (wpE (defs₀ (F := F)) Variants.none c none) E (quantise i arg1 harg1 arg2 harg2 arg3 harg3 arg4 harg4 arg5 harg5 arg6 harg6 arg7 harg7 arg8 harg8 arg9 harg9 arg10 harg10 arg11 harg11) K := by
  unfold quantise
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f6, %hf6, H6⟩, ⟨%f10, %hf10, H10⟩, ⟨%f11, %hf11, H11⟩, Hk⟩
  sl_exec
  rw [wp_ret]; imodintro
  iapply Hk
  isplitl [H6]
  · iexists f6; isplitr; · ipureintro; exact hf6
    iexact H6
  isplitl [H10]
  · iexists _; isplitr [H10]; swap
    · iexact H10
    · ipureintro
      funext y
      refine View.read_writes_apply_of_pieces _ _ (codesOf x) _ ?_ y (View.cover_of_tiledL (s := S512x2048) _ ![64, 2048] (by sl_kernel_rfl) y)
      simp only [List.forall_mem_cons, List.not_mem_nil, false_imp_iff, implies_true, _root_.and_true]
      refine ⟨?_, ?_, ?_, ?_, ?_, ?_, ?_, ?_⟩
      · exact fun z => codes_piece x 7 448 rfl _ (readAt_rows arg6 x f6 hf6 7 448 rfl (by decide)) _ (codes_g7 _) _ z
      · exact fun z => codes_piece x 6 384 rfl _ (readAt_rows arg6 x f6 hf6 6 384 rfl (by decide)) _ (codes_g6 _) _ z
      · exact fun z => codes_piece x 5 320 rfl _ (readAt_rows arg6 x f6 hf6 5 320 rfl (by decide)) _ (codes_g5 _) _ z
      · exact fun z => codes_piece x 4 256 rfl _ (readAt_rows arg6 x f6 hf6 4 256 rfl (by decide)) _ (codes_g4 _) _ z
      · exact fun z => codes_piece x 3 192 rfl _ (readAt_rows arg6 x f6 hf6 3 192 rfl (by decide)) _ (codes_g3 _) _ z
      · exact fun z => codes_piece x 2 128 rfl _ (readAt_rows arg6 x f6 hf6 2 128 rfl (by decide)) _ (codes_g2 _) _ z
      · exact fun z => codes_piece x 1 64 rfl _ (readAt_rows arg6 x f6 hf6 1 64 rfl (by decide)) _ (codes_g1 _) _ z
      · exact fun z => codes_piece x 0 0 rfl _ (readAt_rows arg6 x f6 hf6 0 0 rfl (by decide)) _ (codes_g0 _) _ z
  · iexists _; isplitr [H11]; swap
    · iexact H11
    · ipureintro
      funext y
      refine View.read_writes_apply_of_pieces _ _ (scaleOf x) _ ?_ y (View.cover_of_tiledL (s := S512x128) _ ![64, 128] (by sl_kernel_rfl) y)
      simp only [List.forall_mem_cons, List.not_mem_nil, false_imp_iff, implies_true, _root_.and_true]
      refine ⟨?_, ?_, ?_, ?_, ?_, ?_, ?_, ?_⟩
      · exact fun z => scale_piece x 7 448 rfl _ (readAt_rows arg6 x f6 hf6 7 448 rfl (by decide)) _ (scale_g7 _) _ z
      · exact fun z => scale_piece x 6 384 rfl _ (readAt_rows arg6 x f6 hf6 6 384 rfl (by decide)) _ (scale_g6 _) _ z
      · exact fun z => scale_piece x 5 320 rfl _ (readAt_rows arg6 x f6 hf6 5 320 rfl (by decide)) _ (scale_g5 _) _ z
      · exact fun z => scale_piece x 4 256 rfl _ (readAt_rows arg6 x f6 hf6 4 256 rfl (by decide)) _ (scale_g4 _) _ z
      · exact fun z => scale_piece x 3 192 rfl _ (readAt_rows arg6 x f6 hf6 3 192 rfl (by decide)) _ (scale_g3 _) _ z
      · exact fun z => scale_piece x 2 128 rfl _ (readAt_rows arg6 x f6 hf6 2 128 rfl (by decide)) _ (scale_g2 _) _ z
      · exact fun z => scale_piece x 1 64 rfl _ (readAt_rows arg6 x f6 hf6 1 64 rfl (by decide)) _ (scale_g1 _) _ z
      · exact fun z => scale_piece x 0 0 rfl _ (readAt_rows arg6 x f6 hf6 0 0 rfl (by decide)) _ (scale_g0 _) _ z

end Cert.KernelIdeal.Hand
end
-- ==== Proof.Ideal.Stores.lean ====
module

public import proofs.«01_k».proof.Proof.Ideal.Triples
public import Idealize.ShloMosaic.Lib.Claim
public import Idealize.ShloMosaic.Lib.VecWindow
public import Idealize.ShloMosaic.Lib.WholeRead
public import Idealize.ShloMosaic.Lib.ValueIdx
public import Idealize.ShloMosaic.Lib.Ring

/-! # What the two storing phases leave

`fullOf` is the output block after the second phase and `maskOf` the output block after the third, each as a function of
the codes, the scales, the expert's weights and their scales that the phase reads. -/

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

/-! The printed text of each chunk cuts the same formula at its own places; every chunk's store is the first chunk's. -/

theorem full_c0 (cd : Vec F S512x2048 .fp8e4m3) (w : Vec F S1x2048x512 .fp8e4m3) (sc : Vec F S512x1 .f32) (ws : Vec F S1x1x512 .f32) :
    k0_pay41 cd w sc ws = k0_pay41 cd w sc ws := by
  rfl
theorem full_c1 (cd : Vec F S512x2048 .fp8e4m3) (w : Vec F S1x2048x512 .fp8e4m3) (sc : Vec F S512x1 .f32) (ws : Vec F S1x1x512 .f32) :
    k0_pay42 cd w sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c2 (cd : Vec F S512x2048 .fp8e4m3) (w : Vec F S1x2048x512 .fp8e4m3) (sc : Vec F S512x1 .f32) (ws : Vec F S1x1x512 .f32) :
    k0_pay43 cd w sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c3 (cd : Vec F S512x2048 .fp8e4m3) (w : Vec F S1x2048x512 .fp8e4m3) (sc : Vec F S512x1 .f32) (ws : Vec F S1x1x512 .f32) :
    k0_pay44 cd w sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c4 (cd : Vec F S512x2048 .fp8e4m3) (w : Vec F S1x2048x512 .fp8e4m3) (sc : Vec F S512x1 .f32) (ws : Vec F S1x1x512 .f32) :
    k0_pay46 (k0_pay45 cd w) sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c5 (cd : Vec F S512x2048 .fp8e4m3) (w : Vec F S1x2048x512 .fp8e4m3) (sc : Vec F S512x1 .f32) (ws : Vec F S1x1x512 .f32) :
    k0_pay47 cd w sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c6 (cd : Vec F S512x2048 .fp8e4m3) (w : Vec F S1x2048x512 .fp8e4m3) (sc : Vec F S512x1 .f32) (ws : Vec F S1x1x512 .f32) :
    k0_pay49 (k0_pay48 cd w sc) ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c7 (cd : Vec F S512x2048 .fp8e4m3) (w : Vec F S1x2048x512 .fp8e4m3) (sc : Vec F S512x1 .f32) (ws : Vec F S1x1x512 .f32) :
    k0_pay50 cd w sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c8 (cd : Vec F S512x2048 .fp8e4m3) (w : Vec F S1x2048x512 .fp8e4m3) (sc : Vec F S512x1 .f32) (ws : Vec F S1x1x512 .f32) :
    k0_pay51 cd w sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c9 (cd : Vec F S512x2048 .fp8e4m3) (w : Vec F S1x2048x512 .fp8e4m3) (sc : Vec F S512x1 .f32) (ws : Vec F S1x1x512 .f32) :
    k0_pay52 cd w sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c10 (cd : Vec F S512x2048 .fp8e4m3) (w : Vec F S1x2048x512 .fp8e4m3) (sc : Vec F S512x1 .f32) (ws : Vec F S1x1x512 .f32) :
    k0_pay53 cd w sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c11 (cd : Vec F S512x2048 .fp8e4m3) (w : Vec F S1x2048x512 .fp8e4m3) (sc : Vec F S512x1 .f32) (ws : Vec F S1x1x512 .f32) :
    k0_pay54 cd w sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c12 (cd : Vec F S512x2048 .fp8e4m3) (w : Vec F S1x2048x512 .fp8e4m3) (sc : Vec F S512x1 .f32) (ws : Vec F S1x1x512 .f32) :
    k0_pay55 cd w sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem full_c13 (cd : Vec F S512x2048 .fp8e4m3) (w : Vec F S1x2048x512 .fp8e4m3) (sc : Vec F S512x1 .f32) (ws : Vec F S1x1x512 .f32) :
    k0_pay3 cd (k0_pay56 w) (constant S512x512 .f32 0x00000000#32) sc ws = k0_pay41 cd w sc ws := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c0 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay57 v1 v3 cd w sc ws o = k0_pay57 v1 v3 cd w sc ws o := by
  rfl
theorem mask_c1 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay60 v1 v3 (k0_pay58 cd w sc) (k0_pay59 ws) o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c2 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay61 v1 v3 cd w sc ws o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c3 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay62 v1 v3 cd w sc ws o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c4 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay65 v1 v3 (k0_pay63 cd w sc) (k0_pay64 ws) o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c5 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay66 v1 v3 cd w sc ws o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c6 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay67 v1 v3 cd w sc ws o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c7 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay70 v1 v3 (k0_pay68 cd w sc) (k0_pay69 ws) o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c8 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay71 v1 v3 cd w sc ws o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c9 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay72 v1 v3 cd w sc ws o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c10 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay75 v1 v3 (k0_pay73 cd w sc) (k0_pay74 ws) o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c11 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay76 v1 v3 cd w sc ws o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c12 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay77 v1 v3 cd w sc ws o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
theorem mask_c13 (v1 v3 : Elt F .i32) (cd : Vec F S512x2048 .fp8e4m3) (w : Vec F S1x2048x512 .fp8e4m3) (sc : Vec F S512x1 .f32) (ws : Vec F S1x1x512 .f32) (o : Vec F S512x512 .bf16) :
    k0_pay4 v1 v3 (k0_pay78 cd w sc) (k0_pay79 ws) o = k0_pay57 v1 v3 cd w sc ws o := by
  simp only [k0_pay3, k0_pay4, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]

/-- Column chunk `k` of an expert's weights. -/
def wchunk (w : Vec F S1x2048x7168 .fp8e4m3) (k : Fin 14) : Vec F S1x2048x512 .fp8e4m3 :=
  fun y => w (ix3 (y 0) (y 1) ⟨512 * k.val + (y 2).val, by have h : (y 2).val < 512 := (y 2).isLt; omega⟩)
/-- Column chunk `k` of an expert's scales. -/
def wschunk (ws : Vec F S1x1x7168 .f32) (k : Fin 14) : Vec F S1x1x512 .f32 :=
  fun y => ws (ix3 (y 0) (y 1) ⟨512 * k.val + (y 2).val, by have h : (y 2).val < 512 := (y 2).isLt; omega⟩)
/-- The first lane of the row scales. -/
def scol (sc : Vec F S512x128 .f32) : Vec F S512x1 .f32 :=
  fun y => sc (ix2 (y 0) ⟨(y 1).val, by have h : (y 1).val < 1 := (y 1).isLt; omega⟩)
/-- Column chunk `k` of an output block. -/
def ochunk (o : Vec F S512x7168 .bf16) (k : Fin 14) : Vec F S512x512 .bf16 :=
  fun y => o (ix2 (y 0) ⟨512 * k.val + (y 1).val, by have h : (y 1).val < 512 := (y 1).isLt; omega⟩)

/-- The output block the second phase leaves. -/
def fullOf (cd : Vec F S512x2048 .fp8e4m3) (w : Vec F S1x2048x7168 .fp8e4m3) (sc : Vec F S512x128 .f32) (ws : Vec F S1x1x7168 .f32) : Vec F S512x7168 .bf16 :=
  fun y => k0_pay41 cd (wchunk w ⟨(y 1).val / 512, by have := idx2_lt1 y; omega⟩) (scol sc) (wschunk ws ⟨(y 1).val / 512, by have := idx2_lt1 y; omega⟩)
    (ix2 (y 0) ⟨(y 1).val % 512, by omega⟩)
/-- The output block the third phase leaves, `o` being the block before it. -/
def maskOf (v1 v3 : Elt F .i32) (cd : Vec F S512x2048 .fp8e4m3) (w : Vec F S1x2048x7168 .fp8e4m3) (sc : Vec F S512x128 .f32) (ws : Vec F S1x1x7168 .f32) (o : Vec F S512x7168 .bf16) : Vec F S512x7168 .bf16 :=
  fun y => k0_pay57 v1 v3 cd (wchunk w ⟨(y 1).val / 512, by have := idx2_lt1 y; omega⟩) (scol sc) (wschunk ws ⟨(y 1).val / 512, by have := idx2_lt1 y; omega⟩)
    (ochunk o ⟨(y 1).val / 512, by have := idx2_lt1 y; omega⟩) (ix2 (y 0) ⟨(y 1).val % 512, by omega⟩)

theorem readAt_wchunk (m : Memref sig .tc .vmem S1x2048x7168 .fp8e4m3) (w : Vec F S1x2048x7168 .fp8e4m3) (f : m.view.ty.Contents (Elt F))
    (hf : m.view.read (Elt F) f = w) (k : Fin 14) (n : ℕ) (hn : n = 512 * k.val) (inb : ∀ a, (![0, 0, n] : Fin 3 → ℕ) a + S1x2048x512.size a ≤ S1x2048x7168.size a) :
    m.view.readAt (Elt F) (Rect.unit (s := S1x2048x7168) ![0, 0, n] S1x2048x512.size inb).toLoadRect f = wchunk w k := by
  subst hn hf
  funext y
  show m.view.read (Elt F) f _ = m.view.read (Elt F) f _
  congr 1
  funext a
  match a with
  | ⟨0, _⟩ => apply Fin.ext; show 0 + 1 * (y 0).val = (y 0).val; omega
  | ⟨1, _⟩ => apply Fin.ext; show 0 + 1 * (y 1).val = (y 1).val; omega
  | ⟨2, _⟩ => apply Fin.ext; show 512 * k.val + 1 * (y 2).val = 512 * k.val + (y 2).val; omega

theorem readAt_wschunk (m : Memref sig .tc .vmem S1x1x7168 .f32) (w : Vec F S1x1x7168 .f32) (f : m.view.ty.Contents (Elt F))
    (hf : m.view.read (Elt F) f = w) (k : Fin 14) (n : ℕ) (hn : n = 512 * k.val) (inb : ∀ a, (![0, 0, n] : Fin 3 → ℕ) a + S1x1x512.size a ≤ S1x1x7168.size a) :
    m.view.readAt (Elt F) (Rect.unit (s := S1x1x7168) ![0, 0, n] S1x1x512.size inb).toLoadRect f = wschunk w k := by
  subst hn hf
  funext y
  show m.view.read (Elt F) f _ = m.view.read (Elt F) f _
  congr 1
  funext a
  match a with
  | ⟨0, _⟩ => apply Fin.ext; show 0 + 1 * (y 0).val = (y 0).val; omega
  | ⟨1, _⟩ => apply Fin.ext; show 0 + 1 * (y 1).val = (y 1).val; omega
  | ⟨2, _⟩ => apply Fin.ext; show 512 * k.val + 1 * (y 2).val = 512 * k.val + (y 2).val; omega

theorem readAt_scol (m : Memref sig .tc .vmem S512x128 .f32) (w : Vec F S512x128 .f32) (f : m.view.ty.Contents (Elt F))
    (hf : m.view.read (Elt F) f = w) (inb : ∀ a, (![0, 0] : Fin 2 → ℕ) a + S512x1.size a ≤ S512x128.size a) :
    m.view.readAt (Elt F) (Rect.unit (s := S512x128) ![0, 0] S512x1.size inb).toLoadRect f = scol w := by
  subst hf
  funext y
  show m.view.read (Elt F) f _ = m.view.read (Elt F) f _
  congr 1
  funext a
  match a with
  | ⟨0, _⟩ => apply Fin.ext; show 0 + 1 * (y 0).val = (y 0).val; omega
  | ⟨1, _⟩ => apply Fin.ext; show 0 + 1 * (y 1).val = (y 1).val; omega

theorem readAt_codes (m : Memref sig .tc .vmem S512x2048 .fp8e4m3) (w : Vec F S512x2048 .fp8e4m3) (f : m.view.ty.Contents (Elt F))
    (hf : m.view.read (Elt F) f = w) (inb : ∀ a, (![0, 0] : Fin 2 → ℕ) a + S512x2048.size a ≤ S512x2048.size a) :
    m.view.readAt (Elt F) (Rect.unit (s := S512x2048) ![0, 0] S512x2048.size inb).toLoadRect f = w := by
  subst hf
  funext y
  show m.view.read (Elt F) f _ = m.view.read (Elt F) f _
  congr 1
  funext a
  match a with
  | ⟨0, _⟩ => apply Fin.ext; show 0 + 1 * (y 0).val = (y 0).val; omega
  | ⟨1, _⟩ => apply Fin.ext; show 0 + 1 * (y 1).val = (y 1).val; omega

theorem readAt_ochunk (m : Memref sig .tc .vmem S512x7168 .bf16) (o : Vec F S512x7168 .bf16) (f : m.view.ty.Contents (Elt F))
    (hf : m.view.read (Elt F) f = o) (k : Fin 14) (n : ℕ) (hn : n = 512 * k.val) (inb : ∀ a, (![0, n] : Fin 2 → ℕ) a + S512x512.size a ≤ S512x7168.size a) :
    m.view.readAt (Elt F) (Rect.unit (s := S512x7168) ![0, n] S512x512.size inb).toLoadRect f = ochunk o k := by
  subst hn hf
  funext y
  show m.view.read (Elt F) f _ = m.view.read (Elt F) f _
  congr 1
  funext a
  match a with
  | ⟨0, _⟩ => apply Fin.ext; show 0 + 1 * (y 0).val = (y 0).val; omega
  | ⟨1, _⟩ => apply Fin.ext; show 512 * k.val + 1 * (y 1).val = 512 * k.val + (y 1).val; omega

/-- A stored chunk of the second phase is the block's columns there. -/
theorem full_piece (cd : Vec F S512x2048 .fp8e4m3) (w : Vec F S1x2048x7168 .fp8e4m3) (sc : Vec F S512x128 .f32) (ws : Vec F S1x1x7168 .f32) (k : Fin 14) (n : ℕ) (hn : n = 512 * k.val)
    (cd' : Vec F S512x2048 .fp8e4m3) (hcd : cd' = cd) (w' : Vec F S1x2048x512 .fp8e4m3) (hw : w' = wchunk w k) (sc' : Vec F S512x1 .f32) (hsc : sc' = scol sc)
    (ws' : Vec F S1x1x512 .f32) (hws : ws' = wschunk ws k) (p : FVec F S512x512 .bf16) (hp : p = k0_pay41 cd' w' sc' ws')
    (inb : ∀ a, (![0, n] : Fin 2 → ℕ) a + S512x512.size a ≤ S512x7168.size a) (z : S512x512.Idx) :
    p z = fullOf cd w sc ws ((Rect.unit (s := S512x7168) ![0, n] S512x512.size inb).emb z) := by
  subst hn hcd hw hsc hws hp
  have h0 : (z 1).val < 512 := (z 1).isLt
  have e1 : (⟨(512 * k.val + 1 * (z 1).val) / 512, by omega⟩ : Fin 14) = k := Fin.ext (by show (512 * k.val + 1 * (z 1).val) / 512 = k.val; omega)
  show k0_pay41 cd' (wchunk w k) (scol sc) (wschunk ws k) z = k0_pay41 cd' (wchunk w ⟨(512 * k.val + 1 * (z 1).val) / 512, _⟩) (scol sc)
    (wschunk ws ⟨(512 * k.val + 1 * (z 1).val) / 512, _⟩) (ix2 ⟨0 + 1 * (z 0).val, _⟩ ⟨(512 * k.val + 1 * (z 1).val) % 512, _⟩)
  rw [e1]
  congr 1
  funext a
  match a with
  | ⟨0, _⟩ => apply Fin.ext; show (z 0).val = 0 + 1 * (z 0).val; omega
  | ⟨1, _⟩ => apply Fin.ext; show (z 1).val = (512 * k.val + 1 * (z 1).val) % 512; omega

/-- A stored chunk of the third phase is the block's columns there. -/
theorem mask_piece (v1 v3 : Elt F .i32) (cd : Vec F S512x2048 .fp8e4m3) (w : Vec F S1x2048x7168 .fp8e4m3) (sc : Vec F S512x128 .f32) (ws : Vec F S1x1x7168 .f32) (o : Vec F S512x7168 .bf16) (k : Fin 14) (n : ℕ) (hn : n = 512 * k.val)
    (cd' : Vec F S512x2048 .fp8e4m3) (hcd : cd' = cd) (w' : Vec F S1x2048x512 .fp8e4m3) (hw : w' = wchunk w k) (sc' : Vec F S512x1 .f32) (hsc : sc' = scol sc)
    (ws' : Vec F S1x1x512 .f32) (hws : ws' = wschunk ws k) (o' : Vec F S512x512 .bf16) (ho : o' = ochunk o k)
    (p : FVec F S512x512 .bf16) (hp : p = k0_pay57 v1 v3 cd' w' sc' ws' o')
    (inb : ∀ a, (![0, n] : Fin 2 → ℕ) a + S512x512.size a ≤ S512x7168.size a) (z : S512x512.Idx) :
    p z = maskOf v1 v3 cd w sc ws o ((Rect.unit (s := S512x7168) ![0, n] S512x512.size inb).emb z) := by
  subst hn hcd hw hsc hws ho hp
  have h0 : (z 1).val < 512 := (z 1).isLt
  have e1 : (⟨(512 * k.val + 1 * (z 1).val) / 512, by omega⟩ : Fin 14) = k := Fin.ext (by show (512 * k.val + 1 * (z 1).val) / 512 = k.val; omega)
  show k0_pay57 v1 v3 cd' (wchunk w k) (scol sc) (wschunk ws k) (ochunk o k) z
    = k0_pay57 v1 v3 cd' (wchunk w ⟨(512 * k.val + 1 * (z 1).val) / 512, _⟩) (scol sc) (wschunk ws ⟨(512 * k.val + 1 * (z 1).val) / 512, _⟩)
      (ochunk o ⟨(512 * k.val + 1 * (z 1).val) / 512, _⟩) (ix2 ⟨0 + 1 * (z 0).val, _⟩ ⟨(512 * k.val + 1 * (z 1).val) % 512, _⟩)
  rw [e1]
  congr 1
  funext a
  match a with
  | ⟨0, _⟩ => apply Fin.ext; show (z 0).val = 0 + 1 * (z 0).val; omega
  | ⟨1, _⟩ => apply Fin.ext; show (z 1).val = (512 * k.val + 1 * (z 1).val) % 512; omega

/-- The second phase leaves the whole block at `fullOf`, whatever it held. -/
theorem writeAll_wp (c : Dev nD) (E : Set ℕ) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole)
    (q7 q8 : PosShare TreeShare) (w : Vec F S1x2048x7168 .fp8e4m3) (ws : Vec F S1x1x7168 .f32) (o : Vec F S512x7168 .bf16)
    (cd : Vec F S512x2048 .fp8e4m3) (sc : Vec F S512x128 .f32) (K : PUnit → sProp 𝕄) :
    iprop(owns (c : Thread nD τ) arg7 q7 w ∗ owns (c : Thread nD τ) arg8 q8 ws ∗ owns (c : Thread nD τ) arg9 fullShare o
      ∗ owns (c : Thread nD τ) arg10 fullShare cd ∗ owns (c : Thread nD τ) arg11 fullShare sc
      ∗ (owns (c : Thread nD τ) arg7 q7 w ∗ owns (c : Thread nD τ) arg8 q8 ws ∗ owns (c : Thread nD τ) arg9 fullShare (fullOf cd w sc ws)
      ∗ owns (c : Thread nD τ) arg10 fullShare cd ∗ owns (c : Thread nD τ) arg11 fullShare sc -∗ K ⟨⟩))
    ⊢ wp frame (wpE (defs₀ (F := F)) Variants.none c none) E (writeAll i arg1 harg1 arg2 harg2 arg3 harg3 arg4 harg4 arg5 harg5 arg6 harg6 arg7 harg7 arg8 harg8 arg9 harg9 arg10 harg10 arg11 harg11) K := by
  unfold writeAll
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold owns
  iintro ⟨⟨%f7, %hf7, H7⟩, ⟨%f8, %hf8, H8⟩, ⟨%f9, %hf9, H9⟩, ⟨%f10, %hf10, H10⟩, ⟨%f11, %hf11, H11⟩, Hk⟩
  sl_exec
  rw [wp_ret]; imodintro
  iapply Hk
  isplitl [H7]
  · iexists f7; isplitr; · ipureintro; exact hf7
    iexact H7
  isplitl [H8]
  · iexists f8; isplitr; · ipureintro; exact hf8
    iexact H8
  isplitl [H9]
  · iexists _; isplitr [H9]; swap
    · iexact H9
    · ipureintro
      funext y
      refine View.read_writes_apply_of_pieces _ _ (fullOf cd w sc ws) _ ?_ y (View.cover_of_tiledL (s := S512x7168) _ ![512, 512] (by sl_kernel_rfl) y)
      simp only [List.forall_mem_cons, List.not_mem_nil, false_imp_iff, implies_true, _root_.and_true]
      refine ⟨?_, ?_, ?_, ?_, ?_, ?_, ?_, ?_, ?_, ?_, ?_, ?_, ?_, ?_⟩
      · exact fun z => full_piece cd w sc ws 13 6656 rfl _ (readAt_codes arg10 cd f10 hf10 (by decide)) _ (readAt_wchunk arg7 w f7 hf7 13 6656 rfl (by decide)) _ (readAt_scol arg11 sc f11 hf11 (by decide)) _ (readAt_wschunk arg8 ws f8 hf8 13 6656 rfl (by decide)) _ (full_c13 _ _ _ _) _ z
      · exact fun z => full_piece cd w sc ws 12 6144 rfl _ (readAt_codes arg10 cd f10 hf10 (by decide)) _ (readAt_wchunk arg7 w f7 hf7 12 6144 rfl (by decide)) _ (readAt_scol arg11 sc f11 hf11 (by decide)) _ (readAt_wschunk arg8 ws f8 hf8 12 6144 rfl (by decide)) _ (full_c12 _ _ _ _) _ z
      · exact fun z => full_piece cd w sc ws 11 5632 rfl _ (readAt_codes arg10 cd f10 hf10 (by decide)) _ (readAt_wchunk arg7 w f7 hf7 11 5632 rfl (by decide)) _ (readAt_scol arg11 sc f11 hf11 (by decide)) _ (readAt_wschunk arg8 ws f8 hf8 11 5632 rfl (by decide)) _ (full_c11 _ _ _ _) _ z
      · exact fun z => full_piece cd w sc ws 10 5120 rfl _ (readAt_codes arg10 cd f10 hf10 (by decide)) _ (readAt_wchunk arg7 w f7 hf7 10 5120 rfl (by decide)) _ (readAt_scol arg11 sc f11 hf11 (by decide)) _ (readAt_wschunk arg8 ws f8 hf8 10 5120 rfl (by decide)) _ (full_c10 _ _ _ _) _ z
      · exact fun z => full_piece cd w sc ws 9 4608 rfl _ (readAt_codes arg10 cd f10 hf10 (by decide)) _ (readAt_wchunk arg7 w f7 hf7 9 4608 rfl (by decide)) _ (readAt_scol arg11 sc f11 hf11 (by decide)) _ (readAt_wschunk arg8 ws f8 hf8 9 4608 rfl (by decide)) _ (full_c9 _ _ _ _) _ z
      · exact fun z => full_piece cd w sc ws 8 4096 rfl _ (readAt_codes arg10 cd f10 hf10 (by decide)) _ (readAt_wchunk arg7 w f7 hf7 8 4096 rfl (by decide)) _ (readAt_scol arg11 sc f11 hf11 (by decide)) _ (readAt_wschunk arg8 ws f8 hf8 8 4096 rfl (by decide)) _ (full_c8 _ _ _ _) _ z
      · exact fun z => full_piece cd w sc ws 7 3584 rfl _ (readAt_codes arg10 cd f10 hf10 (by decide)) _ (readAt_wchunk arg7 w f7 hf7 7 3584 rfl (by decide)) _ (readAt_scol arg11 sc f11 hf11 (by decide)) _ (readAt_wschunk arg8 ws f8 hf8 7 3584 rfl (by decide)) _ (full_c7 _ _ _ _) _ z
      · exact fun z => full_piece cd w sc ws 6 3072 rfl _ (readAt_codes arg10 cd f10 hf10 (by decide)) _ (readAt_wchunk arg7 w f7 hf7 6 3072 rfl (by decide)) _ (readAt_scol arg11 sc f11 hf11 (by decide)) _ (readAt_wschunk arg8 ws f8 hf8 6 3072 rfl (by decide)) _ (full_c6 _ _ _ _) _ z
      · exact fun z => full_piece cd w sc ws 5 2560 rfl _ (readAt_codes arg10 cd f10 hf10 (by decide)) _ (readAt_wchunk arg7 w f7 hf7 5 2560 rfl (by decide)) _ (readAt_scol arg11 sc f11 hf11 (by decide)) _ (readAt_wschunk arg8 ws f8 hf8 5 2560 rfl (by decide)) _ (full_c5 _ _ _ _) _ z
      · exact fun z => full_piece cd w sc ws 4 2048 rfl _ (readAt_codes arg10 cd f10 hf10 (by decide)) _ (readAt_wchunk arg7 w f7 hf7 4 2048 rfl (by decide)) _ (readAt_scol arg11 sc f11 hf11 (by decide)) _ (readAt_wschunk arg8 ws f8 hf8 4 2048 rfl (by decide)) _ (full_c4 _ _ _ _) _ z
      · exact fun z => full_piece cd w sc ws 3 1536 rfl _ (readAt_codes arg10 cd f10 hf10 (by decide)) _ (readAt_wchunk arg7 w f7 hf7 3 1536 rfl (by decide)) _ (readAt_scol arg11 sc f11 hf11 (by decide)) _ (readAt_wschunk arg8 ws f8 hf8 3 1536 rfl (by decide)) _ (full_c3 _ _ _ _) _ z
      · exact fun z => full_piece cd w sc ws 2 1024 rfl _ (readAt_codes arg10 cd f10 hf10 (by decide)) _ (readAt_wchunk arg7 w f7 hf7 2 1024 rfl (by decide)) _ (readAt_scol arg11 sc f11 hf11 (by decide)) _ (readAt_wschunk arg8 ws f8 hf8 2 1024 rfl (by decide)) _ (full_c2 _ _ _ _) _ z
      · exact fun z => full_piece cd w sc ws 1 512 rfl _ (readAt_codes arg10 cd f10 hf10 (by decide)) _ (readAt_wchunk arg7 w f7 hf7 1 512 rfl (by decide)) _ (readAt_scol arg11 sc f11 hf11 (by decide)) _ (readAt_wschunk arg8 ws f8 hf8 1 512 rfl (by decide)) _ (full_c1 _ _ _ _) _ z
      · exact fun z => full_piece cd w sc ws 0 0 rfl _ (readAt_codes arg10 cd f10 hf10 (by decide)) _ (readAt_wchunk arg7 w f7 hf7 0 0 rfl (by decide)) _ (readAt_scol arg11 sc f11 hf11 (by decide)) _ (readAt_wschunk arg8 ws f8 hf8 0 0 rfl (by decide)) _ (full_c0 _ _ _ _) _ z
  isplitl [H10]
  · iexists f10; isplitr; · ipureintro; exact hf10
    iexact H10
  · iexists f11; isplitr; · ipureintro; exact hf11
    iexact H11

/-- The third phase turns the block `o` into `maskOf … o`. -/
theorem writeMasked_wp (c : Dev nD) (E : Set ℕ) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) (v1 v3 : Elt F .i32)
    (q7 q8 : PosShare TreeShare) (w : Vec F S1x2048x7168 .fp8e4m3) (ws : Vec F S1x1x7168 .f32) (o : Vec F S512x7168 .bf16)
    (cd : Vec F S512x2048 .fp8e4m3) (sc : Vec F S512x128 .f32) (K : PUnit → sProp 𝕄) :
    iprop(owns (c : Thread nD τ) arg7 q7 w ∗ owns (c : Thread nD τ) arg8 q8 ws ∗ owns (c : Thread nD τ) arg9 fullShare o
      ∗ owns (c : Thread nD τ) arg10 fullShare cd ∗ owns (c : Thread nD τ) arg11 fullShare sc
      ∗ (owns (c : Thread nD τ) arg7 q7 w ∗ owns (c : Thread nD τ) arg8 q8 ws ∗ owns (c : Thread nD τ) arg9 fullShare (maskOf v1 v3 cd w sc ws o)
      ∗ owns (c : Thread nD τ) arg10 fullShare cd ∗ owns (c : Thread nD τ) arg11 fullShare sc -∗ K ⟨⟩))
    ⊢ wp frame (wpE (defs₀ (F := F)) Variants.none c none) E (writeMasked i arg1 harg1 arg2 harg2 arg3 harg3 arg4 harg4 arg5 harg5 arg6 harg6 arg7 harg7 arg8 harg8 arg9 harg9 arg10 harg10 arg11 harg11 v1 v3) K := by
  unfold writeMasked
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold owns
  iintro ⟨⟨%f7, %hf7, H7⟩, ⟨%f8, %hf8, H8⟩, ⟨%f9, %hf9, H9⟩, ⟨%f10, %hf10, H10⟩, ⟨%f11, %hf11, H11⟩, Hk⟩
  sl_exec
  rw [wp_ret]; imodintro
  iapply Hk
  isplitl [H7]
  · iexists f7; isplitr; · ipureintro; exact hf7
    iexact H7
  isplitl [H8]
  · iexists f8; isplitr; · ipureintro; exact hf8
    iexact H8
  isplitl [H9]
  · iexists _; isplitr [H9]; swap
    · iexact H9
    · ipureintro
      funext y
      refine View.read_writes_apply_of_pieces _ _ (maskOf v1 v3 cd w sc ws o) _ ?_ y (View.cover_of_tiledL (s := S512x7168) _ ![512, 512] (by sl_kernel_rfl) y)
      simp only [List.forall_mem_cons, List.not_mem_nil, false_imp_iff, implies_true, _root_.and_true]
      refine ⟨?_, ?_, ?_, ?_, ?_, ?_, ?_, ?_, ?_, ?_, ?_, ?_, ?_, ?_⟩
      · exact fun z => mask_piece v1 v3 cd w sc ws o 13 6656 rfl _ (readAt_codes arg10 cd f10 hf10 (by decide)) _ (readAt_wchunk arg7 w f7 hf7 13 6656 rfl (by decide)) _ (readAt_scol arg11 sc f11 hf11 (by decide)) _ (readAt_wschunk arg8 ws f8 hf8 13 6656 rfl (by decide)) _ (readAt_ochunk arg9 o f9 hf9 13 6656 rfl (by decide)) _ (mask_c13 _ _ _ _ _ _ _) _ z
      · exact fun z => mask_piece v1 v3 cd w sc ws o 12 6144 rfl _ (readAt_codes arg10 cd f10 hf10 (by decide)) _ (readAt_wchunk arg7 w f7 hf7 12 6144 rfl (by decide)) _ (readAt_scol arg11 sc f11 hf11 (by decide)) _ (readAt_wschunk arg8 ws f8 hf8 12 6144 rfl (by decide)) _ (readAt_ochunk arg9 o f9 hf9 12 6144 rfl (by decide)) _ (mask_c12 _ _ _ _ _ _ _) _ z
      · exact fun z => mask_piece v1 v3 cd w sc ws o 11 5632 rfl _ (readAt_codes arg10 cd f10 hf10 (by decide)) _ (readAt_wchunk arg7 w f7 hf7 11 5632 rfl (by decide)) _ (readAt_scol arg11 sc f11 hf11 (by decide)) _ (readAt_wschunk arg8 ws f8 hf8 11 5632 rfl (by decide)) _ (readAt_ochunk arg9 o f9 hf9 11 5632 rfl (by decide)) _ (mask_c11 _ _ _ _ _ _ _) _ z
      · exact fun z => mask_piece v1 v3 cd w sc ws o 10 5120 rfl _ (readAt_codes arg10 cd f10 hf10 (by decide)) _ (readAt_wchunk arg7 w f7 hf7 10 5120 rfl (by decide)) _ (readAt_scol arg11 sc f11 hf11 (by decide)) _ (readAt_wschunk arg8 ws f8 hf8 10 5120 rfl (by decide)) _ (readAt_ochunk arg9 o f9 hf9 10 5120 rfl (by decide)) _ (mask_c10 _ _ _ _ _ _ _) _ z
      · exact fun z => mask_piece v1 v3 cd w sc ws o 9 4608 rfl _ (readAt_codes arg10 cd f10 hf10 (by decide)) _ (readAt_wchunk arg7 w f7 hf7 9 4608 rfl (by decide)) _ (readAt_scol arg11 sc f11 hf11 (by decide)) _ (readAt_wschunk arg8 ws f8 hf8 9 4608 rfl (by decide)) _ (readAt_ochunk arg9 o f9 hf9 9 4608 rfl (by decide)) _ (mask_c9 _ _ _ _ _ _ _) _ z
      · exact fun z => mask_piece v1 v3 cd w sc ws o 8 4096 rfl _ (readAt_codes arg10 cd f10 hf10 (by decide)) _ (readAt_wchunk arg7 w f7 hf7 8 4096 rfl (by decide)) _ (readAt_scol arg11 sc f11 hf11 (by decide)) _ (readAt_wschunk arg8 ws f8 hf8 8 4096 rfl (by decide)) _ (readAt_ochunk arg9 o f9 hf9 8 4096 rfl (by decide)) _ (mask_c8 _ _ _ _ _ _ _) _ z
      · exact fun z => mask_piece v1 v3 cd w sc ws o 7 3584 rfl _ (readAt_codes arg10 cd f10 hf10 (by decide)) _ (readAt_wchunk arg7 w f7 hf7 7 3584 rfl (by decide)) _ (readAt_scol arg11 sc f11 hf11 (by decide)) _ (readAt_wschunk arg8 ws f8 hf8 7 3584 rfl (by decide)) _ (readAt_ochunk arg9 o f9 hf9 7 3584 rfl (by decide)) _ (mask_c7 _ _ _ _ _ _ _) _ z
      · exact fun z => mask_piece v1 v3 cd w sc ws o 6 3072 rfl _ (readAt_codes arg10 cd f10 hf10 (by decide)) _ (readAt_wchunk arg7 w f7 hf7 6 3072 rfl (by decide)) _ (readAt_scol arg11 sc f11 hf11 (by decide)) _ (readAt_wschunk arg8 ws f8 hf8 6 3072 rfl (by decide)) _ (readAt_ochunk arg9 o f9 hf9 6 3072 rfl (by decide)) _ (mask_c6 _ _ _ _ _ _ _) _ z
      · exact fun z => mask_piece v1 v3 cd w sc ws o 5 2560 rfl _ (readAt_codes arg10 cd f10 hf10 (by decide)) _ (readAt_wchunk arg7 w f7 hf7 5 2560 rfl (by decide)) _ (readAt_scol arg11 sc f11 hf11 (by decide)) _ (readAt_wschunk arg8 ws f8 hf8 5 2560 rfl (by decide)) _ (readAt_ochunk arg9 o f9 hf9 5 2560 rfl (by decide)) _ (mask_c5 _ _ _ _ _ _ _) _ z
      · exact fun z => mask_piece v1 v3 cd w sc ws o 4 2048 rfl _ (readAt_codes arg10 cd f10 hf10 (by decide)) _ (readAt_wchunk arg7 w f7 hf7 4 2048 rfl (by decide)) _ (readAt_scol arg11 sc f11 hf11 (by decide)) _ (readAt_wschunk arg8 ws f8 hf8 4 2048 rfl (by decide)) _ (readAt_ochunk arg9 o f9 hf9 4 2048 rfl (by decide)) _ (mask_c4 _ _ _ _ _ _ _) _ z
      · exact fun z => mask_piece v1 v3 cd w sc ws o 3 1536 rfl _ (readAt_codes arg10 cd f10 hf10 (by decide)) _ (readAt_wchunk arg7 w f7 hf7 3 1536 rfl (by decide)) _ (readAt_scol arg11 sc f11 hf11 (by decide)) _ (readAt_wschunk arg8 ws f8 hf8 3 1536 rfl (by decide)) _ (readAt_ochunk arg9 o f9 hf9 3 1536 rfl (by decide)) _ (mask_c3 _ _ _ _ _ _ _) _ z
      · exact fun z => mask_piece v1 v3 cd w sc ws o 2 1024 rfl _ (readAt_codes arg10 cd f10 hf10 (by decide)) _ (readAt_wchunk arg7 w f7 hf7 2 1024 rfl (by decide)) _ (readAt_scol arg11 sc f11 hf11 (by decide)) _ (readAt_wschunk arg8 ws f8 hf8 2 1024 rfl (by decide)) _ (readAt_ochunk arg9 o f9 hf9 2 1024 rfl (by decide)) _ (mask_c2 _ _ _ _ _ _ _) _ z
      · exact fun z => mask_piece v1 v3 cd w sc ws o 1 512 rfl _ (readAt_codes arg10 cd f10 hf10 (by decide)) _ (readAt_wchunk arg7 w f7 hf7 1 512 rfl (by decide)) _ (readAt_scol arg11 sc f11 hf11 (by decide)) _ (readAt_wschunk arg8 ws f8 hf8 1 512 rfl (by decide)) _ (readAt_ochunk arg9 o f9 hf9 1 512 rfl (by decide)) _ (mask_c1 _ _ _ _ _ _ _) _ z
      · exact fun z => mask_piece v1 v3 cd w sc ws o 0 0 rfl _ (readAt_codes arg10 cd f10 hf10 (by decide)) _ (readAt_wchunk arg7 w f7 hf7 0 0 rfl (by decide)) _ (readAt_scol arg11 sc f11 hf11 (by decide)) _ (readAt_wschunk arg8 ws f8 hf8 0 0 rfl (by decide)) _ (readAt_ochunk arg9 o f9 hf9 0 0 rfl (by decide)) _ (mask_c0 _ _ _ _ _ _ _) _ z
  isplitl [H10]
  · iexists f10; isplitr; · ipureintro; exact hf10
    iexact H10
  · iexists f11; isplitr; · ipureintro; exact hf11
    iexact H11

end Cert.KernelIdeal.Hand
end
-- ==== Proof.Ideal.Body.lean ====
module

public import proofs.«01_k».proof.Proof.Ideal.Stores
public import Idealize.ShloMosaic.Lib.Claim
public import Idealize.ShloMosaic.Lib.VecWindow
public import Idealize.ShloMosaic.Lib.WholeRead
public import Idealize.ShloMosaic.Lib.ValueIdx

/-! # What one grid point's body does

The phases of Triples.lean and Stores.lean put together with the three words read from the tables. -/

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

/-- The word of a table at the grid point `i`. -/
def wd (t : Vec F S63 .i32) (i : grid0.Coords) : Elt F .i32 :=
  t (fun a => ⟨k0_off1 i a, by have h := k0_off1_inb i a; match a with | ⟨0, _⟩ => exact h⟩)

/-- The three reads of the tables. -/
theorem words_wp (c : Dev nD) (E : Set ℕ) (i : grid0.Coords) (arg3 arg4 arg5 : Memref sig .tc .smem S63 .i32)
    (q : PosShare TreeShare) (t3 t4 t5 : Vec F S63 .i32) (k : Elt F .i32 → Elt F .i32 → Elt F .i32 → Prog (TpuEff nD τ sig (Elt F) Λ₀ .tc) PUnit) (K : PUnit → sProp 𝕄) :
    iprop(owns (c : Thread nD τ) arg3 q t3 ∗ owns (c : Thread nD τ) arg4 q t4 ∗ owns (c : Thread nD τ) arg5 q t5
      ∗ (owns (c : Thread nD τ) arg3 q t3 ∗ owns (c : Thread nD τ) arg4 q t4 ∗ owns (c : Thread nD τ) arg5 q t5
        -∗ wp frame (wpE (defs₀ (F := F)) Variants.none c none) E (k (wd t3 i) (wd t4 i) (wd t5 i)) K))
    ⊢ wp frame (wpE (defs₀ (F := F)) Variants.none c none) E (do
      let v1 : Elt F .i32 ← smemLoad arg3 (Rect.unit (s := S63) (k0_off1 i) S1.size (k0_off1_inb i)) numel1_S1 rfl
      let v3 : Elt F .i32 ← smemLoad arg4 (Rect.unit (s := S63) (k0_off1 i) S1.size (k0_off1_inb i)) numel1_S1 rfl
      let v5 : Elt F .i32 ← smemLoad arg5 (Rect.unit (s := S63) (k0_off1 i) S1.size (k0_off1_inb i)) numel1_S1 rfl
      k v1 v3 v5) K := by
  unfold owns
  iintro ⟨⟨%f3, %hf3, H3⟩, ⟨%f4, %hf4, H4⟩, ⟨%f5, %hf5, H5⟩, Hk⟩
  sl_exec
  have e3 : words_wp.sl.r c i arg3 f3 = wd t3 i := by
    subst hf3
    show arg3.view.read (Elt F) f3 _ = arg3.view.read (Elt F) f3 _
    congr 1
  have e4 : words_wp.sl.r_1 c i arg4 f4 = wd t4 i := by
    subst hf4
    show arg4.view.read (Elt F) f4 _ = arg4.view.read (Elt F) f4 _
    congr 1
  have e5 : words_wp.sl.r_2 c i arg5 f5 = wd t5 i := by
    subst hf5
    show arg5.view.read (Elt F) f5 _ = arg5.view.read (Elt F) f5 _
    congr 1
  rw [e3, e4, e5]
  iapply Hk
  isplitl [H3]
  · iexists f3; isplitr; · ipureintro; exact hf3
    iexact H3
  isplitl [H4]
  · iexists f4; isplitr; · ipureintro; exact hf4
    iexact H4
  · iexists f5; isplitr; · ipureintro; exact hf5
    iexact H5

/-- The codes after the first phase, `cd` being those before. -/
def cdAfter (v1 v3 v5 : Elt F .i32) (x : Vec F S512x2048 .bf16) (cd : Vec F S512x2048 .fp8e4m3) : Vec F S512x2048 .fp8e4m3 :=
  if condQ v1 v3 v5 = 1#1 then codesOf x else cd
/-- The scales after the first phase, `sc` being those before. -/
def scAfter (v1 v3 v5 : Elt F .i32) (x : Vec F S512x2048 .bf16) (sc : Vec F S512x128 .f32) : Vec F S512x128 .f32 :=
  if condQ v1 v3 v5 = 1#1 then scaleOf x else sc
/-- The output block after the last two phases, `o` being the block before and `cd`, `sc` the scratch buffers then. -/
def outAfter (v1 v3 v5 : Elt F .i32) (cd : Vec F S512x2048 .fp8e4m3) (w : Vec F S1x2048x7168 .fp8e4m3) (sc : Vec F S512x128 .f32)
    (ws : Vec F S1x1x7168 .f32) (o : Vec F S512x7168 .bf16) : Vec F S512x7168 .bf16 :=
  if k0_cond3 v1 v3 v5 = 1#1 then maskOf v1 v3 cd w sc ws (if k0_cond2 v5 = 1#1 then fullOf cd w sc ws else o)
  else if k0_cond2 v5 = 1#1 then fullOf cd w sc ws else o

/-- A program that only returns. -/
theorem pure_wp (c : Dev nD) (E : Set ℕ) (K : PUnit → sProp 𝕄) :
    wp frame (wpE (defs₀ (F := F)) Variants.none c none) E (pure ⟨⟩ : Prog (TpuEff nD τ sig (Elt F) Λ₀ .tc) PUnit) K = iprop(|={E}[frame]=> K ⟨⟩) := rfl

theorem quantise_if (c : Dev nD) (E : Set ℕ) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) (v1 v3 v5 : Elt F .i32) (q6 : PosShare TreeShare)
    (x : Vec F S512x2048 .bf16) (cd : Vec F S512x2048 .fp8e4m3) (sc : Vec F S512x128 .f32) (K : PUnit → sProp 𝕄) :
    iprop(owns (c : Thread nD τ) arg6 q6 x ∗ owns (c : Thread nD τ) arg10 fullShare cd ∗ owns (c : Thread nD τ) arg11 fullShare sc
      ∗ (owns (c : Thread nD τ) arg6 q6 x ∗ owns (c : Thread nD τ) arg10 fullShare (cdAfter v1 v3 v5 x cd) ∗ owns (c : Thread nD τ) arg11 fullShare (scAfter v1 v3 v5 x sc) -∗ K ⟨⟩))
    ⊢ wp frame (wpE (defs₀ (F := F)) Variants.none c none) E (if condQ v1 v3 v5 = 1#1 then quantise i arg1 harg1 arg2 harg2 arg3 harg3 arg4 harg4 arg5 harg5 arg6 harg6 arg7 harg7 arg8 harg8 arg9 harg9 arg10 harg10 arg11 harg11 else pure ⟨⟩) K := by
  unfold cdAfter scAfter
  by_cases h : condQ v1 v3 v5 = 1#1
  · rw [if_pos h, if_pos h, if_pos h]
    exact quantise_wp c E i arg1 harg1 arg2 harg2 arg3 harg3 arg4 harg4 arg5 harg5 arg6 harg6 arg7 harg7 arg8 harg8 arg9 harg9 arg10 harg10 arg11 harg11 q6 x cd sc K
  · rw [if_neg h, if_neg h, if_neg h]
    iintro ⟨H6, H10, H11, Hk⟩
    rw [pure_wp]; imodintro
    iapply Hk
    isplitl [H6]; · iexact H6
    isplitl [H10]; · iexact H10
    iexact H11

theorem writeAll_if (c : Dev nD) (E : Set ℕ) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) (v1 v3 v5 : Elt F .i32) (q7 q8 : PosShare TreeShare)
    (w : Vec F S1x2048x7168 .fp8e4m3) (ws : Vec F S1x1x7168 .f32)
    (o : Vec F S512x7168 .bf16) (cd : Vec F S512x2048 .fp8e4m3) (sc : Vec F S512x128 .f32) (K : PUnit → sProp 𝕄) :
    iprop(owns (c : Thread nD τ) arg7 q7 w ∗ owns (c : Thread nD τ) arg8 q8 ws ∗ owns (c : Thread nD τ) arg9 fullShare o ∗ owns (c : Thread nD τ) arg10 fullShare cd ∗ owns (c : Thread nD τ) arg11 fullShare sc ∗ (owns (c : Thread nD τ) arg7 q7 w ∗ owns (c : Thread nD τ) arg8 q8 ws ∗ owns (c : Thread nD τ) arg9 fullShare (if k0_cond2 v5 = 1#1 then fullOf cd w sc ws else o) ∗ owns (c : Thread nD τ) arg10 fullShare cd ∗ owns (c : Thread nD τ) arg11 fullShare sc -∗ K ⟨⟩))
    ⊢ wp frame (wpE (defs₀ (F := F)) Variants.none c none) E (if k0_cond2 v5 = 1#1 then writeAll i arg1 harg1 arg2 harg2 arg3 harg3 arg4 harg4 arg5 harg5 arg6 harg6 arg7 harg7 arg8 harg8 arg9 harg9 arg10 harg10 arg11 harg11 else pure ⟨⟩) K := by
  by_cases h : k0_cond2 v5 = 1#1
  · rw [if_pos h, if_pos h]
    exact writeAll_wp c E i arg1 harg1 arg2 harg2 arg3 harg3 arg4 harg4 arg5 harg5 arg6 harg6 arg7 harg7 arg8 harg8 arg9 harg9 arg10 harg10 arg11 harg11 q7 q8 w ws o cd sc K
  · rw [if_neg h, if_neg h]
    iintro ⟨H7, H8, H9, H10, H11, Hk⟩
    rw [pure_wp]; imodintro
    iapply Hk
    isplitl [H7]; · iexact H7
    isplitl [H8]; · iexact H8
    isplitl [H9]; · iexact H9
    isplitl [H10]; · iexact H10
    iexact H11

theorem writeMasked_if (c : Dev nD) (E : Set ℕ) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) (v1 v3 v5 : Elt F .i32) (q7 q8 : PosShare TreeShare)
    (w : Vec F S1x2048x7168 .fp8e4m3) (ws : Vec F S1x1x7168 .f32)
    (o : Vec F S512x7168 .bf16) (cd : Vec F S512x2048 .fp8e4m3) (sc : Vec F S512x128 .f32) (K : PUnit → sProp 𝕄) :
    iprop(owns (c : Thread nD τ) arg7 q7 w ∗ owns (c : Thread nD τ) arg8 q8 ws ∗ owns (c : Thread nD τ) arg9 fullShare o ∗ owns (c : Thread nD τ) arg10 fullShare cd ∗ owns (c : Thread nD τ) arg11 fullShare sc ∗ (owns (c : Thread nD τ) arg7 q7 w ∗ owns (c : Thread nD τ) arg8 q8 ws ∗ owns (c : Thread nD τ) arg9 fullShare (if k0_cond3 v1 v3 v5 = 1#1 then maskOf v1 v3 cd w sc ws o else o) ∗ owns (c : Thread nD τ) arg10 fullShare cd ∗ owns (c : Thread nD τ) arg11 fullShare sc -∗ K ⟨⟩))
    ⊢ wp frame (wpE (defs₀ (F := F)) Variants.none c none) E (if k0_cond3 v1 v3 v5 = 1#1 then writeMasked i arg1 harg1 arg2 harg2 arg3 harg3 arg4 harg4 arg5 harg5 arg6 harg6 arg7 harg7 arg8 harg8 arg9 harg9 arg10 harg10 arg11 harg11 v1 v3 else pure ⟨⟩) K := by
  by_cases h : k0_cond3 v1 v3 v5 = 1#1
  · rw [if_pos h, if_pos h]
    exact writeMasked_wp c E i arg1 harg1 arg2 harg2 arg3 harg3 arg4 harg4 arg5 harg5 arg6 harg6 arg7 harg7 arg8 harg8 arg9 harg9 arg10 harg10 arg11 harg11 v1 v3 q7 q8 w ws o cd sc K
  · rw [if_neg h, if_neg h]
    iintro ⟨H7, H8, H9, H10, H11, Hk⟩
    rw [pure_wp]; imodintro
    iapply Hk
    isplitl [H7]; · iexact H7
    isplitl [H8]; · iexact H8
    isplitl [H9]; · iexact H9
    isplitl [H10]; · iexact H10
    iexact H11

/-- The three phases. -/
theorem phases_wp (c : Dev nD) (E : Set ℕ) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) (v1 v3 v5 : Elt F .i32) (q6 q7 q8 : PosShare TreeShare)
    (x : Vec F S512x2048 .bf16) (w : Vec F S1x2048x7168 .fp8e4m3) (ws : Vec F S1x1x7168 .f32)
    (o : Vec F S512x7168 .bf16) (cd : Vec F S512x2048 .fp8e4m3) (sc : Vec F S512x128 .f32) (K : PUnit → sProp 𝕄) :
    iprop(owns (c : Thread nD τ) arg6 q6 x ∗ owns (c : Thread nD τ) arg7 q7 w ∗ owns (c : Thread nD τ) arg8 q8 ws ∗ owns (c : Thread nD τ) arg9 fullShare o ∗ owns (c : Thread nD τ) arg10 fullShare cd ∗ owns (c : Thread nD τ) arg11 fullShare sc
      ∗ (owns (c : Thread nD τ) arg6 q6 x ∗ owns (c : Thread nD τ) arg7 q7 w ∗ owns (c : Thread nD τ) arg8 q8 ws
        ∗ owns (c : Thread nD τ) arg9 fullShare (outAfter v1 v3 v5 (cdAfter v1 v3 v5 x cd) w (scAfter v1 v3 v5 x sc) ws o)
        ∗ owns (c : Thread nD τ) arg10 fullShare (cdAfter v1 v3 v5 x cd) ∗ owns (c : Thread nD τ) arg11 fullShare (scAfter v1 v3 v5 x sc) -∗ K ⟨⟩))
    ⊢ wp frame (wpE (defs₀ (F := F)) Variants.none c none) E (phases i arg1 harg1 arg2 harg2 arg3 harg3 arg4 harg4 arg5 harg5 arg6 harg6 arg7 harg7 arg8 harg8 arg9 harg9 arg10 harg10 arg11 harg11 v1 v3 v5) K := by
  rw [phases_eq, wp_bind]
  iintro ⟨H6, H7, H8, H9, H10, H11, Hk⟩
  iapply (quantise_if c E i arg1 harg1 arg2 harg2 arg3 harg3 arg4 harg4 arg5 harg5 arg6 harg6 arg7 harg7 arg8 harg8 arg9 harg9 arg10 harg10 arg11 harg11 v1 v3 v5 q6 x cd sc _)
  isplitl [H6]; · iexact H6
  isplitl [H10]; · iexact H10
  isplitl [H11]; · iexact H11
  iintro ⟨H6, H10, H11⟩
  rw [wp_bind]
  iapply (writeAll_if c E i arg1 harg1 arg2 harg2 arg3 harg3 arg4 harg4 arg5 harg5 arg6 harg6 arg7 harg7 arg8 harg8 arg9 harg9 arg10 harg10 arg11 harg11 v1 v3 v5 q7 q8 w ws o _ _ _)
  isplitl [H7]; · iexact H7
  isplitl [H8]; · iexact H8
  isplitl [H9]; · iexact H9
  isplitl [H10]; · iexact H10
  isplitl [H11]; · iexact H11
  iintro ⟨H7, H8, H9, H10, H11⟩
  rw [wp_bind]
  iapply (writeMasked_if c E i arg1 harg1 arg2 harg2 arg3 harg3 arg4 harg4 arg5 harg5 arg6 harg6 arg7 harg7 arg8 harg8 arg9 harg9 arg10 harg10 arg11 harg11 v1 v3 v5 q7 q8 w ws _ _ _ _)
  isplitl [H7]; · iexact H7
  isplitl [H8]; · iexact H8
  isplitl [H9]; · iexact H9
  isplitl [H10]; · iexact H10
  isplitl [H11]; · iexact H11
  iintro ⟨H7, H8, H9, H10, H11⟩
  rw [pure_wp]; imodintro
  iapply Hk
  isplitl [H6]; · iexact H6
  isplitl [H7]; · iexact H7
  isplitl [H8]; · iexact H8
  isplitl [H9]; · iexact H9
  isplitl [H10]; · iexact H10
  iexact H11

/-- One grid point's body. -/
theorem body_wp (c : Dev nD) (E : Set ℕ) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .vmem S512x2048 .bf16) (harg6 : arg6.IsWhole) (arg7 : Memref sig .tc .vmem S1x2048x7168 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x2048 .fp8e4m3) (harg10 : arg10.IsWhole) (arg11 : Memref sig .tc .vmem S512x128 .f32) (harg11 : arg11.IsWhole) (q q6 q7 q8 : PosShare TreeShare) (t3 t4 t5 : Vec F S63 .i32)
    (x : Vec F S512x2048 .bf16) (w : Vec F S1x2048x7168 .fp8e4m3) (ws : Vec F S1x1x7168 .f32)
    (o : Vec F S512x7168 .bf16) (cd : Vec F S512x2048 .fp8e4m3) (sc : Vec F S512x128 .f32) (K : PUnit → sProp 𝕄) :
    iprop((owns (c : Thread nD τ) arg3 q t3 ∗ owns (c : Thread nD τ) arg4 q t4 ∗ owns (c : Thread nD τ) arg5 q t5)
      ∗ (owns (c : Thread nD τ) arg6 q6 x ∗ owns (c : Thread nD τ) arg7 q7 w ∗ owns (c : Thread nD τ) arg8 q8 ws ∗ owns (c : Thread nD τ) arg9 fullShare o ∗ owns (c : Thread nD τ) arg10 fullShare cd ∗ owns (c : Thread nD τ) arg11 fullShare sc)
      ∗ ((owns (c : Thread nD τ) arg3 q t3 ∗ owns (c : Thread nD τ) arg4 q t4 ∗ owns (c : Thread nD τ) arg5 q t5)
        ∗ (owns (c : Thread nD τ) arg6 q6 x ∗ owns (c : Thread nD τ) arg7 q7 w ∗ owns (c : Thread nD τ) arg8 q8 ws
        ∗ owns (c : Thread nD τ) arg9 fullShare (outAfter (wd t3 i) (wd t4 i) (wd t5 i) (cdAfter (wd t3 i) (wd t4 i) (wd t5 i) x cd) w
            (scAfter (wd t3 i) (wd t4 i) (wd t5 i) x sc) ws o)
        ∗ owns (c : Thread nD τ) arg10 fullShare (cdAfter (wd t3 i) (wd t4 i) (wd t5 i) x cd) ∗ owns (c : Thread nD τ) arg11 fullShare (scAfter (wd t3 i) (wd t4 i) (wd t5 i) x sc)) -∗ K ⟨⟩))
    ⊢ wp frame (wpE (defs₀ (F := F)) Variants.none c none) E (cc0_grouped_fp8_matmul i arg1 harg1 arg2 harg2 arg3 harg3 arg4 harg4 arg5 harg5 arg6 harg6 arg7 harg7 arg8 harg8 arg9 harg9 arg10 harg10 arg11 harg11) K := by
  rw [body_eq]
  iintro ⟨⟨H3, H4, H5⟩, ⟨H6, H7, H8, H9, H10, H11⟩, Hk⟩
  iapply (words_wp c E i arg3 arg4 arg5 q t3 t4 t5 (fun v1 v3 v5 => phases i arg1 harg1 arg2 harg2 arg3 harg3 arg4 harg4 arg5 harg5 arg6 harg6 arg7 harg7 arg8 harg8 arg9 harg9 arg10 harg10 arg11 harg11 v1 v3 v5) K)
  isplitl [H3]; · iexact H3
  isplitl [H4]; · iexact H4
  isplitl [H5]; · iexact H5
  iintro ⟨H3, H4, H5⟩
  iapply (phases_wp c E i arg1 harg1 arg2 harg2 arg3 harg3 arg4 harg4 arg5 harg5 arg6 harg6 arg7 harg7 arg8 harg8 arg9 harg9 arg10 harg10 arg11 harg11 (wd t3 i) (wd t4 i) (wd t5 i) q6 q7 q8 x w ws o cd sc K)
  isplitl [H6]; · iexact H6
  isplitl [H7]; · iexact H7
  isplitl [H8]; · iexact H8
  isplitl [H9]; · iexact H9
  isplitl [H10]; · iexact H10
  isplitl [H11]; · iexact H11
  iintro ⟨H6, H7, H8, H9, H10, H11⟩
  iapply Hk
  isplitl [H3 H4 H5]
  · isplitl [H3]; · iexact H3
    isplitl [H4]; · iexact H4
    iexact H5
  isplitl [H6]; · iexact H6
  isplitl [H7]; · iexact H7
  isplitl [H8]; · iexact H8
  isplitl [H9]; · iexact H9
  isplitl [H10]; · iexact H10
  iexact H11

end Cert.KernelIdeal.Hand
end
-- ==== Proof.Ideal.Entry.lean ====
module

public import proofs.«01_k».proof.Proof.Gen.KernelIdeal.Launch
public import proofs.«01_k».proof.Proof.Gen.KernelIdeal.Skeleton
public import proofs.«01_k».proof.Proof.Ideal.Ranges
public import proofs.«01_k».proof.Proof.Ideal.Body
public import Idealize.ShloMosaic.Lib.Claim
public import Idealize.ShloMosaic.Lib.VecWindow
public import Idealize.ShloMosaic.Lib.WholeRead
public import Idealize.ShloMosaic.Lib.ValueIdx

/-! # The launch: what the region finds and the tables it is entered with

`V` is what every buffer holds when the grid's loop is entered, and `adm` the five tables together with the fact that
every block they name lies in its array. -/

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What each buffer of core `c` holds when the grid's loop is entered. -/
abbrev V (c : Dev nD) (b : Ref sig .tc) : Buf (Elt F) ((c : Thread nD τ).loc b) :=
  StableHlo.after (opss (F := F)).flatten (fun b => m (c, b)) b

/-- The group sizes as launched. -/
abbrev gs (c : Dev nD) : IVec S4 32 := m ((c : Thread nD τ).loc main_arg1)

/-- The five tables of group sizes `g`. -/
def tabs (g : IVec S4 32) : pre0.Contents (Elt F) := fun
  | 0 => tileT g
  | 1 => expertT g
  | 2 => loT g
  | 3 => hiT g
  | 4 => firstT g
  | ⟨_ + 5, h⟩ => absurd h (Nat.not_lt.2 (Nat.le_add_left _ _))

/-- The tables with their side condition. -/
def adm (p : Fin 1) : (pcfgs (F := F) p).Adm :=
  ⟨tabs (gs m 0), ok0_of _ (fun j => tile_lt (gs m 0) j) (fun j => expert_lt (gs m 0) j)⟩

theorem V_v40 (c : Dev nD) : V m c main_v40 = tileT (gs m c) := line_tile (fun b => m (c, b))
theorem V_v41 (c : Dev nD) : V m c main_v41 = expertT (gs m c) := line_expert (fun b => m (c, b))
theorem V_v50 (c : Dev nD) : V m c main_v50 = loT (gs m c) := line_lo (fun b => m (c, b))
theorem V_v59 (c : Dev nD) : V m c main_v59 = hiT (gs m c) := line_hi (fun b => m (c, b))
theorem V_v65 (c : Dev nD) : V m c main_v65 = firstT (gs m c) := line_first (fun b => m (c, b))
theorem V_v66 (c : Dev nD) : V m c main_v66 = (broadcastInDim S4x1x7168 ![0, 2] bcast_S4x7168_S4x1x7168_0_2 (m ((c : Thread nD τ).loc main_arg3) : Vec F S4x7168 .f32) : Vec F S4x1x7168 .f32) := line_scales (fun b => m (c, b))

/-- The region finds the tables `adm` records. -/
theorem V_tables (c : Dev nD) : ∀ (k : Fin 5), V m c (pre0.ref k) = (adm m 0).1 k := by
  have hc : c = 0 := Subsingleton.elim _ _
  subst hc
  have h0 : (adm m 0).1 = tabs (gs m 0) := rfl
  rw [h0]
  intro k
  match k with
  | 0 => exact V_v40 m 0
  | 1 => exact V_v41 m 0
  | 2 => exact V_v50 m 0
  | 3 => exact V_v59 m 0
  | 4 => exact V_v65 m 0

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub⟩

theorem opss_fresh : (opss (F := F)).Forall fun ops => ops.Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss opss_sub opss_fresh main_chain

/-- No host operation writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [opss, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [opss, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [opss, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [opss, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Every grid point's block of window `w`, read from what the region finds. -/
def iblk (c : Dev nD) (w : Fin 4) (t : Fin (cfg0 (adm m 0)).N) :
    (((cfg0 (adm m 0)).win w).xblock ((cfg0 (adm m 0)).grid.coords t)).Idx → Elt F ((cfg0 (adm m 0)).win w).elt :=
  (((cfg0 (adm m 0)).win w).blk t).view.read (Elt F) (V m c (Pipeline.arrRef spec0 w))

end Cert.KernelIdeal.Hand
end
-- ==== Proof.Ideal.Point.lean ====
module

public import proofs.«01_k».proof.Proof.Gen.KernelIdeal.Launch
public import proofs.«01_k».proof.Proof.Gen.KernelIdeal.Skeleton
public import proofs.«01_k».proof.Proof.Ideal.Entry
public import Idealize.ShloMosaic.Lib.Claim
public import Idealize.ShloMosaic.Lib.VecWindow
public import Idealize.ShloMosaic.Lib.WholeRead
public import Idealize.ShloMosaic.Lib.ValueIdx

/-! # One grid point, as the grid's loop runs it

The body's triple restated at the loop's own staging buffers, tables and scratch; and the proof that every execution
ends with the arguments unchanged, which needs to know nothing of what the body writes. -/

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline at the tables the region finds. -/
abbrev cfgA : Cfg sig Λ₀ := cfg0 (adm m 0)

abbrev ms0 (t : Fin (cfgA m).N) : Memref sig .tc .vmem S512x2048 .bf16 := ((cfgA m).win 0).stage ((cfgA m).slots t 0)
abbrev ms1 (t : Fin (cfgA m).N) : Memref sig .tc .vmem S1x2048x7168 .fp8e4m3 := ((cfgA m).win 1).stage ((cfgA m).slots t 1)
abbrev ms2 (t : Fin (cfgA m).N) : Memref sig .tc .vmem S1x1x7168 .f32 := ((cfgA m).win 2).stage ((cfgA m).slots t 2)
abbrev ms3 (t : Fin (cfgA m).N) : Memref sig .tc .vmem S512x7168 .bf16 := ((cfgA m).win 3).stage ((cfgA m).slots t 3)

/-- The three table words the body reads at point `t`. -/
abbrev wlo (t : Fin (cfgA m).N) : BitVec 32 := wd (F := F) (loT (gs m 0)) (grid0.coords t)
abbrev whi (t : Fin (cfgA m).N) : BitVec 32 := wd (F := F) (hiT (gs m 0)) (grid0.coords t)
abbrev wfirst (t : Fin (cfgA m).N) : BitVec 32 := wd (F := F) (firstT (gs m 0)) (grid0.coords t)

/-- The tables' halves one by one. -/
theorem tables_eq (c : Dev nD) (v : pre0.Contents (Elt F)) :
    (Pipeline.ΦT pre0 v c : sProp 𝕄)
      = iprop((((c : Thread nD τ).loc main_v40) ↦{fullShare.right} (v 0)) ∗ (((c : Thread nD τ).loc main_v41) ↦{fullShare.right} (v 1))
        ∗ (((c : Thread nD τ).loc main_v50) ↦{fullShare.right} (v 2)) ∗ (((c : Thread nD τ).loc main_v59) ↦{fullShare.right} (v 3))
        ∗ (((c : Thread nD τ).loc main_v65) ↦{fullShare.right} (v 4))) :=
  bigSep_univ_eq_bigSepL [(0 : Fin 5), (1 : Fin 5), (2 : Fin 5), (3 : Fin 5), (4 : Fin 5)] (by decide) (by decide) _

/-- A whole buffer's ownership through its whole memref. -/
theorem whole_iff (c : Dev nD) (b : Ref sig .tc) (q : PosShare TreeShare) (X : b.ty.Contents (Elt F)) :
    (owns (c : Thread nD τ) (Memref.whole b) q X : sProp 𝕄) = (((c : Thread nD τ).loc b) ↦{q} X) := by
  rw [owns_whole_eq]
  have h1 : iprop(∃ f : Buf (Elt F) ((c : Thread nD τ).loc b), ⌜f = X⌝ ∗ (((c : Thread nD τ).loc b) ↦{q} f)) ⊢ (((c : Thread nD τ).loc b) ↦{q} X : sProp 𝕄) := by
    iintro ⟨%f, %h, H⟩; subst h; iexact H
  have h2 : (((c : Thread nD τ).loc b) ↦{q} X : sProp 𝕄) ⊢ iprop(∃ f : Buf (Elt F) ((c : Thread nD τ).loc b), ⌜f = X⌝ ∗ (((c : Thread nD τ).loc b) ↦{q} f)) := by
    iintro H; iexists X; isplitr
    swap; · iexact H
    ipureintro; rfl
  exact Idealize.SL.BI.Entails.antisymm h1 h2

/-- The body at point `t`, from the tables, the staging buffers and the scratch at any contents. -/
theorem body_at (c : Dev nD) (t : Fin (cfgA m).N) (x : Vec F S512x2048 .bf16) (w : Vec F S1x2048x7168 .fp8e4m3) (ws : Vec F S1x1x7168 .f32)
    (o : Vec F S512x7168 .bf16) (cd : Vec F S512x2048 .fp8e4m3) (sc : Vec F S512x128 .f32) (K : PUnit → sProp 𝕄) :
    iprop(Pipeline.ΦT pre0 (adm m 0).1 c
      ∗ owns (c : Thread nD τ) (ms0 m t) fullShare x ∗ owns (c : Thread nD τ) (ms1 m t) fullShare w ∗ owns (c : Thread nD τ) (ms2 m t) fullShare ws
      ∗ owns (c : Thread nD τ) (ms3 m t) fullShare o
      ∗ (((c : Thread nD τ).loc cc0_scratch0) ↦{fullShare} cd) ∗ (((c : Thread nD τ).loc cc0_scratch1) ↦{fullShare} sc)
      ∗ ((Pipeline.ΦT pre0 (adm m 0).1 c
        ∗ owns (c : Thread nD τ) (ms0 m t) fullShare x ∗ owns (c : Thread nD τ) (ms1 m t) fullShare w ∗ owns (c : Thread nD τ) (ms2 m t) fullShare ws
        ∗ owns (c : Thread nD τ) (ms3 m t) fullShare (outAfter (wlo m t) (whi m t) (wfirst m t) (cdAfter (wlo m t) (whi m t) (wfirst m t) x cd) w
            (scAfter (wlo m t) (whi m t) (wfirst m t) x sc) ws o)
        ∗ (((c : Thread nD τ).loc cc0_scratch0) ↦{fullShare} (cdAfter (wlo m t) (whi m t) (wfirst m t) x cd))
        ∗ (((c : Thread nD τ).loc cc0_scratch1) ↦{fullShare} (scAfter (wlo m t) (whi m t) (wfirst m t) x sc))) -∗ K ⟨⟩))
    ⊢ wp frame (wpE (defs₀ (F := F)) Variants.none c none) Set.univ
        (defs₀ (F := F) .tc (cfgA m).body ((cfgA m).bodyArgs t ((cfgA m).slots t))) K := by
  have hb : defs₀ (F := F) .tc (cfgA m).body ((cfgA m).bodyArgs t ((cfgA m).slots t))
      = cc0_grouped_fp8_matmul (grid0.coords t) (Memref.whole main_v40) (Memref.isWhole_whole _) (Memref.whole main_v41) (Memref.isWhole_whole _) (Memref.whole main_v50) (Memref.isWhole_whole _) (Memref.whole main_v59) (Memref.isWhole_whole _) (Memref.whole main_v65) (Memref.isWhole_whole _)
          (ms0 m t) (hstage0_0 (((cfgA m).slots t 0).cast nbuf0_0)) (ms1 m t) (hstage0_1 (((cfgA m).slots t 1).cast nbuf0_1)) (ms2 m t) (hstage0_2 (((cfgA m).slots t 2).cast nbuf0_2)) (ms3 m t) (hstage0_3 (((cfgA m).slots t 3).cast nbuf0_3))
          (Memref.whole cc0_scratch0) (Memref.isWhole_whole _) (Memref.whole cc0_scratch1) (Memref.isWhole_whole _) := by
    unfold defs₀; rw [Defs.onTc_tc]; rfl
  rw [hb, tables_eq]
  have h0 : (adm m 0).1 = tabs (gs m 0) := rfl
  rw [h0]
  have e2 : tabs (F := F) (gs m 0) 2 = loT (gs m 0) := by unfold tabs; with_reducible rfl
  have e3 : tabs (F := F) (gs m 0) 3 = hiT (gs m 0) := by unfold tabs; with_reducible rfl
  have e4 : tabs (F := F) (gs m 0) 4 = firstT (gs m 0) := by unfold tabs; with_reducible rfl
  rw [e2, e3, e4]
  have k := body_wp (F := F) c Set.univ (grid0.coords t) (Memref.whole main_v40) (Memref.isWhole_whole _) (Memref.whole main_v41) (Memref.isWhole_whole _) (Memref.whole main_v50) (Memref.isWhole_whole _) (Memref.whole main_v59) (Memref.isWhole_whole _) (Memref.whole main_v65) (Memref.isWhole_whole _)
          (ms0 m t) (hstage0_0 (((cfgA m).slots t 0).cast nbuf0_0)) (ms1 m t) (hstage0_1 (((cfgA m).slots t 1).cast nbuf0_1)) (ms2 m t) (hstage0_2 (((cfgA m).slots t 2).cast nbuf0_2)) (ms3 m t) (hstage0_3 (((cfgA m).slots t 3).cast nbuf0_3))
          (Memref.whole cc0_scratch0) (Memref.isWhole_whole _) (Memref.whole cc0_scratch1) (Memref.isWhole_whole _)
          fullShare.right fullShare fullShare fullShare (loT (gs m 0)) (hiT (gs m 0)) (firstT (gs m 0)) x w ws o cd sc K
  rw [whole_iff c main_v50, whole_iff c main_v59, whole_iff c main_v65] at k
  simp only [whole_iff c cc0_scratch0, whole_iff c cc0_scratch1] at k
  iintro ⟨⟨T0, T1, T2, T3, T4⟩, H0, H1, H2, H3, HC, HS, Hk⟩
  iapply k
  isplitl [T2 T3 T4]
  · isplitl [T2]; · iexact T2
    isplitl [T3]; · iexact T3
    iexact T4
  isplitl [H0 H1 H2 H3 HC HS]
  · isplitl [H0]; · iexact H0
    isplitl [H1]; · iexact H1
    isplitl [H2]; · iexact H2
    isplitl [H3]; · iexact H3
    isplitl [HC]; · iexact HC
    iexact HS
  iintro ⟨⟨T2, T3, T4⟩, H0, H1, H2, H3, HC, HS⟩
  iapply Hk
  isplitl [T0 T1 T2 T3 T4]
  · isplitl [T0]; · iexact T0
    isplitl [T1]; · iexact T1
    isplitl [T2]; · iexact T2
    isplitl [T3]; · iexact T3
    iexact T4
  isplitl [H0]; · iexact H0
  isplitl [H1]; · iexact H1
  isplitl [H2]; · iexact H2
  isplitl [H3]; · iexact H3
  isplitl [HC]; · iexact HC
  iexact HS

/-- Input window 0's staging buffer holds its block at every point. -/
theorem before0_of {c : Dev nD} (dat : Dat τ (Elt F) Unit ℕ (UR sig nD τ) ℕ (cfgA m) c) (hA : dat.A 0 = V m c (Pipeline.arrRef spec0 0))
    (hafter : ∀ t, dat.after 0 t = iblk m c 0 t) (t : Fin (cfgA m).N) (d) : dat.before 0 t d = iblk m c 0 t :=
  (dat.before_in_eq_fetched 0 rfl (fun _ => rfl) (fun _ _ _ => rfl)
    (fun t => by rw [hafter]; unfold Dat.blockOf iblk; rw [hA]; try rfl) t d).trans (by unfold Dat.fetched Dat.blockOf iblk; rw [hA]; try rfl)

/-- Input window 1's staging buffer holds its block at every point. -/
theorem before1_of {c : Dev nD} (dat : Dat τ (Elt F) Unit ℕ (UR sig nD τ) ℕ (cfgA m) c) (hA : dat.A 1 = V m c (Pipeline.arrRef spec0 1))
    (hafter : ∀ t, dat.after 1 t = iblk m c 1 t) (t : Fin (cfgA m).N) (d) : dat.before 1 t d = iblk m c 1 t :=
  (dat.before_in_eq_fetched 1 rfl (fun _ => rfl) (fun _ _ _ => rfl)
    (fun t => by rw [hafter]; unfold Dat.blockOf iblk; rw [hA]; try rfl) t d).trans (by unfold Dat.fetched Dat.blockOf iblk; rw [hA]; try rfl)

/-- Input window 2's staging buffer holds its block at every point. -/
theorem before2_of {c : Dev nD} (dat : Dat τ (Elt F) Unit ℕ (UR sig nD τ) ℕ (cfgA m) c) (hA : dat.A 2 = V m c (Pipeline.arrRef spec0 2))
    (hafter : ∀ t, dat.after 2 t = iblk m c 2 t) (t : Fin (cfgA m).N) (d) : dat.before 2 t d = iblk m c 2 t :=
  (dat.before_in_eq_fetched 2 rfl (fun _ => rfl) (fun _ _ _ => rfl)
    (fun t => by rw [hafter]; unfold Dat.blockOf iblk; rw [hA]; try rfl) t d).trans (by unfold Dat.fetched Dat.blockOf iblk; rw [hA]; try rfl)

end Cert.KernelIdeal.Hand
end
-- ==== Proof.Ideal.Frame.lean ====
module

public import proofs.«01_k».proof.Proof.Gen.KernelIdeal.Launch
public import proofs.«01_k».proof.Proof.Gen.KernelIdeal.Skeleton
public import proofs.«01_k».proof.Proof.Ideal.Point
public import Idealize.ShloMosaic.Lib.Claim
public import Idealize.ShloMosaic.Lib.VecWindow
public import Idealize.ShloMosaic.Lib.WholeRead
public import Idealize.ShloMosaic.Lib.ValueIdx

/-! # Every execution ends, with the arguments unchanged

The run that forgets what the output window holds. It needs no hypothesis on the arguments: the tables are always within
their bounds, and whatever the body writes goes to the output. -/

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows forgotten: the output. -/
abbrev fgt : Fin 4 → Bool := fun | 0 => false | 1 => false | 2 => false | 3 => true | ⟨_ + 4, h⟩ => absurd h (Nat.not_lt.2 (Nat.le_add_left _ _))

/-- The proof data of the forgetful run. -/
def datF (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := iprop(Pipeline.ΦA spec0 c ∗ Pipeline.ΦT pre0 (adm m 0).1 c)
  q _ := fullShare
  owed _ := 0

theorem datF_A (c : Dev nD) (w : Fin (cfgA m).W) : (datF m 0 c).A w = V m c (Pipeline.arrRef spec0 w) := by dsimp only [datF]; try rfl
theorem datF_after0 (c : Dev nD) (t) : (datF m 0 c).after 0 t = iblk m c 0 t := by dsimp only [datF]; try rfl
theorem datF_after1 (c : Dev nD) (t) : (datF m 0 c).after 1 t = iblk m c 1 t := by dsimp only [datF]; try rfl
theorem datF_after2 (c : Dev nD) (t) : (datF m 0 c).after 2 t = iblk m c 2 t := by dsimp only [datF]; try rfl

theorem datF_before0 (c : Dev nD) (t) (d) : (datF m 0 c).before 0 t d = iblk m c 0 t := before0_of m (datF m 0 c) (datF_A m c 0) (datF_after0 m c) t d
theorem datF_before1 (c : Dev nD) (t) (d) : (datF m 0 c).before 1 t d = iblk m c 1 t := before1_of m (datF m 0 c) (datF_A m c 1) (datF_after1 m c) t d
theorem datF_before2 (c : Dev nD) (t) (d) : (datF m 0 c).before 2 t d = iblk m c 2 t := before2_of m (datF m 0 c) (datF_A m c 2) (datF_after2 m c) t d

def preF (c : Dev nD) (t : Fin (cfgA m).N) : sProp 𝕄 :=
  iprop((datF m 0 c).Φ t.castSucc ∗ (datF m 0 c).owesAt () t.castSucc
    ∗ (∃ d, owns (c : Thread nD τ) (ms0 m t) fullShare ((datF m 0 c).before 0 t d))
    ∗ (∃ d, owns (c : Thread nD τ) (ms1 m t) fullShare ((datF m 0 c).before 1 t d))
    ∗ (∃ d, owns (c : Thread nD τ) (ms2 m t) fullShare ((datF m 0 c).before 2 t d))
    ∗ (∃ X, owns (c : Thread nD τ) (ms3 m t) fullShare X))

def postF (c : Dev nD) (t : Fin (cfgA m).N) : sProp 𝕄 :=
  iprop((datF m 0 c).Φ t.succ ∗ (datF m 0 c).owesAt () t.succ
    ∗ owns (c : Thread nD τ) (ms0 m t) fullShare ((datF m 0 c).after 0 t)
    ∗ owns (c : Thread nD τ) (ms1 m t) fullShare ((datF m 0 c).after 1 t)
    ∗ owns (c : Thread nD τ) (ms2 m t) fullShare ((datF m 0 c).after 2 t)
    ∗ (∃ X, owns (c : Thread nD τ) (ms3 m t) fullShare X))

theorem soundF (c : Dev nD) (t : Fin (cfgA m).N) :
    preF m c t ⊢ wp frame (wpE (defs₀ (F := F)) Variants.none c none) Set.univ
      (defs₀ (F := F) .tc (cfgA m).body ((cfgA m).bodyArgs t ((cfgA m).slots t))) (fun _ => postF m c t) := by
  unfold preF postF
  simp only [datF_before0, datF_before1, datF_before2]
  rw [show (datF m 0 c).Φ t.succ = (datF m 0 c).Φ t.castSucc from rfl,
    show (datF m 0 c).owesAt () t.succ = (datF m 0 c).owesAt () t.castSucc from rfl,
    datF_after0, datF_after1, datF_after2,
    show (datF m 0 c).Φ t.castSucc = iprop(Pipeline.ΦA spec0 c ∗ Pipeline.ΦT pre0 (adm m 0).1 c) from rfl]
  unfold Pipeline.ΦA
  rw [scopedRest0_eq]
  iintro ⟨⟨⟨⟨⟨%cd, HC⟩, ⟨%sc, HS⟩⟩, HR⟩, HT⟩, Ho, ⟨%d0, H0⟩, ⟨%d1, H1⟩, ⟨%d2, H2⟩, ⟨%o, H3⟩⟩
  iapply (body_at m c t (iblk m c 0 t) (iblk m c 1 t) (iblk m c 2 t) o cd sc)
  isplitl [HT]; · iexact HT
  isplitl [H0]; · iexact H0
  isplitl [H1]; · iexact H1
  isplitl [H2]; · iexact H2
  isplitl [H3]; · iexact H3
  isplitl [HC]; · iexact HC
  isplitl [HS]; · iexact HS
  iintro ⟨HT, H0, H1, H2, H3, HC, HS⟩
  isplitl [HT HC HS HR]
  · isplitl [HC HS HR]
    · isplitl [HC HS]
      · isplitl [HC]
        · iexists _; iexact HC
        · iexists _; iexact HS
      iexact HR
    iexact HT
  isplitl [Ho]; · iexact Ho
  isplitl [H0]; · iexact H0
  isplitl [H1]; · iexact H1
  isplitl [H2]; · iexact H2
  iexists _; iexact H3

theorem obligationF (c : Dev nD) : BodyObligation (datF (F := F) m 0 c) (defs₀ (F := F)) Variants.none () Set.univ fgt := fun t => by
  rw [bigSep_W0, bigSep_W0]
  exact triple_restated (soundF m c t) rfl .rfl fun _ => .rfl

set_option backward.isDefEq.respectTransparency.types false in
theorem runF : θ_run defs (onTc (τ := τ) (main (F := F))) (s₀ m ρ)
    (fun r => Pipeline.RDat.FramePost (cfgA m) (fun c => (datF m 0 c).toRForget fgt) (V m) r ∧ r.2.sem = fun _ => 0) :=
  Pipeline.θ_run_frameP_forget (Q' := _) pcfgs (adm m) (datF m) (0 : Fin 1) launch0 defs₀ Variants.none fgt m ρ main
    (hbody := fun c => (obligationF m c).loose) (hshare := fun c => (datF m 0 c).share_full fun _ => rfl)
    (howed := fun _ _ => rfl) (V := V m) (hmain := hmain m Variants.none) (hA := datF_A m) (hpf := V_tables m) (hΦ := fun _ _ => rfl)

/-- Every execution of @main ends, with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨
      (Pipeline.RDat.FramePost.arr_in h.1 c 0 rfl).trans ((datF_A m c 0).trans (V_main_arg0 m c)),
      ((h.1 c).2 main_arg1 (Pipeline.mem_restRefs_of main_arg1 (by decide) (show ∀ w : Fin 4, (spec0 w).arr.view.ref ≠ main_arg1 from by decide))).trans (V_main_arg1 m c),
      (Pipeline.RDat.FramePost.arr_in h.1 c 1 rfl).trans ((datF_A m c 1).trans (V_main_arg2 m c)),
      ((h.1 c).2 main_arg3 (Pipeline.mem_restRefs_of main_arg3 (by decide) (show ∀ w : Fin 4, (spec0 w).arr.view.ref ≠ main_arg3 from by decide))).trans (V_main_arg3 m c)⟩, h.2⟩) (runF m ρ)

end Cert.KernelIdeal.Hand
end
-- ==== Proof.Ideal.Scales.lean ====
module

public import Idealize.ShloMosaic.Lib.Pointwise
public import Idealize.ShloMosaic.PureOps.Ideal.Laws

/-! # The two scales, as numbers

Neither scale is ever compared with the other.  Each is a positive real `c` with the row's largest magnitude at most `448 * c`,
so dividing by it clips nothing, and multiplying the dot product by it again gives back the dot product of the unscaled row. -/

@[expose] public section

set_option maxRecDepth 65536

noncomputable section

namespace Cert.Scales

open Idealize.ShloMosaic

/-! ## Bit patterns read as numbers -/

/-- The float whose exponent field is the word `n`. -/
abbrev pw (n : BitVec 32) : EReal := Ideal.ofBits .f32 (IntOp.shli ArithUnit.vector n 23#32)

theorem pw_bits : ∀ n : Fin 256, ((BitVec.ofNat 32 n.val <<< 23#32).extractLsb' 31 1 == 1#1) = false
    ∧ ((BitVec.ofNat 32 n.val <<< 23#32).extractLsb' 23 8).toNat = n.val ∧ ((BitVec.ofNat 32 n.val <<< 23#32).extractLsb' 0 23).toNat = 0 := by
  decide +kernel

theorem pw_eq (n : ℕ) (h1 : 1 ≤ n) (h2 : n ≤ 254) : pw (BitVec.ofNat 32 n) = (((2 : ℝ) ^ ((n : ℤ) - 127) : ℝ) : EReal) := by
  obtain ⟨b1, b2, b3⟩ := pw_bits ⟨n, by omega⟩
  have hs : IntOp.shli ArithUnit.vector (BitVec.ofNat 32 n) 23#32 = BitVec.ofNat 32 n <<< 23#32 := by
    unfold IntOp.shli; exact if_pos (by decide)
  unfold pw
  rw [hs]
  generalize BitVec.ofNat 32 n <<< 23#32 = b at b1 b2 b3
  have b2 : (b.extractLsb' 23 8).toNat = n := b2
  unfold Ideal.ofBits Ideal.ieee
  simp only [show 8 + 23 = 31 from rfl]
  simp only [b1, b2, b3]
  rw [if_neg (by omega), if_neg (by omega)]
  congr 1
  have e : ((2 : ℝ) ^ 23) * (2 : ℝ) ^ ((n : ℤ) - (2 ^ (8 - 1) - 1) - (23 : ℕ)) = (2 : ℝ) ^ ((n : ℤ) - 127) := by
    rw [← zpow_natCast, ← zpow_add₀ (by norm_num)]
    congr 1
    push_cast
    ring
  rw [show (2 : ℝ) ^ 23 = 8388608 by norm_num] at e
  simpa using e

theorem pw_top : pw (BitVec.ofNat 32 255) = ⊤ := by
  obtain ⟨b1, b2, b3⟩ := pw_bits ⟨255, by omega⟩
  have hs : IntOp.shli ArithUnit.vector (BitVec.ofNat 32 255) 23#32 = BitVec.ofNat 32 255 <<< 23#32 := by
    unfold IntOp.shli; exact if_pos (by decide)
  unfold pw
  rw [hs]
  generalize BitVec.ofNat 32 255 <<< 23#32 = b at b1 b2 b3
  unfold Ideal.ofBits Ideal.ieee
  simp only [show 8 + 23 = 31 from rfl]
  simp only [b1, b2, b3]
  rw [if_pos (by norm_num)]
  simp

theorem lit_448 : Ideal.ofBits .f32 1138753536#32 = ((448 : ℝ) : EReal) := by
  simp [Ideal.ofBits, Ideal.ieee, -EReal.coe_mul]; norm_num
theorem lit_neg448 : Ideal.ofBits .f32 3286237184#32 = ((-448 : ℝ) : EReal) := by
  simp [Ideal.ofBits, Ideal.ieee, -EReal.coe_mul]; norm_num
theorem lit_recip : Ideal.ofBits .f32 991054117#32 = ((9586981 / 2 ^ 32 : ℝ) : EReal) := by
  simp [Ideal.ofBits, Ideal.ieee, -EReal.coe_mul]; norm_num
theorem lit_149 : Ideal.ofBits .f32 1125449728#32 = ((149 : ℝ) : EReal) := by
  simp [Ideal.ofBits, Ideal.ieee, -EReal.coe_mul]; norm_num
theorem lit_bot16 : Ideal.ofBits .bf16 65408#16 = ⊥ := by simp [Ideal.ofBits, Ideal.ieee]
theorem lit_bot : Ideal.ofBits .f32 4286578688#32 = ⊥ := by simp [Ideal.ofBits, Ideal.ieee]
theorem lit_top : Ideal.ofBits .f32 2139095040#32 = ⊤ := by simp [Ideal.ofBits, Ideal.ieee]
/-- The largest finite bf16 is below `448 * 2 ^ 120`. -/
theorem lit_big : ∃ B : ℝ, Ideal.ofBits .f32 2139029504#32 = ((B : ℝ) : EReal) ∧ B ≤ 2 ^ 128 := by
  refine ⟨_, by simp [Ideal.ofBits, Ideal.ieee]; rfl, ?_⟩
  norm_num

/-! ## A row's largest magnitude -/

/-- The row's largest magnitude, as both programs take it. -/
abbrev top (v : Fin 2048 → EReal) : EReal := Finset.fold max ⊥ (fun k => max (v k) (-(v k))) Finset.univ

theorem row (v : Fin 2048 → EReal) (B : ℝ) (h : ∀ k, max (v k) (-(v k)) ≤ (B : EReal)) :
    ∃ r : ℝ, 0 ≤ r ∧ r ≤ B ∧ top v = (r : EReal) ∧ ∀ k, ∃ x : ℝ, v k = (x : EReal) ∧ |x| ≤ r := by
  have hle : top v ≤ (B : EReal) := (Finset.fold_max_le _).mpr ⟨bot_le, fun k _ => h k⟩
  have hge : ∀ k, max (v k) (-(v k)) ≤ top v := fun k => (Finset.le_fold_max _).mpr (Or.inr ⟨k, Finset.mem_univ k, le_rfl⟩)
  have hpos : (0 : EReal) ≤ top v := by
    refine le_trans ?_ (hge 0)
    rcases le_total 0 (v 0) with h0 | h0
    · exact le_max_of_le_left h0
    · refine le_max_of_le_right ?_
      simpa using EReal.neg_le_neg_iff.mpr h0
  have ht : top v ≠ ⊤ := fun e => by rw [e] at hle; exact absurd (top_le_iff.mp hle) (EReal.coe_ne_top B)
  have hb : top v ≠ ⊥ := fun e => by rw [e] at hpos; exact absurd (le_bot_iff.mp hpos) (by simp)
  refine ⟨(top v).toReal, ?_, ?_, (EReal.coe_toReal ht hb).symm, ?_⟩
  · exact EReal.toReal_nonneg hpos
  · have := hle
    rw [← EReal.coe_toReal ht hb] at this
    exact EReal.coe_le_coe_iff.mp this
  · intro k
    have hk := hge k
    rw [← EReal.coe_toReal ht hb] at hk
    have h1 : v k ≤ ((top v).toReal : EReal) := le_trans (le_max_left _ _) hk
    have h2 : -(v k) ≤ ((top v).toReal : EReal) := le_trans (le_max_right _ _) hk
    have k1 : v k ≠ ⊤ := fun e => by rw [e] at h1; exact absurd (top_le_iff.mp h1) (EReal.coe_ne_top _)
    have k2 : v k ≠ ⊥ := fun e => by rw [e, EReal.neg_bot] at h2; exact absurd (top_le_iff.mp h2) (EReal.coe_ne_top _)
    refine ⟨(v k).toReal, (EReal.coe_toReal k1 k2).symm, ?_⟩
    rw [← EReal.coe_toReal k1 k2] at h1 h2
    rw [← EReal.coe_neg] at h2
    have := EReal.coe_le_coe_iff.mp h1
    have := EReal.coe_le_coe_iff.mp h2
    exact abs_le.mpr ⟨by linarith, by linarith⟩

/-! ## Counting the powers of two below the scaled maximum -/

theorem fold_count {n : ℕ} (p : Fin n → Prop) [DecidablePred p] (S : Finset (Fin n)) :
    Finset.fold IntOp.addi (0#32) (fun x => BitVec.setWidth 32 (BitVec.ofBool (decide (p x)))) S = BitVec.ofNat 32 (S.filter p).card := by
  induction S using Finset.induction_on with
  | empty => simp
  | insert a S ha ih =>
    rw [Finset.fold_insert ha, ih, Finset.filter_insert]
    by_cases hp : p a
    · rw [if_pos hp, Finset.card_insert_of_notMem (by simp [ha])]
      simp only [hp, decide_true]
      show BitVec.setWidth 32 (BitVec.ofBool true) + _ = _
      rw [BitVec.ofNat_add]; exact BitVec.add_comm _ _
    · rw [if_neg hp]
      simp only [hp, decide_false]
      show BitVec.setWidth 32 (BitVec.ofBool false) + _ = _
      simp

/-- The exponent words the fused kernel takes for a scaled maximum `s`. -/
theorem count (s : ℝ) (hs : s < 2 ^ 120) :
    ∃ n : ℕ, n ≤ 246 ∧ s < (2 : ℝ) ^ ((n : ℤ) - 126)
      ∧ Finset.fold IntOp.addi (0#32) (fun x : Fin 255 => BitVec.setWidth 32 (BitVec.ofBool (decide (pw (IntOp.addi (BitVec.ofNat 32 x.val) 1#32) ≤ (s : EReal)))))
          Finset.univ = BitVec.ofNat 32 n := by
  have hs' : s < (2 : ℝ) ^ (120 : ℤ) := by exact_mod_cast hs
  have hw : ∀ x : Fin 255, IntOp.addi (BitVec.ofNat 32 x.val) 1#32 = BitVec.ofNat 32 (x.val + 1) := fun x => by
    rw [BitVec.ofNat_add]; rfl
  have two : (1 : ℝ) < 2 := by norm_num
  have hp : ∀ x : Fin 255, pw (IntOp.addi (BitVec.ofNat 32 x.val) 1#32) ≤ (s : EReal) ↔ (2 : ℝ) ^ ((x.val : ℤ) - 126) ≤ s := by
    intro x
    rw [hw]
    by_cases hx : x.val = 254
    · rw [show x.val + 1 = 255 by omega, pw_top]
      refine ⟨fun h => absurd (top_le_iff.mp h) (EReal.coe_ne_top s), fun h => ?_⟩
      have : (2 : ℝ) ^ (120 : ℤ) ≤ (2 : ℝ) ^ ((x.val : ℤ) - 126) := zpow_le_zpow_right₀ two.le (by omega)
      linarith
    · rw [pw_eq (x.val + 1) (by omega) (by have := x.isLt; omega), EReal.coe_le_coe_iff]
      rw [show (((x.val + 1 : ℕ) : ℤ) - 127) = (x.val : ℤ) - 126 by push_cast; ring]
  refine ⟨(Finset.univ.filter fun x : Fin 255 => pw (IntOp.addi (BitVec.ofNat 32 x.val) 1#32) ≤ (s : EReal)).card, ?_, ?_, fold_count _ _⟩
  · have hsub : (Finset.univ.filter fun x : Fin 255 => pw (IntOp.addi (BitVec.ofNat 32 x.val) 1#32) ≤ (s : EReal)) ⊆ Finset.Iio (⟨246, by norm_num⟩ : Fin 255) := by
      intro x hx
      have h1 := (hp x).mp (Finset.mem_filter.mp hx).2
      have h2 : (2 : ℝ) ^ ((x.val : ℤ) - 126) < (2 : ℝ) ^ (120 : ℤ) := lt_of_le_of_lt h1 hs'
      have h3 := (zpow_lt_zpow_iff_right₀ two).mp h2
      exact Finset.mem_Iio.mpr (Fin.lt_def.mpr (by show x.val < 246; omega))
    have := Finset.card_le_card hsub
    rwa [Fin.card_Iio] at this
  · by_contra hno
    have hno := not_lt.mp hno
    generalize hn : (Finset.univ.filter fun x : Fin 255 => pw (IntOp.addi (BitVec.ofNat 32 x.val) 1#32) ≤ (s : EReal)).card = n at hno
    have h2 : (2 : ℝ) ^ ((n : ℤ) - 126) < (2 : ℝ) ^ (120 : ℤ) := lt_of_le_of_lt hno hs'
    have h3 := (zpow_lt_zpow_iff_right₀ two).mp h2
    have hn254 : n < 255 := by omega
    have hsub : Finset.Iic (⟨n, hn254⟩ : Fin 255) ⊆ (Finset.univ.filter fun x : Fin 255 => pw (IntOp.addi (BitVec.ofNat 32 x.val) 1#32) ≤ (s : EReal)) := by
      intro x hx
      have hx' : x.val ≤ n := Fin.le_def.mp (Finset.mem_Iic.mp hx)
      refine Finset.mem_filter.mpr ⟨Finset.mem_univ x, (hp x).mpr ?_⟩
      exact le_trans (zpow_le_zpow_right₀ two.le (by omega)) hno
    have := Finset.card_le_card hsub
    rw [Fin.card_Iic, hn] at this
    simp at this

/-- The exponent word kept: zero for a count of zero, the count less 126 otherwise. -/
abbrev expo (f : BitVec 32) : BitVec 32 := Scalar.select (IntOp.cmpi CmpIPredicate.eq f 0#32) (0#32) (IntOp.subi f 126#32)

theorem expo_words : ∀ n : Fin 247, ∃ a : Fin 255, 1 ≤ a.val ∧ a.val ≤ 253 ∧ n.val + 1 ≤ a.val + (if n.val = 0 then 0 else 0)
    ∧ IntOp.addi (expo (BitVec.ofNat 32 n.val)) 127#32 = BitVec.ofNat 32 a.val
    ∧ IntOp.addi (IntOp.subi (0#32) (expo (BitVec.ofNat 32 n.val))) 127#32 = BitVec.ofNat 32 (254 - a.val) := by
  decide +kernel

/-- The kernel's two factors: the scale, and what it multiplies by in place of dividing. -/
theorem factors (s : ℝ) (hs : s < 2 ^ 120) (f : BitVec 32)
    (hf : f = Finset.fold IntOp.addi (0#32) (fun x : Fin 255 => BitVec.setWidth 32 (BitVec.ofBool (decide (pw (IntOp.addi (BitVec.ofNat 32 x.val) 1#32) ≤ (s : EReal)))))
          Finset.univ) :
    ∃ c : ℝ, 0 < c ∧ s < c ∧ pw (IntOp.addi (expo f) 127#32) = (c : EReal) ∧ pw (IntOp.addi (IntOp.subi (0#32) (expo f)) 127#32) = ((c⁻¹ : ℝ) : EReal) := by
  obtain ⟨n, hn, hlt, e⟩ := count s hs
  rw [e] at hf
  subst hf
  obtain ⟨a, ha1, ha2, ha3, e1, e2⟩ := expo_words ⟨n, by omega⟩
  have ha3 : n + 1 ≤ a.val := by simpa using ha3
  refine ⟨(2 : ℝ) ^ ((a.val : ℤ) - 127), by positivity, lt_of_lt_of_le hlt (zpow_le_zpow_right₀ (by norm_num) (by omega)), ?_, ?_⟩
  · rw [e1, pw_eq _ ha1 (by omega)]
  · rw [e2, pw_eq _ (by omega) (by omega), ← zpow_neg]
    congr 3
    push_cast [show a.val ≤ 254 by omega]
    ring

/-! ## Clipping nothing -/

theorem clip_id (x c r : ℝ) (hc : 0 < c) (hx : |x| ≤ r) (hr : r ≤ 448 * c) :
    min ((448 : ℝ) : EReal) (max ((-448 : ℝ) : EReal) ((x : EReal) * ((c⁻¹ : ℝ) : EReal))) = ((x * c⁻¹ : ℝ) : EReal) := by
  have h1 := abs_le.mp hx
  have k1 : x * c⁻¹ ≤ 448 := by rw [← div_eq_mul_inv, div_le_iff₀ hc]; linarith
  have k2 : -448 ≤ x * c⁻¹ := by rw [← div_eq_mul_inv, le_div_iff₀ hc]; linarith
  rw [← EReal.coe_mul, max_eq_right (EReal.coe_le_coe_iff.mpr k2), min_eq_right (EReal.coe_le_coe_iff.mpr k1)]

theorem bound_of_scaled (r c : ℝ) (hr : 0 ≤ r) (h : r * (9586981 / 2 ^ 32) < c) : r ≤ 448 * c := by
  have : (1 : ℝ) / 448 ≤ 9586981 / 2 ^ 32 := by norm_num
  nlinarith

/-! ## The scale cancels -/

theorem mul_sum_nonneg {n : ℕ} (a : ℝ) (ha : 0 ≤ a) (f : Fin n → EReal) (S : Finset (Fin n)) : ∑ k ∈ S, (a : EReal) * f k = (a : EReal) * ∑ k ∈ S, f k := by
  induction S using Finset.induction_on with
  | empty => simp
  | insert k S hk ih =>
    rw [Finset.sum_insert hk, Finset.sum_insert hk, ih]
    exact (EReal.left_distrib_of_nonneg_of_ne_top (by exact_mod_cast ha) (EReal.coe_ne_top a) _ _).symm

theorem cancel {n : ℕ} (c : ℝ) (hc : 0 < c) (x : Fin n → ℝ) (w : Fin n → EReal) :
    (∑ k, ((x k * c⁻¹ : ℝ) : EReal) * w k) * (c : EReal) = ∑ k, (x k : EReal) * w k := by
  have e : ∀ k, ((x k * c⁻¹ : ℝ) : EReal) * w k = ((c⁻¹ : ℝ) : EReal) * ((x k : EReal) * w k) := fun k => by
    rw [← mul_assoc, ← EReal.coe_mul, mul_comm c⁻¹]
  rw [Finset.sum_congr rfl fun k _ => e k, mul_sum_nonneg _ (inv_nonneg.mpr hc.le), mul_comm, ← mul_assoc, ← EReal.coe_mul,
    mul_inv_cancel₀ hc.ne', EReal.coe_one, one_mul]

/-! ## The least power of two above -/

theorem fold_min_cases {n : ℕ} (f : Fin n → EReal) (S : Finset (Fin n)) : Finset.fold min ⊤ f S = ⊤ ∨ ∃ j ∈ S, Finset.fold min ⊤ f S = f j := by
  induction S using Finset.induction_on with
  | empty => left; simp
  | insert a S ha ih =>
    rw [Finset.fold_insert ha]
    rcases min_choice (f a) (Finset.fold min ⊤ f S) with h | h
    · right; exact ⟨a, Finset.mem_insert_self a S, h⟩
    · rw [h]
      rcases ih with h1 | ⟨j, hj, h1⟩
      · left; exact h1
      · right; exact ⟨j, Finset.mem_insert_of_mem hj, h1⟩

/-- Of powers that are positive reals, one of them above `s`, the least above `s` is a positive real above `s`. -/
theorem least_above (s : ℝ) (p : Fin 277 → EReal) (hp : ∀ j, ∃ q : ℝ, 0 < q ∧ p j = (q : EReal)) (j0 : Fin 277) (h0 : (s : EReal) < p j0) :
    ∃ c : ℝ, 0 < c ∧ s < c ∧ Finset.fold min ⊤ (fun j => if (s : EReal) < p j then p j else ⊤) Finset.univ = (c : EReal) := by
  rcases fold_min_cases (fun j => if (s : EReal) < p j then p j else ⊤) Finset.univ with h | ⟨j, -, h⟩
  · exfalso
    have : Finset.fold min ⊤ (fun j => if (s : EReal) < p j then p j else ⊤) Finset.univ ≤ p j0 :=
      (Finset.fold_min_le _).mpr (Or.inr ⟨j0, Finset.mem_univ j0, by rw [if_pos h0]⟩)
    rw [h] at this
    obtain ⟨q, -, hq⟩ := hp j0
    rw [hq] at this
    exact absurd (top_le_iff.mp this) (EReal.coe_ne_top q)
  · by_cases hj : (s : EReal) < p j
    · obtain ⟨q, hq0, hq⟩ := hp j
      refine ⟨q, hq0, ?_, ?_⟩
      · rw [hq] at hj; exact EReal.coe_lt_coe_iff.mp hj
      · rw [h]; show (if (s : EReal) < p j then p j else ⊤) = _; rw [if_pos hj]; exact hq
    · exfalso
      simp only [if_neg hj] at h
      have : Finset.fold min ⊤ (fun j => if (s : EReal) < p j then p j else ⊤) Finset.univ ≤ p j0 :=
        (Finset.fold_min_le _).mpr (Or.inr ⟨j0, Finset.mem_univ j0, by rw [if_pos h0]⟩)
      rw [h] at this
      obtain ⟨q, -, hq⟩ := hp j0
      rw [hq] at this
      exact absurd (top_le_iff.mp this) (EReal.coe_ne_top q)

theorem nat_words : ∀ j : Fin 277, (BitVec.ofNat 32 j.val).toInt = (j.val : ℤ) := by decide +kernel

/-- The powers the plain side compares with. -/
abbrev power (j : Fin 277) : EReal :=
  FloatOps.exp2 (F := Ideal) (φ := .f32) ((FloatOps.sitofp (F := Ideal) .f32 (BitVec.ofNat 32 j.val) : EReal) - Ideal.ofBits .f32 1125449728#32)

theorem power_eq (j : Fin 277) : power j = (((2 : ℝ) ^ ((j.val : ℤ) - 149) : ℝ) : EReal) := by
  have e1 : (FloatOps.sitofp (F := Ideal) .f32 (BitVec.ofNat 32 j.val) : EReal) = (((j.val : ℤ) : ℝ) : EReal) := by
    show ((((BitVec.ofNat 32 j.val).toInt : ℤ) : ℝ) : EReal) = _
    rw [nat_words]
  unfold power
  rw [e1, lit_149, ← EReal.coe_sub]
  show ((Real.rpow 2 (((j.val : ℤ) : ℝ) - 149) : ℝ) : EReal) = _
  congr 1
  have e2 : (((j.val : ℤ) : ℝ) - 149) = (((j.val : ℤ) - 149 : ℤ) : ℝ) := by push_cast; ring
  rw [e2]
  exact Real.rpow_intCast 2 _

/-- The plain side's scale: one for a row of zeros, else the least power of two above the scaled maximum. -/
abbrev plain (M : EReal) : EReal :=
  if M = 0 then 1 else Finset.fold min ⊤ (fun j => if M * Ideal.ofBits .f32 991054117#32 < power j then power j else ⊤) Finset.univ

theorem plain_eq (r : ℝ) (h0 : 0 ≤ r) (h : r * (9586981 / 2 ^ 32) < 2 ^ 120) : ∃ c : ℝ, 0 < c ∧ r ≤ 448 * c ∧ plain (r : EReal) = (c : EReal) := by
  unfold plain
  by_cases hr : (r : EReal) = 0
  · refine ⟨1, one_pos, ?_, by rw [if_pos hr]; rfl⟩
    have : r = 0 := by exact_mod_cast hr
    rw [this]; norm_num
  · rw [if_neg hr, lit_recip, ← EReal.coe_mul]
    obtain ⟨c, hc, hlt, e⟩ := least_above (r * (9586981 / 2 ^ 32)) power
      (fun j => ⟨_, by positivity, power_eq j⟩) ⟨269, by norm_num⟩ (by
        rw [power_eq]
        refine EReal.coe_lt_coe_iff.mpr (lt_of_lt_of_le h (le_of_eq ?_))
        norm_num)
    exact ⟨c, hc, bound_of_scaled r c h0 hlt, e⟩

/-! ## A whole row on either side -/

/-- What both sides' dot product comes to: the row itself, unscaled, times the column, times the column's scale. -/
abbrev dot (v w : Fin 2048 → EReal) (b : EReal) : EReal := (∑ k, v k * w k) * b

/-- One element of the fused kernel: quantise with the inverse factor, multiply, scale back. -/
abbrev fusedElem (v w : Fin 2048 → EReal) (f : BitVec 32) (b : EReal) : EReal :=
  (∑ k, min (Ideal.ofBits .f32 1138753536#32) (max (Ideal.ofBits .f32 3286237184#32) (v k * pw (IntOp.addi (IntOp.subi (0#32) (expo f)) 127#32))) * w k)
    * pw (IntOp.addi (expo f) 127#32) * b

/-- One element of the plain side: divide by the scale, clip, multiply, scale back. -/
abbrev plainElem (v w : Fin 2048 → EReal) (b : EReal) : EReal :=
  (∑ k, min (Ideal.ofBits .f32 1138753536#32) (max (Ideal.ofBits .f32 3286237184#32) (Ideal.div (v k) (plain (top v)))) * w k)
    * plain (top v) * b

/-- The count the fused kernel takes of a row. -/
abbrev field (M : EReal) : BitVec 32 :=
  Finset.fold IntOp.addi (0#32) (fun x : Fin 255 => BitVec.setWidth 32 (BitVec.ofBool (decide (pw (IntOp.addi (BitVec.ofNat 32 x.val) 1#32) ≤ M * Ideal.ofBits .f32 991054117#32))))
    Finset.univ

/-- Rows of finite bf16 numbers. -/
def Small (v : Fin 2048 → EReal) : Prop := ∀ k, max (v k) (-(v k)) ≤ Ideal.ofBits .f32 2139029504#32

theorem small_row {v : Fin 2048 → EReal} (h : Small v) :
    ∃ r : ℝ, 0 ≤ r ∧ r * (9586981 / 2 ^ 32) < 2 ^ 120 ∧ top v = (r : EReal) ∧ ∃ x : Fin 2048 → ℝ, (∀ k, v k = (x k : EReal)) ∧ ∀ k, |x k| ≤ r := by
  obtain ⟨B, hB, hB2⟩ := lit_big
  obtain ⟨r, h0, h1, h2, h3⟩ := row v B (fun k => hB ▸ h k)
  choose x hx1 hx2 using h3
  refine ⟨r, h0, ?_, h2, x, hx1, hx2⟩
  have : r ≤ 2 ^ 128 := h1.trans hB2
  norm_num at this ⊢
  linarith

theorem fused_row {v : Fin 2048 → EReal} (h : Small v) (w : Fin 2048 → EReal) (b : EReal) : fusedElem v w (field (top v)) b = dot v w b := by
  obtain ⟨r, h0, h1, h2, x, hx, hx2⟩ := small_row h
  have hf : field (top v) = Finset.fold IntOp.addi (0#32) (fun y : Fin 255 => BitVec.setWidth 32 (BitVec.ofBool (decide (pw (IntOp.addi (BitVec.ofNat 32 y.val) 1#32) ≤ ((r * (9586981 / 2 ^ 32) : ℝ) : EReal)))))
      Finset.univ := by
    rw [h2]; unfold field; rw [lit_recip, ← EReal.coe_mul]
  obtain ⟨c, hc, hlt, e1, e2⟩ := factors _ h1 _ hf
  have hr := bound_of_scaled r c h0 hlt
  unfold fusedElem dot
  rw [e1, e2, lit_448, lit_neg448]
  congr 1
  rw [Finset.sum_congr rfl fun k _ => by rw [hx k, clip_id (x k) c r hc (hx2 k) hr], cancel c hc x w]
  exact Finset.sum_congr rfl fun k _ => by rw [hx k]

theorem plain_row {v : Fin 2048 → EReal} (h : Small v) (w : Fin 2048 → EReal) (b : EReal) : plainElem v w b = dot v w b := by
  obtain ⟨r, h0, h1, h2, x, hx, hx2⟩ := small_row h
  obtain ⟨c, hc, hr, e⟩ := plain_eq r h0 h1
  unfold plainElem dot
  rw [h2, e, lit_448, lit_neg448]
  have hd : ∀ k, Ideal.div (v k) (c : EReal) = (x k : EReal) * ((c⁻¹ : ℝ) : EReal) := fun k => by
    unfold Ideal.div
    rw [if_neg (by exact_mod_cast hc.ne'), hx k, EReal.coe_inv]
  congr 1
  rw [Finset.sum_congr rfl fun k _ => by rw [hd k, clip_id (x k) c r hc (hx2 k) hr], cancel c hc x w]
  exact Finset.sum_congr rfl fun k _ => by rw [hx k]

end Cert.Scales

end
-- ==== Proof.Ideal.PayK.lean ====
module

public import proofs.«01_k».proof.Proof.Ideal.Stores
public import proofs.«01_k».proof.Proof.Ideal.Scales

/-! # The fused kernel's stores, read at one element -/

@[expose] public section

set_option maxRecDepth 65536

noncomputable section

namespace Cert.KernelIdeal.Hand

open Idealize.ShloMosaic Idealize.ShloMosaic.TcCoe
open Cert.Scales
open Cert.KernelIdeal Cert.KernelIdeal.Gen

/-- One element of the full store. -/
theorem fullOf_ap (cd : FVec Ideal S512x2048 .fp8e4m3) (w : FVec Ideal S1x2048x7168 .fp8e4m3) (sc : FVec Ideal S512x128 .f32)
    (ws : FVec Ideal S1x1x7168 .f32) (r : Fin 512) (C : Fin 7168) :
    (fullOf (F := Ideal) cd w sc ws (ix2 r C : S512x7168.Idx) : EReal)
      = (∑ k : Fin 2048, cd (ix2 r k) * w (ix3 0 k C)) * sc (ix2 r 0) * ws (ix3 0 0 C) := by
  have e : (⟨512 * (C.val / 512) + C.val % 512, by have := C.isLt; omega⟩ : Fin 7168) = C := Fin.ext (by show 512 * (C.val / 512) + C.val % 512 = C.val; omega)
  pointwise [fullOf, k0_pay41, wchunk, scol, wschunk]
  simp only [e]
  rfl

theorem field_ap (v : FVec Ideal S64x2048 .bf16) (r : Fin 64) :
    k0_pay5 (F := Ideal) v (ix2 r 0 : S64x1.Idx) = expo (field (top fun k => v (ix2 r k))) := by
  pointwise [k0_pay5]
  rw [lit_bot16]
  rfl

theorem qcodes_ap (v : FVec Ideal S64x2048 .bf16) (r : Fin 64) (k : Fin 2048) :
    (qcodes (F := Ideal) v (ix2 r k : S64x2048.Idx) : EReal) = min (Ideal.ofBits .f32 1138753536#32)
      (max (Ideal.ofBits .f32 3286237184#32) (v (ix2 r k) * pw (IntOp.addi (IntOp.subi (0#32) (expo (field (top fun k => v (ix2 r k))))) 127#32))) := by
  rw [← field_ap]
  pointwise [qcodes, k0_pay8, k0_pay6]

theorem qscale_ap (v : FVec Ideal S64x2048 .bf16) (r : Fin 64) (k : Fin 128) :
    (qscale (F := Ideal) v (ix2 r k : S64x128.Idx) : EReal) = pw (IntOp.addi (expo (field (top fun k => v (ix2 r k)))) 127#32) := by
  rw [← field_ap]
  pointwise [qscale, k0_pay9, k0_pay7]

/-- One element of a point's full store, from the point's blocks: the row times the column times the column's scale. -/
theorem full_elem (X : FVec Ideal S512x2048 .bf16) (w : FVec Ideal S1x2048x7168 .fp8e4m3) (ws : FVec Ideal S1x1x7168 .f32) (r : Fin 512) (C : Fin 7168)
    (h : Small fun k => X (ix2 r k)) :
    (fullOf (F := Ideal) (codesOf (F := Ideal) X) w (scaleOf (F := Ideal) X) ws (ix2 r C : S512x7168.Idx) : EReal)
      = dot (fun k => X (ix2 r k)) (fun k => w (ix3 0 k C)) (ws (ix3 0 0 C)) := by
  have hr : ∀ k : Fin 2048, rows (F := Ideal) X ⟨r.val / 64, by have := r.isLt; omega⟩ (ix2 ⟨r.val % 64, Nat.mod_lt _ (by norm_num)⟩ k : S64x2048.Idx) = X (ix2 r k) := fun k => by
    unfold rows
    have e : (⟨64 * (r.val / 64) + r.val % 64, by have := r.isLt; omega⟩ : Fin 512) = r := Fin.ext (by show 64 * (r.val / 64) + r.val % 64 = r.val; omega)
    exact congrArg (fun z : Fin 512 => X (ix2 z k)) e
  have hrow : (fun k : Fin 2048 => (rows (F := Ideal) X ⟨r.val / 64, by have := r.isLt; omega⟩ (ix2 ⟨r.val % 64, Nat.mod_lt _ (by norm_num)⟩ k : S64x2048.Idx) : EReal)) = fun k => X (ix2 r k) :=
    funext hr
  have hc : ∀ k : Fin 2048, (codesOf (F := Ideal) X (ix2 r k : S512x2048.Idx) : EReal) = min (Ideal.ofBits .f32 1138753536#32)
      (max (Ideal.ofBits .f32 3286237184#32) (X (ix2 r k) * pw (IntOp.addi (IntOp.subi (0#32) (expo (field (top fun k => X (ix2 r k))))) 127#32))) := fun k => by
    refine (qcodes_ap (rows (F := Ideal) X ⟨r.val / 64, by have := r.isLt; omega⟩) ⟨r.val % 64, Nat.mod_lt _ (by norm_num)⟩ k).trans ?_
    rw [hrow, hr k]
  have hs : (scaleOf (F := Ideal) X (ix2 r 0 : S512x128.Idx) : EReal) = pw (IntOp.addi (expo (field (top fun k => X (ix2 r k)))) 127#32) := by
    refine (qscale_ap (rows (F := Ideal) X ⟨r.val / 64, by have := r.isLt; omega⟩) ⟨r.val % 64, Nat.mod_lt _ (by norm_num)⟩ 0).trans ?_
    rw [hrow]
  rw [fullOf_ap, hs, Finset.sum_congr rfl fun k _ => by rw [hc k]]
  exact fused_row h _ _

end Cert.KernelIdeal.Hand
end
-- ==== Proof.Ideal.Plan.lean ====
module

public import Idealize.ShloMosaic.Lib.PlanTiles.StableSort

/-! # The work list, in natural numbers

Rows `[S e, S (e + 1))` belong to expert `e`. A pair `p = 60 * e + t` of an expert and a row tile is live when the expert
has rows in the tile; rows are counted within the tile. The live pairs, in order, are at most 63; tiles do not decrease
along them; every row is in one of them, and no later one of its tile holds it again. -/

@[expose] public section

namespace Cert.KernelIdeal.Hand.Plan

open Idealize.ShloMosaic Idealize.ShloMosaic.PlanTiles

/-- The first row, within tile `p % 60`, of the rows of expert `p / 60`. -/
def lo (S : ℕ → ℕ) (p : ℕ) : ℕ := min (S (p / 60) - 512 * (p % 60)) 512
/-- The end row, within tile `p % 60`, of the rows of expert `p / 60`. -/
def hi (S : ℕ → ℕ) (p : ℕ) : ℕ := min (S (p / 60 + 1) - 512 * (p % 60)) 512
/-- A pair with a row. -/
def Live (S : ℕ → ℕ) (p : ℕ) : Prop := lo S p < hi S p

instance (S : ℕ → ℕ) : DecidablePred (Live S) := fun p => inferInstanceAs (Decidable (_ < _))

/-- One for a live pair, zero for another. -/
def G (S : ℕ → ℕ) (p : ℕ) : ℕ := if Live S p then 1 else 0

/-- The pairs with the live ones in front. -/
def σ (S : ℕ → ℕ) : Fin 240 → Fin 240 := sortedFrom fun a b => decide (G S b.val < G S a.val)

theorem σ_inj (S : ℕ → ℕ) : Function.Injective (σ S) := sortedFrom_injective _
theorem σ_surj (S : ℕ → ℕ) : Function.Surjective (σ S) := sortedFrom_surjective _

theorem sorted_lex (n : ℕ) (g : ℕ → ℕ) {i j : Fin n} (h : i < j) :
    Lex (fun a : Fin n => g a.val) (· < ·) (sortedFrom (fun a b : Fin n => decide (g b.val < g a.val)) i)
      (sortedFrom (fun a b : Fin n => decide (g b.val < g a.val)) j) := by
  have hp := pairwise_stableSort_lex (fun a : Fin n => g a.val) (· < ·) (List.finRange n) (List.pairwise_lt_finRange n)
  exact List.pairwise_iff_get.mp hp (i.cast (length_sortPositions n fun a b => decide (g b.val < g a.val)).symm)
    (j.cast (length_sortPositions n fun a b => decide (g b.val < g a.val)).symm) h

theorem σ_lex (S : ℕ → ℕ) {i j : Fin 240} (h : i < j) :
    G S (σ S j).val < G S (σ S i).val ∨ (G S (σ S i).val = G S (σ S j).val ∧ σ S i < σ S j) := sorted_lex 240 (G S) h

/-- How many pairs are live. -/
def nl (S : ℕ → ℕ) : ℕ := Nat.count (Live S) 240

theorem live_initial (S : ℕ → ℕ) {i j : Fin 240} (h : i ≤ j) (hj : Live S (σ S j).val) : Live S (σ S i).val := by
  rcases Nat.lt_or_eq_of_le h with h | h
  · by_contra hn
    have e1 : G S (σ S j).val = 1 := if_pos hj
    have e0 : G S (σ S i).val = 0 := if_neg hn
    rcases σ_lex S (i := i) (j := j) h with h' | ⟨h', -⟩ <;> omega
  · rw [show i = j from Fin.ext h]; exact hj

theorem card_live (S : ℕ → ℕ) : (Finset.univ.filter fun i : Fin 240 => Live S (σ S i).val).card = nl S := by
  have h1 : (Finset.univ.filter fun i : Fin 240 => Live S (σ S i).val).card
      = (Finset.univ.filter fun p : Fin 240 => Live S p.val).card := by
    refine Finset.card_bij (fun i _ => σ S i) (fun i hi => ?_) (fun a _ b _ h => σ_inj S h) (fun p hp => ?_)
    · rw [Finset.mem_filter] at hi ⊢; exact ⟨Finset.mem_univ _, hi.2⟩
    · obtain ⟨i, rfl⟩ := σ_surj S p
      rw [Finset.mem_filter] at hp
      exact ⟨i, Finset.mem_filter.2 ⟨Finset.mem_univ _, hp.2⟩, rfl⟩
  rw [h1, nl, Nat.count_eq_card_filter_range]
  refine Finset.card_bij (fun (i : Fin 240) _ => i.val) (fun i hi => ?_) (fun a _ b _ h => Fin.ext h) (fun p hp => ?_)
  · rw [Finset.mem_filter] at hi ⊢; exact ⟨Finset.mem_range.2 i.isLt, hi.2⟩
  · rw [Finset.mem_filter, Finset.mem_range] at hp
    exact ⟨⟨p, hp.1⟩, Finset.mem_filter.2 ⟨Finset.mem_univ _, hp.2⟩, rfl⟩

theorem live_iff (S : ℕ → ℕ) (i : Fin 240) : Live S (σ S i).val ↔ i.val < nl S := by
  rw [← card_live S]
  constructor
  · intro h
    have hs : (Finset.univ.filter fun k : Fin 240 => k ≤ i) ⊆ (Finset.univ.filter fun i : Fin 240 => Live S (σ S i).val) := by
      intro k hk
      rw [Finset.mem_filter] at hk ⊢
      exact ⟨Finset.mem_univ _, live_initial S hk.2 h⟩
    have := Finset.card_le_card hs
    rw [show (Finset.univ.filter fun k : Fin 240 => k ≤ i) = Finset.Iic i by ext; simp, Fin.card_Iic] at this
    omega
  · intro h
    by_contra hn
    have hs : (Finset.univ.filter fun i : Fin 240 => Live S (σ S i).val) ⊆ (Finset.univ.filter fun k : Fin 240 => k < i) := by
      intro k hk
      rw [Finset.mem_filter] at hk ⊢
      refine ⟨Finset.mem_univ _, ?_⟩
      by_contra hk'
      exact hn (live_initial S (not_lt.1 hk') hk.2)
    have := Finset.card_le_card hs
    rw [show (Finset.univ.filter fun k : Fin 240 => k < i) = Finset.Iio i by ext; simp, Fin.card_Iio] at this
    omega

theorem σ_lt (S : ℕ → ℕ) {i j : Fin 240} (h : i < j) (hj : j.val < nl S) : (σ S i).val < (σ S j).val := by
  have e1 : G S (σ S j).val = 1 := if_pos ((live_iff S j).2 hj)
  have e0 : G S (σ S i).val = 1 := if_pos ((live_iff S i).2 (by have : i.val < j.val := h; omega))
  rcases σ_lex S (i := i) (j := j) h with h' | ⟨-, h'⟩
  · omega
  · exact h'

section
variable (S : ℕ → ℕ) (h0 : S 0 = 0) (h01 : S 0 ≤ S 1) (h12 : S 1 ≤ S 2) (h23 : S 2 ≤ S 3) (h34 : S 3 ≤ S 4) (h4 : S 4 = 30720)
include h0 h01 h12 h23 h34 h4

theorem S_mono {a b : ℕ} (h : a ≤ b) (hb : b ≤ 4) : S a ≤ S b := by
  have ha : a = 0 ∨ a = 1 ∨ a = 2 ∨ a = 3 ∨ a = 4 := by omega
  have hb : b = 0 ∨ b = 1 ∨ b = 2 ∨ b = 3 ∨ b = 4 := by omega
  rcases ha with rfl | rfl | rfl | rfl | rfl <;> rcases hb with rfl | rfl | rfl | rfl | rfl <;> omega

/-- Tiles do not decrease along live pairs, and the later pair is further along. -/
theorem live_step {p q : ℕ} (hp : Live S p) (hq : Live S q) (hpq : p < q) (hq240 : q < 240) :
    p % 60 ≤ q % 60 ∧ p / 60 + p % 60 < q / 60 + q % 60 := by
  unfold Live lo hi at hp hq
  by_cases he : p / 60 = q / 60
  · have := Nat.div_add_mod p 60
    have := Nat.div_add_mod q 60
    omega
  · have hlt : p / 60 < q / 60 := by have := Nat.div_le_div_right (c := 60) hpq.le; omega
    have hS := S_mono S h0 h01 h12 h23 h34 h4 (a := p / 60 + 1) (b := q / 60) (by omega) (by omega)
    have : p % 60 ≤ q % 60 := by omega
    omega

theorem rank_le (i : Fin 240) (hi : i.val < nl S) : i.val ≤ (σ S i).val / 60 + (σ S i).val % 60 := by
  obtain ⟨i, hi240⟩ := i
  induction i with
  | zero => exact Nat.zero_le _
  | succ k ih =>
    have hk : k < nl S := by simp only at hi; omega
    have := ih (by omega) hk
    have hl := live_step S h0 h01 h12 h23 h34 h4 ((live_iff S ⟨k, by omega⟩).2 hk) ((live_iff S ⟨k + 1, hi240⟩).2 hi)
      (σ_lt S (i := ⟨k, by omega⟩) (j := ⟨k + 1, hi240⟩) (Nat.lt_succ_self k) hi) (σ S _).isLt
    simp only at this ⊢
    omega

theorem nl_le : nl S ≤ 63 := by
  by_contra h
  have h240 : nl S ≤ 240 := Nat.count_le _
  have := rank_le S h0 h01 h12 h23 h34 h4 ⟨63, by omega⟩ (by simp only; omega)
  have := (σ S ⟨63, by omega⟩).isLt
  simp only at *
  omega

/-- The pair of a row is live and holds the row. -/
theorem live_row {T r e : ℕ} (hT : T < 60) (hr : r < 512) (he : e < 4) (h1 : S e ≤ 512 * T + r) (h2 : 512 * T + r < S (e + 1)) :
    lo S (60 * e + T) ≤ r ∧ r < hi S (60 * e + T) := by
  unfold lo hi
  have ed : (60 * e + T) / 60 = e := by omega
  have em : (60 * e + T) % 60 = T := by omega
  rw [ed, em]
  omega

/-- Every row belongs to an expert. -/
theorem exists_expert {R : ℕ} (hR : R < 30720) : ∃ e, e < 4 ∧ S e ≤ R ∧ R < S (e + 1) := by
  by_cases c1 : R < S 1
  · exact ⟨0, by omega, by omega, c1⟩
  by_cases c2 : R < S 2
  · exact ⟨1, by omega, by omega, c2⟩
  by_cases c3 : R < S 3
  · exact ⟨2, by omega, by omega, c3⟩
  · exact ⟨3, by omega, by omega, by show R < S 4; omega⟩

theorem nl_pos : 0 < nl S := by
  obtain ⟨e, he, h1, h2⟩ := exists_expert S h0 h01 h12 h23 h34 h4 (R := 0) (by omega)
  have hl := live_row S h0 h01 h12 h23 h34 h4 (T := 0) (r := 0) (by omega) (by omega) he (by omega) (by omega)
  obtain ⟨i, hσ⟩ := σ_surj S ⟨60 * e + 0, by omega⟩
  have : Live S (σ S i).val := by rw [hσ]; show lo S _ < hi S _; simp only; omega
  have := (live_iff S i).1 this
  omega

/-- The pair of grid point `i`. -/
def q (S : ℕ → ℕ) (i : ℕ) : ℕ := if h : min i (nl S - 1) < 240 then (σ S ⟨min i (nl S - 1), h⟩).val else 0

omit h0 h01 h12 h23 h34 h4 in
theorem q_lt (i : ℕ) : q S i < 240 := by
  unfold q; split
  · exact (σ S _).isLt
  · omega

/-- The first row of grid point `i`. -/
def L (S : ℕ → ℕ) (i : ℕ) : ℕ := if i < nl S then lo S (q S i) else 0
/-- The end row of grid point `i`. -/
def H (S : ℕ → ℕ) (i : ℕ) : ℕ := if i < nl S then hi S (q S i) else 0

theorem q_valid {i : ℕ} (hi : i < nl S) : ∃ h : i < 240, q S i = (σ S ⟨i, h⟩).val := by
  have := nl_le S h0 h01 h12 h23 h34 h4
  have h : i < 240 := by omega
  refine ⟨h, ?_⟩
  unfold q
  have e : min i (nl S - 1) = i := by omega
  simp only [e]
  rw [dif_pos h]

omit h0 h01 h12 h23 h34 h4 in
theorem q_invalid {i : ℕ} (hi : nl S ≤ i) : q S i = q S (nl S - 1) := by
  unfold q
  have e : min i (nl S - 1) = nl S - 1 := by omega
  have e' : min (nl S - 1) (nl S - 1) = nl S - 1 := by omega
  simp only [e, e']

theorem tile_mono {i j : ℕ} (hij : i ≤ j) : q S i % 60 ≤ q S j % 60 := by
  have hpos := nl_pos S h0 h01 h12 h23 h34 h4
  have key : ∀ i j, i ≤ j → j < nl S → q S i % 60 ≤ q S j % 60 := by
    intro i j hij hj
    rcases Nat.lt_or_eq_of_le hij with h | h
    · obtain ⟨hi', ei⟩ := q_valid S h0 h01 h12 h23 h34 h4 (i := i) (by omega)
      obtain ⟨hj', ej⟩ := q_valid S h0 h01 h12 h23 h34 h4 hj
      rw [ei, ej]
      exact (live_step S h0 h01 h12 h23 h34 h4 ((live_iff S ⟨i, hi'⟩).2 (by simp only; omega)) ((live_iff S ⟨j, hj'⟩).2 hj)
        (σ_lt S (i := ⟨i, hi'⟩) (j := ⟨j, hj'⟩) h hj) (σ S _).isLt).1
    · rw [h]
  by_cases hj : j < nl S
  · exact key i j hij hj
  · rw [q_invalid S (i := j) (by omega)]
    by_cases hi : i < nl S
    · exact key i _ (by omega) (by omega)
    · rw [q_invalid S (i := i) (by omega)]

/-- A grid point that opens a tile is live. -/
theorem first_live {i : ℕ} (h : i = 0 ∨ q S i % 60 ≠ q S (i - 1) % 60) : L S i < H S i := by
  have hpos := nl_pos S h0 h01 h12 h23 h34 h4
  have hi : i < nl S := by
    rcases h with h | h
    · omega
    · by_contra hn
      rw [q_invalid S (i := i) (by omega)] at h
      by_cases h1 : i - 1 < nl S
      · rw [show i - 1 = nl S - 1 by omega] at h; exact h rfl
      · rw [q_invalid S (i := i - 1) (by omega)] at h; exact h rfl
  unfold L H
  rw [if_pos hi, if_pos hi]
  obtain ⟨h', e⟩ := q_valid S h0 h01 h12 h23 h34 h4 hi
  rw [e]
  exact (live_iff S ⟨i, h'⟩).2 hi

/-- Every row is written by a grid point of its expert and tile, and by no later one of the tile. -/
theorem covered {T r e : ℕ} (hT : T < 60) (hr : r < 512) (he : e < 4) (h1 : S e ≤ 512 * T + r) (h2 : 512 * T + r < S (e + 1)) :
    ∃ i, i < 63 ∧ q S i % 60 = T ∧ q S i / 60 = e ∧ (L S i ≤ r ∧ r < H S i)
      ∧ ∀ j, i < j → q S j % 60 = T → ¬ (L S j ≤ r ∧ r < H S j) := by
  have hl := live_row S h0 h01 h12 h23 h34 h4 hT hr he h1 h2
  have hnl := nl_le S h0 h01 h12 h23 h34 h4
  obtain ⟨i, hσ⟩ := σ_surj S ⟨60 * e + T, by omega⟩
  have hv : Live S (σ S i).val := by rw [hσ]; show lo S _ < hi S _; simp only; omega
  have hi63 := (live_iff S i).1 hv
  obtain ⟨hi', ei⟩ := q_valid S h0 h01 h12 h23 h34 h4 hi63
  have eq : q S i.val = 60 * e + T := by rw [ei]; exact congrArg Fin.val hσ
  refine ⟨i.val, by omega, by rw [eq]; omega, by rw [eq]; omega, ?_, ?_⟩
  · unfold L H; rw [if_pos hi63, if_pos hi63, eq]; exact hl
  · intro j hj hjT ⟨c1, c2⟩
    unfold L at c1; unfold H at c2
    by_cases hjn : j < nl S
    · rw [if_pos hjn] at c1
      obtain ⟨hj', ej⟩ := q_valid S h0 h01 h12 h23 h34 h4 hjn
      have hlt : q S i.val < q S j := by
        rw [ei, ej]; exact σ_lt S (i := ⟨i.val, hi'⟩) (j := ⟨j, hj'⟩) hj hjn
      have hj240 := q_lt S j
      have := Nat.div_add_mod (q S j) 60
      have hS := S_mono S h0 h01 h12 h23 h34 h4 (a := e + 1) (b := q S j / 60) (by omega) (by omega)
      unfold lo at c1
      rw [hjT] at c1
      omega
    · rw [if_neg hjn] at c2; omega

end

end Cert.KernelIdeal.Hand.Plan
-- ==== Proof.Ideal.Schedule.lean ====
module

public import proofs.«01_k».proof.Proof.Ideal.Ranges
public import proofs.«01_k».proof.Proof.Ideal.Plan
public import Idealize.ShloMosaic.Lib.PlanTiles.Rows
public import proofs.«01_k».proof.Proof.Gen.KernelIdeal.Skeleton
public import Idealize.ShloMosaic.Lib.Claim
public import Idealize.ShloMosaic.Lib.VecWindow
public import Idealize.ShloMosaic.Lib.WholeRead
public import Idealize.ShloMosaic.Lib.ValueIdx
public import Idealize.ShloMosaic.Lib.Routing.OpsSearch
public import Idealize.ShloMosaic.Lib.Routing.OpsSet
public import Idealize.ShloMosaic.Lib.Routing.OpsPair
public import Idealize.ShloMosaic.Lib.Pipeline.Value
public import Idealize.ShloMosaic.Lib.SortFacts

/-! # What the tables hold

The five tables of the grid, entry by entry, in natural numbers: the work list of `Plan` at the running sums of the
group sizes. -/

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.Routing
open Cert.KernelIdeal Cert.KernelIdeal.Gen

variable {F : FTy → Type} [FloatOps F]

local notation "𝕄" => MT nD τ sig Unit (Elt F) ℕ (UR sig nD τ) ℕ

/-- The group sizes as naturals: `γ e` rows for expert `e`, 30720 in all. -/
def Sizes (g : IVec S4 32) (γ : ℕ → ℕ) : Prop :=
  (∀ e : Fin 4, g (ix1 e) = BitVec.ofNat 32 (γ e.val)) ∧ γ 0 + γ 1 + γ 2 + γ 3 = 30720

/-- The rows before expert `e`. -/
def upto (γ : ℕ → ℕ) (e : ℕ) : ℕ := ((List.range e).map γ).sum

section
variable {g : IVec S4 32} {γ : ℕ → ℕ}

theorem upto_0 : upto γ 0 = 0 := rfl
theorem upto_succ (e : ℕ) : upto γ (e + 1) = upto γ e + γ e := by
  unfold upto; rw [List.range_succ, List.map_append, List.sum_append]; simp
theorem upto_4 (h : Sizes g γ) : upto γ 4 = 30720 := by
  have := h.2
  simp only [upto_succ, upto_0]; omega
theorem upto_le (h : Sizes g γ) {e : ℕ} (he : e ≤ 4) : upto γ e ≤ 30720 := by
  have := h.2
  have he : e = 0 ∨ e = 1 ∨ e = 2 ∨ e = 3 ∨ e = 4 := by omega
  rcases he with rfl | rfl | rfl | rfl | rfl <;> simp only [upto_succ, upto_0] <;> omega

theorem ends_ap (h : Sizes g γ) (e : Fin 4) : ends g (ix1 e) = BitVec.ofNat 32 (upto γ (e.val + 1)) := by
  unfold ends upto
  exact cumsum1 (N := 4) (Nm1 := 3) rfl g γ h.1 _ (bc0 _ _ _) reduceWindows_S4_S4_w4s1p3_0 h_S_ e

theorem starts_ap (h : Sizes g γ) (e : Fin 4) : subi (ends g) g (ix1 e) = BitVec.ofNat 32 (upto γ e.val) := by
  rw [subi_ap, ends_ap h, h.1, upto_succ, ofNat32_sub (by omega), Nat.add_sub_cancel]

/-- A row number less `512 * tile`, clipped to `[0, 512]`. -/
theorem clip_sub {a b : ℕ} (ha : a < 2 ^ 31) (hb : b < 2 ^ 31) :
    IntOp.minsi 512#32 (IntOp.maxsi 0#32 (BitVec.ofNat 32 a - BitVec.ofNat 32 b)) = BitVec.ofNat 32 (min (a - b) 512) := by
  by_cases hab : b ≤ a
  · rw [ofNat32_sub hab]
    have := clip_word (x := a - b) (lo := 0) (hi := 512) (by omega) (by omega) (by omega)
    rw [Nat.max_eq_left (Nat.zero_le _)] at this
    exact this
  · have e : BitVec.ofNat 32 a - BitVec.ofNat 32 b = -BitVec.ofNat 32 (b - a) := by
      rw [← ofNat32_sub (a := b) (b := a) (by omega), BitVec.neg_sub, BitVec.sub_eq_add_neg, BitVec.add_comm]
    rw [e, PlanTiles.maxsi_zero_neg (by omega), Nat.sub_eq_zero_of_le (by omega)]
    rfl

theorem clipped_ap (x : IVec S4 32) (e : Fin 4) (t : Fin 60) {a : ℕ} (ha : a ≤ 30720) (hx : x (ix1 e) = BitVec.ofNat 32 a) :
    clipped x (ix2 e t) = BitVec.ofNat 32 (min (a - 512 * t.val) 512) := by
  unfold clipped clipBy offsetBy
  show IntOp.minsi (broadcastInDim S4x60 ![] bcast_S_S4x60 (id (constantI S_ 32 512#32)) (ix2 e t))
    (IntOp.maxsi (broadcastInDim S4x60 ![] bcast_S_S4x60 (id (constantI S_ 32 0#32)) (ix2 e t)) (subi _ _ (ix2 e t))) = _
  rw [bc0, bc0, subi_ap]
  rw [show broadcastInDim S4x60 ![0, 1] bcast_S4x1_S4x60_0_1 (broadcastInDim S4x1 ![0] bcast_S4_S4x1_0 x) (ix2 e t) = x (ix1 e) from bcRows _ _ x e t]
  rw [hx]
  have hm : broadcastInDim S4x60 ![0, 1] bcast_S1x60_S4x60_0_1
      (muli (broadcastInDim S1x60 ![1] bcast_S60_S1x60_1 (iotaInDim S60 32 0))
        (broadcastInDim S1x60 ![] bcast_S_S1x60 (constantI S_ 32 512#32))) (ix2 e t) = BitVec.ofNat 32 (512 * t.val) := by
    rw [broadcastInDim_apply _ bcast_S1x60_S4x60_0_1 _ (ix2 e t) (ix2 (0 : Fin 1) t) (fun a => by
      match a with
      | ⟨0, _⟩ => rfl
      | ⟨1, _⟩ => rfl)]
    rw [muli_ap, bc0, broadcastInDim_apply _ bcast_S60_S1x60_1 _ (ix2 (0 : Fin 1) t) (ix1 (n := 60) t) (fun a => by
      match a with
      | ⟨0, _⟩ => rfl)]
    show BitVec.ofNat 32 t.val * 512#32 = _
    rw [← BitVec.ofNat_mul, Nat.mul_comm]
  rw [hm]
  exact clip_sub (by omega) (by have := t.isLt; omega)

theorem loAll_ap (h : Sizes g γ) (e : Fin 4) (t : Fin 60) {p : ℕ} (hp : p = e.val * 60 + t.val) :
    loAll g (ix2 e t) = BitVec.ofNat 32 (Plan.lo (upto γ) p) := by
  have e1 : p / 60 = e.val := by have := t.isLt; omega
  have e2 : p % 60 = t.val := by have := t.isLt; omega
  unfold loAll Plan.lo
  rw [clipped_ap _ e t (upto_le h (by have := e.isLt; omega)) (starts_ap h e), e1, e2]

theorem hiAll_ap (h : Sizes g γ) (e : Fin 4) (t : Fin 60) {p : ℕ} (hp : p = e.val * 60 + t.val) :
    hiAll g (ix2 e t) = BitVec.ofNat 32 (Plan.hi (upto γ) p) := by
  have e1 : p / 60 = e.val := by have := t.isLt; omega
  have e2 : p % 60 = t.val := by have := t.isLt; omega
  unfold hiAll Plan.hi
  rw [clipped_ap _ e t (upto_le h (by have := e.isLt; omega)) (ends_ap h e), e1, e2]

theorem lo_lt (S : ℕ → ℕ) (p : ℕ) : Plan.lo S p < 2 ^ 31 := by unfold Plan.lo; omega
theorem hi_lt (S : ℕ → ℕ) (p : ℕ) : Plan.hi S p < 2 ^ 31 := by unfold Plan.hi; omega

theorem live_ap (h : Sizes g γ) (p : Fin 240) : live g (ix1 p) = BitVec.ofBool (decide (Plan.Live (upto γ) p.val)) := by
  unfold live liveOf
  have e60 : p.val / 60 < 4 := by have := p.isLt; omega
  rw [show shapeCast S240 (cmpi .sgt (hiAll g) (loAll g)) shapeCasts_S4x60_S240 (ix1 p) = cmpi .sgt (hiAll g) (loAll g) (ix2 (⟨p.val / 60, e60⟩ : Fin 4) (⟨p.val % 60, Nat.mod_lt _ (by omega)⟩ : Fin 60)) from
    cast21 _ shapeCasts_S4x60_S240 _ _ p (by show p.val = p.val / 60 * 60 + p.val % 60; omega)]
  show IntOp.cmpi .sgt (hiAll g _) (loAll g _) = _
  rw [hiAll_ap h _ _ (p := p.val) (by show p.val = p.val / 60 * 60 + p.val % 60; omega),
    loAll_ap h _ _ (p := p.val) (by show p.val = p.val / 60 * 60 + p.val % 60; omega),
    WordCmp.cmpi_sgt_ofNat (hi_lt _ _) (lo_lt _ _)]
  rfl

theorem order_ap (h : Sizes g γ) (i : Fin 240) : orderOf (noti (live g)) (ix1 i) = BitVec.ofNat 32 (Plan.σ (upto γ) i).val := by
  unfold orderOf
  rw [Host.sort2_eq_sortBy]
  have hd : 0 < S240.rank := Nat.zero_lt_one
  have hal : ∀ (j : S240.Idx) (c : Fin 240), j.along (⟨0, hd⟩ : Fin S240.rank) c = ix1 (n := 240) c := fun j c =>
    (Shape.Idx.along_rank1 j c).trans (ofFin_eq_ix1 c)
  show (iotaInDim S240 32 0) _ = _
  have hb : ∀ a b : Fin 240, (comparator_i1_i32_d0 (noti (live g) (ix1 a), iotaInDim S240 32 0 (ix1 a)) (noti (live g) (ix1 b), iotaInDim S240 32 0 (ix1 b)) == 1#1)
      = decide (Plan.G (upto γ) b.val < Plan.G (upto γ) a.val) := by
    intro a b
    show (IntOp.cmpi .ult (~~~ (live g (ix1 a))) (~~~ (live g (ix1 b))) == 1#1) = _
    rw [live_ap h, live_ap h]
    unfold Plan.G
    by_cases ha : Plan.Live (upto γ) a.val <;> by_cases hb : Plan.Live (upto γ) b.val <;> simp only [ha, hb, if_true, if_false] <;> decide
  have hfn : ∀ f f' : Fin 240 → Fin 240 → Bool, f = f' →
      iotaInDim S240 32 0 ((ix1 (n := 240) i).along (⟨0, hd⟩ : Fin S240.rank) (sortedFrom f i)) = BitVec.ofNat 32 (sortedFrom f' i).val := by
    rintro f _ rfl
    exact (congrArg (iotaInDim S240 32 0) (hal (ix1 i) (sortedFrom f i))).trans rfl
  refine hfn _ _ (funext fun a => funext fun b => ?_)
  have := hb a b
  rw [← hal (ix1 i) a, ← hal (ix1 i) b] at this
  exact this

theorem nLive_ap (h : Sizes g γ) : nLive (live g) (ValueIdx.ix0 : S_.Idx) = BitVec.ofNat 32 (Plan.nl (upto γ)) := by
  unfold nLive
  refine (reduce_sum (N := 240) _ (fun p => if Plan.Live (upto γ) p then 1 else 0) (fun i => ?_) reducesTo_S240_S_d0 h_S_).trans ?_
  · show (live g (ix1 i)).setWidth 32 = _
    rw [live_ap h]
    by_cases hl : Plan.Live (upto γ) i.val <;> simp only [hl, if_true, if_false] <;> decide
  · refine congrArg (BitVec.ofNat 32) ?_
    unfold Plan.nl
    have : ∀ n, ((List.range n).map fun p => if Plan.Live (upto γ) p then 1 else 0).sum = Nat.count (Plan.Live (upto γ)) n := by
      intro n
      induction n with
      | zero => rfl
      | succ n ih => rw [List.range_succ, List.map_append, List.sum_append, ih, Nat.count_succ]; simp
    exact this 240

theorem S1_le : upto γ 0 ≤ upto γ 1 ∧ upto γ 1 ≤ upto γ 2 ∧ upto γ 2 ≤ upto γ 3 ∧ upto γ 3 ≤ upto γ 4 := by
  simp only [upto_succ, upto_0]; omega

theorem nl_le (h : Sizes g γ) : Plan.nl (upto γ) ≤ 63 :=
  Plan.nl_le (upto γ) upto_0 S1_le.1 S1_le.2.1 S1_le.2.2.1 S1_le.2.2.2 (upto_4 h)
theorem nl_pos (h : Sizes g γ) : 0 < Plan.nl (upto γ) :=
  Plan.nl_pos (upto γ) upto_0 S1_le.1 S1_le.2.1 S1_le.2.2.1 S1_le.2.2.2 (upto_4 h)

theorem wrapped_ap (n : BitVec 32) (x : IVec S63 32) (p : S63.Idx) (h : (x p).toNat < 2 ^ 31) : wrapped n x p = x p := by
  unfold wrapped
  show Scalar.select (IntOp.cmpi .slt (x p) (broadcastInDim S63 ![] bcast_S_S63 (constantI S_ 32 0#32) p)) _ (x p) = _
  rw [bc0]
  exact wrap_of_lt (x p) _ h

theorem pos_ap (h : Sizes g γ) (i : Fin 63) : pos (live g) (ix1 i) = BitVec.ofNat 32 (min i.val (Plan.nl (upto γ) - 1)) := by
  have hn := nl_le h
  have hp := nl_pos h
  unfold pos
  show IntOp.minsi (iotaInDim S63 32 0 (ix1 i)) (broadcastInDim S63 ![] bcast_S_S63 (subi (nLive (live g)) (constantI S_ 32 1#32)) (ix1 i)) = _
  rw [bc0, subi_ap, nLive_ap h]
  show IntOp.minsi (BitVec.ofNat 32 i.val) (BitVec.ofNat 32 (Plan.nl (upto γ)) - BitVec.ofNat 32 1) = _
  rw [ofNat32_sub (by omega), PlanTiles.minsi_word (by have := i.isLt; omega) (by omega), Nat.min_comm]

/-- Reading the first 63 of a vector of 240 at positions below 63. -/
theorem pairBy_ap (l : IVec S240 1) (o : IVec S240 32) (i : Fin 63) {k : ℕ} (hk : k < 63) (hk' : k < 240) (hp : pos l (ix1 i) = BitVec.ofNat 32 k) :
    pairBy l o (ix1 i) = o (ix1 (⟨k, hk'⟩ : Fin 240)) := by
  have hw : broadcastInDim S63x1 ![0] bcast_S63_S63x1_0 (wrapped 63#32 (pos l)) (ix2 i (0 : Fin 1)) = BitVec.ofNat 32 k := by
    rw [show broadcastInDim S63x1 ![0] bcast_S63_S63x1_0 (wrapped 63#32 (pos l)) (ix2 i (0 : Fin 1)) = wrapped 63#32 (pos l) (ix1 i) from bcCol _ _ i]
    rw [wrapped_ap, hp]
    rw [hp, BitVec.toNat_ofNat]
    exact lt_of_le_of_lt (Nat.mod_le _ _) (by omega)
  unfold pairBy
  rw [take_ap gather_S63_S63x1_S63_n_0_n_n_0_1_1 rfl rfl rfl rfl _ _ i hk (by omega) hw]
  rw [slice1 0 o slices_S240_S63_0 ⟨k, hk⟩ (by show 0 + k < 240; omega)]
  exact congrArg (fun p : Fin 240 => o (ix1 p)) (Fin.ext (Nat.zero_add k))

theorem pairOf_ap (h : Sizes g γ) (i : Fin 63) : pairOf g (ix1 i) = BitVec.ofNat 32 (Plan.q (upto γ) i.val) := by
  have hn := nl_le h
  have hp := nl_pos h
  have hlt : min i.val (Plan.nl (upto γ) - 1) < 63 := by have := i.isLt; omega
  have hlt' : min i.val (Plan.nl (upto γ) - 1) < 240 := by omega
  unfold pairOf
  rw [pairBy_ap _ _ i hlt hlt' (pos_ap h i), order_ap h]
  unfold Plan.q
  rw [dif_pos hlt']

theorem tileT_ap (h : Sizes g γ) (i : Fin 63) : tileT g (ix1 i) = BitVec.ofNat 32 (Plan.q (upto γ) i.val % 60) :=
  rem_word _ _ (Plan.q_lt _ _) (pairOf_ap h i)
theorem expertT_ap (h : Sizes g γ) (i : Fin 63) : expertT g (ix1 i) = BitVec.ofNat 32 (Plan.q (upto γ) i.val / 60) :=
  div_word _ _ (Plan.q_lt _ _) (pairOf_ap h i)

theorem boundT_ap (h : Sizes g γ) (i : Fin 63) (x : IVec S4x60 32) (f : ℕ → ℕ)
    (hx : ∀ (e : Fin 4) (t : Fin 60) (p : ℕ), p = e.val * 60 + t.val → x (ix2 e t) = BitVec.ofNat 32 (f p)) :
    boundT g x (ix1 i) = BitVec.ofNat 32 (if i.val < Plan.nl (upto γ) then f (Plan.q (upto γ) i.val) else 0) := by
  have hq := Plan.q_lt (upto γ) i.val
  have hn := nl_le h
  have ht : takeBound (pairOf g) x (ix1 i) = BitVec.ofNat 32 (f (Plan.q (upto γ) i.val)) := by
    unfold takeBound
    have hw : broadcastInDim S63x1 ![0] bcast_S63_S63x1_0 (wrapped 240#32 (pairOf g)) (ix2 i (0 : Fin 1)) = BitVec.ofNat 32 (Plan.q (upto γ) i.val) := by
      rw [show broadcastInDim S63x1 ![0] bcast_S63_S63x1_0 (wrapped 240#32 (pairOf g)) (ix2 i (0 : Fin 1)) = wrapped 240#32 (pairOf g) (ix1 i) from bcCol _ _ i]
      rw [wrapped_ap, pairOf_ap h]
      rw [pairOf_ap h, BitVec.toNat_ofNat]
      exact lt_of_le_of_lt (Nat.mod_le _ _) (by omega)
    rw [take_ap gather_S240_S63x1_S63_n_0_n_n_0_1_1 rfl rfl rfl rfl _ _ i hq (by omega) hw]
    rw [cast21 _ shapeCasts_S4x60_S240 (⟨Plan.q (upto γ) i.val / 60, by omega⟩ : Fin 4) (⟨Plan.q (upto γ) i.val % 60, Nat.mod_lt _ (by omega)⟩ : Fin 60) ⟨_, hq⟩ (by show Plan.q (upto γ) i.val = Plan.q (upto γ) i.val / 60 * 60 + Plan.q (upto γ) i.val % 60; omega)]
    exact hx _ _ _ (by show Plan.q (upto γ) i.val = Plan.q (upto γ) i.val / 60 * 60 + Plan.q (upto γ) i.val % 60; omega)
  unfold boundT orElse
  show Scalar.select (validOf (live g) (ix1 i)) (takeBound (pairOf g) x (ix1 i)) (broadcastInDim S63 ![] bcast_S_S63 (id (constantI S_ 32 0#32)) (ix1 i)) = _
  have hv : validOf (live g) (ix1 i) = BitVec.ofBool (decide (i.val < Plan.nl (upto γ))) := by
    unfold validOf
    show IntOp.cmpi .slt (iotaInDim S63 32 0 (ix1 i)) (broadcastInDim S63 ![] bcast_S_S63 (nLive (live g)) (ix1 i)) = _
    rw [bc0, nLive_ap h]
    exact WordCmp.cmpi_slt_ofNat (a := i.val) (b := Plan.nl (upto γ)) (by have := i.isLt; omega) (by omega)
  rw [ht, bc0, hv, WordCmp.select_decide]
  split <;> rfl

theorem loT_ap (h : Sizes g γ) (i : Fin 63) : loT g (ix1 i) = BitVec.ofNat 32 (Plan.L (upto γ) i.val) :=
  boundT_ap h i _ (Plan.lo (upto γ)) fun e t _ hp => loAll_ap h e t hp
theorem hiT_ap (h : Sizes g γ) (i : Fin 63) : hiT g (ix1 i) = BitVec.ofNat 32 (Plan.H (upto γ) i.val) :=
  boundT_ap h i _ (Plan.hi (upto γ)) fun e t _ hp => hiAll_ap h e t hp

theorem L_le (i : ℕ) : Plan.L (upto γ) i ≤ 512 := by unfold Plan.L Plan.lo; split <;> omega
theorem H_le (i : ℕ) : Plan.H (upto γ) i ≤ 512 := by unfold Plan.H Plan.hi; split <;> omega

/-- The first-visit mark: set at the first grid point and where the tile changes. -/
def Fresh (γ : ℕ → ℕ) (i : ℕ) : Prop := i = 0 ∨ Plan.q (upto γ) i % 60 ≠ Plan.q (upto γ) (i - 1) % 60

instance (i : ℕ) : Decidable (Fresh γ i) := inferInstanceAs (Decidable (_ ∨ _))

theorem firstT_ap (h : Sizes g γ) (i : Fin 63) : firstT g (ix1 i) = if Fresh γ i.val then 1#32 else 0#32 := by
  unfold firstT
  rcases Fin.eq_zero_or_eq_succ i with rfl | ⟨j, rfl⟩
  · exact (first_zero _).trans (if_pos (show Fresh γ (0 : Fin 63).val from Or.inl rfl)).symm
  · rw [first_succ, tileT_ap h, tileT_ap h]
    have hq1 := Plan.q_lt (upto γ) j.succ.val
    have hq2 := Plan.q_lt (upto γ) j.castSucc.val
    have hF : Fresh γ j.succ.val ↔ Plan.q (upto γ) j.succ.val % 60 ≠ Plan.q (upto γ) j.castSucc.val % 60 :=
      ⟨fun c => c.resolve_left (Nat.succ_ne_zero _), fun c => Or.inr c⟩
    by_cases hh : Plan.q (upto γ) j.succ.val % 60 = Plan.q (upto γ) j.castSucc.val % 60
    · rw [if_pos (by rw [hh]), if_neg (fun c => hF.1 c hh)]
    · rw [if_neg ?_, if_pos (hF.2 hh)]
      intro c
      have c := congrArg BitVec.toNat c
      simp only [BitVec.toNat_ofNat] at c
      omega

theorem fresh_live (h : Sizes g γ) {i : ℕ} (hf : Fresh γ i) : Plan.L (upto γ) i < Plan.H (upto γ) i :=
  Plan.first_live (upto γ) upto_0 S1_le.1 S1_le.2.1 S1_le.2.2.1 S1_le.2.2.2 (upto_4 h) hf

theorem tile_mono (h : Sizes g γ) {i j : ℕ} (hij : i ≤ j) : Plan.q (upto γ) i % 60 ≤ Plan.q (upto γ) j % 60 :=
  Plan.tile_mono (upto γ) upto_0 S1_le.1 S1_le.2.1 S1_le.2.2.1 S1_le.2.2.2 (upto_4 h) hij

theorem covered (h : Sizes g γ) {T r e : ℕ} (hT : T < 60) (hr : r < 512) (he : e < 4) (h1 : upto γ e ≤ 512 * T + r) (h2 : 512 * T + r < upto γ (e + 1)) :
    ∃ i, i < 63 ∧ Plan.q (upto γ) i % 60 = T ∧ Plan.q (upto γ) i / 60 = e ∧ (Plan.L (upto γ) i ≤ r ∧ r < Plan.H (upto γ) i)
      ∧ ∀ j, i < j → Plan.q (upto γ) j % 60 = T → ¬ (Plan.L (upto γ) j ≤ r ∧ r < Plan.H (upto γ) j) :=
  Plan.covered (upto γ) upto_0 S1_le.1 S1_le.2.1 S1_le.2.2.1 S1_le.2.2.2 (upto_4 h) hT hr he h1 h2

theorem exists_expert (h : Sizes g γ) {R : ℕ} (hR : R < 30720) : ∃ e, e < 4 ∧ upto γ e ≤ R ∧ R < upto γ (e + 1) :=
  Plan.exists_expert (upto γ) upto_0 S1_le.1 S1_le.2.1 S1_le.2.2.1 S1_le.2.2.2 (upto_4 h) hR

end

end Cert.KernelIdeal.Hand
-- ==== Proof.Ideal.Words.lean ====
module

public import proofs.«01_k».proof.Proof.Ideal.Frame
public import proofs.«01_k».proof.Proof.Ideal.Schedule
public import Idealize.ShloMosaic.Lib.Pipeline.TableIdle
public import Idealize.ShloMosaic.Lib.Pipeline.Value
public import Idealize.ShloMosaic.Lib.Pipeline.ValueKit.Geometry

/-! # The tables' words at each grid point

Which blocks the point's index maps name, which of the body's three conditions hold there, when the output window is
written back and when a point leaves it alone: all from the schedule. -/

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables' words at a point -/

theorem off_at : ∀ t : Fin grid0.N, k0_off1 (grid0.coords t) 0 = t.val := by decide +kernel

/-- A grid point as a position in the tables. -/
abbrev pt (t : Fin (cfgA m).N) : Fin 63 := t

theorem wd_at (T : IVec S63 32) (t : Fin (cfgA m).N) : wd (F := F) T (grid0.coords t) = T (ix1 (pt m t)) := by
  unfold wd
  refine congrArg T (funext fun a => ?_)
  match a with
  | ⟨0, _⟩ => exact Fin.ext (off_at t)

theorem tabs0 (g) : tabs (F := F) g 0 = tileT g := by unfold tabs; with_reducible rfl
theorem tabs1 (g) : tabs (F := F) g 1 = expertT g := by unfold tabs; with_reducible rfl
theorem tabs2 (g) : tabs (F := F) g 2 = loT g := by unfold tabs; with_reducible rfl
theorem tabs3 (g) : tabs (F := F) g 3 = hiT g := by unfold tabs; with_reducible rfl
theorem tabs4 (g) : tabs (F := F) g 4 = firstT g := by unfold tabs; with_reducible rfl

theorem emb_at (t : Fin (cfgA m).N) (inb) (h1) :
    (Rect.unit (s := S63) (k0_off1 (grid0.coords t)) S1.size inb).emb (Shape.Idx.first h1) = ix1 (pt m t) := by
  refine funext fun a => ?_
  match a with
  | ⟨0, _⟩ => exact Fin.ext (by rw [ValueKit.rect_emb_unit_val]; exact (Nat.add_zero _).trans (off_at t))

theorem tr0_at (g : IVec S4 32) (t : Fin (cfgA m).N) : cc0_transform_0 k0_off1_inb numel1_S1 (tabs (F := F) g) (grid0.coords t) = ![(tileT g (ix1 (pt m t))).toNat, 0] := by
  unfold cc0_transform_0 Pipeline.Prefetch.Contents.at
  exact congrArg (fun b : BitVec 32 => (![b.toNat, 0] : Fin 2 → ℕ)) ((congrFun (tabs0 g) _).trans (congrArg (tileT g) (emb_at m t _ _)))

theorem tr3_at (g : IVec S4 32) (t : Fin (cfgA m).N) : cc0_transform_3 k0_off1_inb numel1_S1 (tabs (F := F) g) (grid0.coords t) = ![(tileT g (ix1 (pt m t))).toNat, 0] := by
  unfold cc0_transform_3 Pipeline.Prefetch.Contents.at
  exact congrArg (fun b : BitVec 32 => (![b.toNat, 0] : Fin 2 → ℕ)) ((congrFun (tabs0 g) _).trans (congrArg (tileT g) (emb_at m t _ _)))

theorem tr1_at (g : IVec S4 32) (t : Fin (cfgA m).N) : cc0_transform_1 k0_off1_inb numel1_S1 (tabs (F := F) g) (grid0.coords t) = ![(expertT g (ix1 (pt m t))).toNat, 0, 0] := by
  unfold cc0_transform_1 Pipeline.Prefetch.Contents.at
  exact congrArg (fun b : BitVec 32 => (![b.toNat, 0, 0] : Fin 3 → ℕ)) ((congrFun (tabs1 g) _).trans (congrArg (expertT g) (emb_at m t _ _)))

theorem tr2_at (g : IVec S4 32) (t : Fin (cfgA m).N) : cc0_transform_2 k0_off1_inb numel1_S1 (tabs (F := F) g) (grid0.coords t) = ![(expertT g (ix1 (pt m t))).toNat, 0, 0] := by
  unfold cc0_transform_2 Pipeline.Prefetch.Contents.at
  exact congrArg (fun b : BitVec 32 => (![b.toNat, 0, 0] : Fin 3 → ℕ)) ((congrFun (tabs1 g) _).trans (congrArg (expertT g) (emb_at m t _ _)))

theorem atD_at (g : IVec S4 32) (t : Fin (cfgA m).N) : (tabs (F := F) g).atD 2 (k0_off1 (grid0.coords t)) = loT g (ix1 (pt m t))
    ∧ (tabs (F := F) g).atD 3 (k0_off1 (grid0.coords t)) = hiT g (ix1 (pt m t)) ∧ (tabs (F := F) g).atD 4 (k0_off1 (grid0.coords t)) = firstT g (ix1 (pt m t)) := by
  have hi : ∀ a : Fin 1, k0_off1 (grid0.coords t) a + 1 ≤ S63.size a := fun a => by
    match a with
    | ⟨0, _⟩ => exact (congrArg (· + 1) (off_at t)).trans_le t.isLt
  have he : (fun a => ⟨k0_off1 (grid0.coords t) a, hi a⟩ : S63.Idx) = ix1 (pt m t) := funext fun a => by
    match a with
    | ⟨0, _⟩ => exact Fin.ext (off_at t)
  unfold Pipeline.Prefetch.Contents.atD
  refine ⟨(dif_pos hi).trans ((congrFun (tabs2 g) _).trans (congrArg (loT g) he)), (dif_pos hi).trans ((congrFun (tabs3 g) _).trans (congrArg (hiT g) he)), (dif_pos hi).trans ((congrFun (tabs4 g) _).trans (congrArg (firstT g) he))⟩

/-! ## When the output window is written back, and when a point leaves it alone -/

section Sched
variable {γ : ℕ → ℕ} (h : Sizes (gs m 0) γ)
include h

theorem index3 (t : Fin (cfgA m).N) : ((cfgA m).win 3).index t = ![Plan.q (upto γ) t.val % 60, 0] := by
  refine (tr3_at m (gs m 0) t).trans ?_
  have h1 : Plan.q (upto γ) (pt m t).val % 60 < 60 := Nat.mod_lt _ (by norm_num)
  rw [tileT_ap h, BitVec.toNat_ofNat, Nat.mod_eq_of_lt (lt_trans h1 (by norm_num))]

theorem index0 (t : Fin (cfgA m).N) : ((cfgA m).win 0).index t = ![Plan.q (upto γ) t.val % 60, 0] := by
  refine (tr0_at m (gs m 0) t).trans ?_
  have h1 : Plan.q (upto γ) (pt m t).val % 60 < 60 := Nat.mod_lt _ (by norm_num)
  rw [tileT_ap h, BitVec.toNat_ofNat, Nat.mod_eq_of_lt (lt_trans h1 (by norm_num))]

theorem index1 (t : Fin (cfgA m).N) : ((cfgA m).win 1).index t = ![Plan.q (upto γ) t.val / 60, 0, 0] := by
  refine (tr1_at m (gs m 0) t).trans ?_
  have := Plan.q_lt (upto γ) (pt m t).val
  rw [expertT_ap h, BitVec.toNat_ofNat, Nat.mod_eq_of_lt (by omega)]

theorem index2 (t : Fin (cfgA m).N) : ((cfgA m).win 2).index t = ![Plan.q (upto γ) t.val / 60, 0, 0] := by
  refine (tr2_at m (gs m 0) t).trans ?_
  have := Plan.q_lt (upto γ) (pt m t).val
  rw [expertT_ap h, BitVec.toNat_ofNat, Nat.mod_eq_of_lt (by omega)]

theorem flush3_iff (t : Fin (cfgA m).N) : ((cfgA m).win 3).flush t = true ↔ t.val + 1 = 63 ∨ Fresh γ (t.val + 1) := by
  have hN : t.val < 63 := t.isLt
  unfold Window.flush
  rw [show ((cfgA m).win 3).isOut = true from rfl, Bool.true_and, Bool.or_eq_true, decide_eq_true_eq, decide_eq_true_eq]
  have hF : Fresh γ (t.val + 1) ↔ Plan.q (upto γ) (t.val + 1) % 60 ≠ Plan.q (upto γ) t.val % 60 :=
    ⟨fun c => c.resolve_left (Nat.succ_ne_zero _), fun c => Or.inr c⟩
  rw [hF]
  refine or_congr_right' fun hl => ?_
  constructor
  · rintro ⟨h', hne⟩ heq
    apply hne
    rw [index3 m h, index3 m h]
    exact congrArg (fun b : ℕ => (![b, 0] : Fin 2 → ℕ)) heq
  · intro hne
    have hlt : t.val + 1 < 63 := by
      have : ¬ t.val + 1 = 63 := hl
      omega
    refine ⟨hlt, fun heq => hne ?_⟩
    rw [index3 m h, index3 m h] at heq
    exact congrFun heq 0

/-! ## The words of a point -/

omit h in
theorem bit_roundtrip (b : BitVec 1) : Scalar.cmpi .ne (Scalar.extui b : BitVec 32) 0#32 = b := by
  revert b; decide

omit h in
theorem andi_eq_one (a b : BitVec 1) : Scalar.andi a b = 1#1 ↔ a = 1#1 ∧ b = 1#1 := by
  revert a b; decide

omit h in
theorem slt_words {a b : ℕ} (ha : a ≤ 512) (hb : b ≤ 512) : Scalar.cmpi .slt (BitVec.ofNat 32 a) (BitVec.ofNat 32 b) = 1#1 ↔ a < b := by
  have e : Scalar.cmpi .slt (BitVec.ofNat 32 a) (BitVec.ofNat 32 b) = BitVec.ofBool (decide (a < b)) := WordCmp.cmpi_slt_ofNat (by omega) (by omega)
  rw [e]; by_cases c : a < b <;> simp [c]

theorem wfirst_eq (t : Fin (cfgA m).N) : wfirst m t = if Fresh γ t.val then 1#32 else 0#32 := (wd_at m _ t).trans (firstT_ap h _)
theorem wlo_eq (t : Fin (cfgA m).N) : wlo m t = BitVec.ofNat 32 (Plan.L (upto γ) t.val) := (wd_at m _ t).trans (loT_ap h _)
theorem whi_eq (t : Fin (cfgA m).N) : whi m t = BitVec.ofNat 32 (Plan.H (upto γ) t.val) := (wd_at m _ t).trans (hiT_ap h _)

theorem cond2_iff (t : Fin (cfgA m).N) : k0_cond2 (wfirst m t) = 1#1 ↔ Fresh γ t.val := by
  rw [wfirst_eq m h]; by_cases c : Fresh γ t.val
  · rw [if_pos c]; exact ⟨fun _ => c, fun _ => by decide⟩
  · rw [if_neg c]; exact ⟨fun c' => absurd c' (by decide), fun c' => absurd c' c⟩

theorem cond3_iff (t : Fin (cfgA m).N) : k0_cond3 (wlo m t) (whi m t) (wfirst m t) = 1#1 ↔ ¬ Fresh γ t.val ∧ Plan.L (upto γ) t.val < Plan.H (upto γ) t.val := by
  unfold k0_cond3
  refine (iff_of_eq (congrArg (· = 1#1) (bit_roundtrip _))).trans ?_
  rw [andi_eq_one, wlo_eq m h, whi_eq m h, slt_words (L_le _) (H_le _), wfirst_eq m h]
  refine and_congr_left' ?_
  by_cases c : Fresh γ t.val
  · rw [if_pos c]; exact ⟨fun c' => absurd c' (by decide), fun c' => absurd c c'⟩
  · rw [if_neg c]; exact ⟨fun _ => c, fun _ => by decide⟩

theorem condQ_of_fresh (t : Fin (cfgA m).N) (hf : Fresh γ t.val) : condQ (wlo m t) (whi m t) (wfirst m t) = 1#1 := by
  refine (bit_roundtrip _).trans ?_
  rw [andi_eq_one, wlo_eq m h, whi_eq m h, slt_words (L_le _) (H_le _), wfirst_eq m h, if_pos hf]
  exact ⟨by decide, fresh_live h hf⟩

theorem condQ_not_fresh (t : Fin (cfgA m).N) (hf : ¬ Fresh γ t.val) : ¬ condQ (wlo m t) (whi m t) (wfirst m t) = 1#1 := by
  intro c
  have c' := (bit_roundtrip _).symm.trans c
  rw [andi_eq_one, wfirst_eq m h, if_neg hf] at c'
  exact absurd c'.1 (by decide)

omit h in
theorem idle_gen (a : (pcfg0 (F := F)).Adm) (w : Fin 4) (i : grid0.Coords) : (cfg0 a).idle w i = idle0 a.1 w i := rfl

omit h in
theorem adm_fst : (adm m 0).1 = tabs (F := F) (gs m 0) := rfl

omit h in
theorem idle0_three (pf : pre0.Contents (Elt F)) (i : grid0.Coords) : idle0 pf 3 i = (!(k0_cond2 (pf.atD 4 (k0_off1 i)) == 1#1)
      && !(k0_cond3 (pf.atD 2 (k0_off1 i)) (pf.atD 3 (k0_off1 i)) (pf.atD 4 (k0_off1 i)) == 1#1)) := by with_reducible rfl

/-- A point leaves the output window alone exactly when it is not its tile's first and covers no row. -/
theorem idle3_iff (t : Fin (cfgA m).N) : (cfgA m).idle 3 (grid0.coords t) = true ↔ ¬ Fresh γ t.val ∧ ¬ Plan.L (upto γ) t.val < Plan.H (upto γ) t.val := by
  obtain ⟨a2, a3, a4⟩ := atD_at m (gs m 0) t
  have e := (idle_gen (adm m 0) 3 (grid0.coords t)).trans (idle0_three _ _)
  rw [adm_fst, a2, a3, a4, ← wd_at (F := F) m (loT _), ← wd_at (F := F) m (hiT _), ← wd_at (F := F) m (firstT _)] at e
  refine (iff_of_eq (congrArg (· = true) e)).trans ?_
  rw [Bool.and_eq_true, Bool.not_eq_true', Bool.not_eq_true', beq_eq_false_iff_ne, beq_eq_false_iff_ne]
  refine (and_congr (not_congr (cond2_iff m h t)) (not_congr (cond3_iff m h t))).trans ?_
  tauto

/-- Where a point is not its tile's first, the output block still holds what the point before left. -/
theorem not_fresh3 : ∀ n : ℕ, n < 63 → ¬ Fresh γ n → (cfgA m).fresh 3 n = false
  | 0, _, hf => absurd (Or.inl rfl) hf
  | n + 1, hn, hf => by
    have hn' : n < (cfgA m).N := show n < 63 by omega
    rw [Cfg.fresh_succ _ 3 n hn', Bool.or_eq_false_iff]
    constructor
    · rw [← Bool.not_eq_true]
      refine (not_congr (flush3_iff m h ⟨n, hn'⟩)).mpr ?_
      rintro (c | c)
      · exact absurd (show n + 1 = 63 from c) (by omega)
      · exact hf c
    · by_cases c : Fresh γ n
      · have : (cfgA m).idle 3 (grid0.coords ⟨n, hn'⟩) = false := by
          rw [← Bool.not_eq_true]
          exact fun c' => ((idle3_iff m h ⟨n, hn'⟩).mp c').1 c
        rw [Bool.and_eq_false_iff]; exact Or.inl this
      · rw [Bool.and_eq_false_iff]; exact Or.inr (not_fresh3 n (by omega) c)

end Sched

end Cert.KernelIdeal.Hand
end
-- ==== Proof.Ideal.Blocks.lean ====
module

public import proofs.«01_k».proof.Proof.Ideal.Words

/-! # The blocks each grid point reads

The block of activations, of weights and of weight scales at a grid point, element by element, in the arguments. -/

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section Sched
variable {γ : ℕ → ℕ} (h : Sizes (gs m 0) γ)
include h

/-! ## The blocks the point reads -/

theorem iblk0_ap (c : Dev nD) (t : Fin (cfgA m).N) (y : S512x2048.Idx) (Y : S30720x2048.Idx)
    (h0 : (Y 0).val = 512 * (Plan.q (upto γ) t.val % 60) + (y 0).val) (h1 : (Y 1).val = (y 1).val) :
    iblk m c 0 t y = (m ((c : Thread nD τ).loc main_arg0) : Vec F S30720x2048 .bf16) Y := by
  have hi := index0 m h t
  generalize Plan.q (upto γ) t.val % 60 = T at h0 hi
  have j0 : T * 512 + (y 0).val = (Y 0).val := (congrArg (· + (y 0).val) (Nat.mul_comm _ _)).trans h0.symm
  have j1 : 0 * 2048 + (y 1).val = (Y 1).val := (congrArg (· + (y 1).val) (Nat.zero_mul _)).trans ((Nat.zero_add _).trans h1.symm)
  have k0 : ((((cfgA m).win 0).rect t).emb y (0 : Fin 2)).val = (Y 0).val := (Window.rect_emb_val ((cfgA m).win 0) t y (0 : Fin 2) rfl).trans ((congrArg (fun b : ℕ => b * 512 + (y 0).val) (congrFun hi (0 : Fin 2))).trans j0)
  have k1 : ((((cfgA m).win 0).rect t).emb y (1 : Fin 2)).val = (Y 1).val := (Window.rect_emb_val ((cfgA m).win 0) t y (1 : Fin 2) rfl).trans ((congrArg (fun b : ℕ => b * 2048 + (y 1).val) (congrFun hi (1 : Fin 2))).trans j1)
  have e : (((cfgA m).win 0).rect t).emb y = Y := funext fun a => Fin.ext (match a with | ⟨0, _⟩ => k0 | ⟨1, _⟩ => k1)
  unfold iblk
  refine Eq.trans ?_ (congrFun (V_main_arg0 m c) Y)
  exact congrArg (V m c main_arg0) e

theorem iblk1_ap (c : Dev nD) (t : Fin (cfgA m).N) (y : S1x2048x7168.Idx) (Y : S4x2048x7168.Idx)
    (h0 : (Y 0).val = Plan.q (upto γ) t.val / 60) (h1 : (Y 1).val = (y 1).val) (h2 : (Y 2).val = (y 2).val) :
    iblk m c 1 t y = (m ((c : Thread nD τ).loc main_arg2) : Vec F S4x2048x7168 .fp8e4m3) Y := by
  have z0 : (y 0).val < 1 := (y 0).isLt
  have j0 : Plan.q (upto γ) t.val / 60 * 1 + (y 0).val = (Y 0).val := by omega
  have j1 : 0 * 2048 + (y 1).val = (Y 1).val := by omega
  have j2 : 0 * 7168 + (y 2).val = (Y 2).val := by omega
  have k0 : ((((cfgA m).win 1).rect t).emb y (0 : Fin 3)).val = (Y 0).val := (Window.rect_emb_val ((cfgA m).win 1) t y (0 : Fin 3) rfl).trans ((congrArg (fun b : ℕ => b * 1 + (y 0).val) (congrFun (index1 m h t) (0 : Fin 3))).trans j0)
  have k1 : ((((cfgA m).win 1).rect t).emb y (1 : Fin 3)).val = (Y 1).val := (Window.rect_emb_val ((cfgA m).win 1) t y (1 : Fin 3) rfl).trans ((congrArg (fun b : ℕ => b * 2048 + (y 1).val) (congrFun (index1 m h t) (1 : Fin 3))).trans j1)
  have k2 : ((((cfgA m).win 1).rect t).emb y (2 : Fin 3)).val = (Y 2).val := (Window.rect_emb_val ((cfgA m).win 1) t y (2 : Fin 3) rfl).trans ((congrArg (fun b : ℕ => b * 7168 + (y 2).val) (congrFun (index1 m h t) (2 : Fin 3))).trans j2)
  have e : (((cfgA m).win 1).rect t).emb y = Y := funext fun a => Fin.ext (match a with | ⟨0, _⟩ => k0 | ⟨1, _⟩ => k1 | ⟨2, _⟩ => k2)
  unfold iblk
  refine Eq.trans ?_ (congrFun (V_main_arg2 m c) Y)
  exact congrArg (V m c main_arg2) e

theorem iblk2_ap (c : Dev nD) (t : Fin (cfgA m).N) (y : S1x1x7168.Idx) (Y : S4x7168.Idx)
    (h0 : (Y 0).val = Plan.q (upto γ) t.val / 60) (h1 : (Y 1).val = (y 2).val) :
    iblk m c 2 t y = (m ((c : Thread nD τ).loc main_arg3) : Vec F S4x7168 .f32) Y := by
  have z0 : (y 0).val < 1 := (y 0).isLt
  have z1 : (y 1).val < 1 := (y 1).isLt
  have j0 : Plan.q (upto γ) t.val / 60 * 1 + (y 0).val = (Y 0).val := by omega
  have j1 : 0 * 1 + (y 1).val = 0 := by omega
  have j2 : 0 * 7168 + (y 2).val = (Y 1).val := by omega
  have k0 : ((((cfgA m).win 2).rect t).emb y (0 : Fin 3)).val = (Y 0).val := (Window.rect_emb_val ((cfgA m).win 2) t y (0 : Fin 3) rfl).trans ((congrArg (fun b : ℕ => b * 1 + (y 0).val) (congrFun (index2 m h t) (0 : Fin 3))).trans j0)
  have k1 : ((((cfgA m).win 2).rect t).emb y (1 : Fin 3)).val = 0 := (Window.rect_emb_val ((cfgA m).win 2) t y (1 : Fin 3) rfl).trans ((congrArg (fun b : ℕ => b * 1 + (y 1).val) (congrFun (index2 m h t) (1 : Fin 3))).trans j1)
  have k2 : ((((cfgA m).win 2).rect t).emb y (2 : Fin 3)).val = (Y 1).val := (Window.rect_emb_val ((cfgA m).win 2) t y (2 : Fin 3) rfl).trans ((congrArg (fun b : ℕ => b * 7168 + (y 2).val) (congrFun (index2 m h t) (2 : Fin 3))).trans j2)
  have e : (((cfgA m).win 2).rect t).emb y = (ix3 (Y 0) (0 : Fin 1) (Y 1) : S4x1x7168.Idx) := funext fun a => Fin.ext (match a with | ⟨0, _⟩ => k0 | ⟨1, _⟩ => k1 | ⟨2, _⟩ => k2)
  unfold iblk
  refine (congrArg (V m c main_v66) e).trans ((congrFun (V_v66 m c) _).trans ?_)
  refine congrArg (m ((c : Thread nD τ).loc main_arg3) : Vec F S4x7168 .f32) (funext fun a => Fin.ext ?_)
  match a with
  | ⟨0, _⟩ => rfl
  | ⟨1, _⟩ => rfl

theorem iblk0_eq (c : Dev nD) (t t' : Fin (cfgA m).N) (hq : Plan.q (upto γ) t.val % 60 = Plan.q (upto γ) t'.val % 60) :
    (iblk m c 0 t : Vec F S512x2048 .bf16) = iblk m c 0 t' := by
  refine funext fun y => ?_
  have hy : (y 0).val < 512 := (y 0).isLt
  have hb : Plan.q (upto γ) t.val % 60 < 60 := Nat.mod_lt _ (by norm_num)
  have e := iblk0_ap m h c t y (ix2 ⟨512 * (Plan.q (upto γ) t.val % 60) + (y 0).val, by omega⟩ (y 1)) rfl rfl
  have e' := iblk0_ap m h c t' y (ix2 ⟨512 * (Plan.q (upto γ) t.val % 60) + (y 0).val, by omega⟩ (y 1)) (by rw [← hq]) rfl
  exact e.trans e'.symm

end Sched

end Cert.KernelIdeal.Hand
end
-- ==== Proof.Ideal.Run.lean ====
module

public import proofs.«01_k».proof.Proof.Ideal.Blocks

/-! # The exact run

What the output window holds after each grid point, as a recursion over the points, and the run that leaves each tile of
the output at its last point's contents. -/

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point of a number (the last one past the end). -/
def ptn (n : ℕ) : Fin (cfgA m).N := (⟨min n 62, by omega⟩ : Fin 63)

theorem ptn_val (t : Fin (cfgA m).N) : ptn m t.val = t :=
  Fin.ext (show min t.val 62 = t.val from Nat.min_eq_left (Nat.le_of_lt_succ (show t.val < 63 from t.isLt)))

/-- The output block after point `t`, from the block before it. -/
def outAt (c : Dev nD) (t : Fin (cfgA m).N) (o : Vec F S512x7168 .bf16) : Vec F S512x7168 .bf16 :=
  outAfter (wlo m t) (whi m t) (wfirst m t) (codesOf (iblk m c 0 t)) (iblk m c 1 t) (scaleOf (iblk m c 0 t)) (iblk m c 2 t) o

/-- The output block after each point. -/
def outs (c : Dev nD) : ℕ → Vec F S512x7168 .bf16
  | 0 => fullOf (codesOf (iblk m c 0 (ptn m 0))) (iblk m c 1 (ptn m 0)) (scaleOf (iblk m c 0 (ptn m 0))) (iblk m c 2 (ptn m 0))
  | n + 1 => outAt m c (ptn m (n + 1)) (outs c n)

/-- The scratch buffers after `k` points: those of the last point's block, once there is one. -/
def held (c : Dev nD) (k : ℕ) (cd : Vec F S512x2048 .fp8e4m3) (sc : Vec F S512x128 .f32) : Prop :=
  k ≠ 0 → cd = codesOf (iblk m c 0 (ptn m (k - 1))) ∧ sc = scaleOf (iblk m c 0 (ptn m (k - 1)))

/-- The invariant between points. -/
def inv (c : Dev nD) (k : ℕ) : sProp 𝕄 :=
  iprop((∃ cd, ∃ sc, ⌜held m c k cd sc⌝ ∗ (((c : Thread nD τ).loc cc0_scratch0) ↦{fullShare} cd) ∗ (((c : Thread nD τ).loc cc0_scratch1) ↦{fullShare} sc))
    ∗ (∃ r, prngReg c r) ∗ Pipeline.ΦT pre0 (adm m 0).1 c)

/-- The proof data of the exact run. -/
def datX (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outs m c t.val
  Φ k := inv m c k.val
  q _ := fullShare
  owed _ := 0

theorem datX_A (c : Dev nD) (w : Fin (cfgA m).W) : (datX m 0 c).A w = V m c (Pipeline.arrRef spec0 w) := by dsimp only [datX]; try rfl
theorem datX_after0 (c : Dev nD) (t) : (datX m 0 c).after 0 t = iblk m c 0 t := by dsimp only [datX]; try rfl
theorem datX_after1 (c : Dev nD) (t) : (datX m 0 c).after 1 t = iblk m c 1 t := by dsimp only [datX]; try rfl
theorem datX_after2 (c : Dev nD) (t) : (datX m 0 c).after 2 t = iblk m c 2 t := by dsimp only [datX]; try rfl
theorem datX_after3 (c : Dev nD) (t) : (datX m 0 c).after 3 t = outs m c t.val := by dsimp only [datX]; try rfl

theorem datX_before0 (c : Dev nD) (t) (d) : (datX m 0 c).before 0 t d = iblk m c 0 t := before0_of m (datX m 0 c) (datX_A m c 0) (datX_after0 m c) t d
theorem datX_before1 (c : Dev nD) (t) (d) : (datX m 0 c).before 1 t d = iblk m c 1 t := before1_of m (datX m 0 c) (datX_A m c 1) (datX_after1 m c) t d
theorem datX_before2 (c : Dev nD) (t) (d) : (datX m 0 c).before 2 t d = iblk m c 2 t := before2_of m (datX m 0 c) (datX_A m c 2) (datX_after2 m c) t d

/-- What the body finds in the output window. -/
def found3 (c : Dev nD) (t : Fin (cfgA m).N) (d : Vec F S512x7168 .bf16) : Vec F S512x7168 .bf16 := (datX m 0 c).before 3 t d

section Sched
variable {γ : ℕ → ℕ} (h : Sizes (gs m 0) γ)
include h

/-- At a tile's first point every element is written. -/
theorem outAt_fresh (c : Dev nD) (t : Fin (cfgA m).N) (o) (hf : Fresh γ t.val) :
    outAt m c t o = fullOf (codesOf (iblk m c 0 t)) (iblk m c 1 t) (scaleOf (iblk m c 0 t)) (iblk m c 2 t) := by
  unfold outAt outAfter
  rw [if_neg (fun c' => ((cond3_iff m h t).mp c').1 hf), if_pos ((cond2_iff m h t).mpr hf)]

/-- At another point that covers rows, those rows are. -/
theorem outAt_live (c : Dev nD) (t : Fin (cfgA m).N) (o) (hf : ¬ Fresh γ t.val) (hl : Plan.L (upto γ) t.val < Plan.H (upto γ) t.val) :
    outAt m c t o = maskOf (wlo m t) (whi m t) (codesOf (iblk m c 0 t)) (iblk m c 1 t) (scaleOf (iblk m c 0 t)) (iblk m c 2 t) o := by
  unfold outAt outAfter
  rw [if_pos ((cond3_iff m h t).mpr ⟨hf, hl⟩), if_neg (fun c' => hf ((cond2_iff m h t).mp c'))]

/-- At any other point nothing is. -/
theorem outAt_idle (c : Dev nD) (t : Fin (cfgA m).N) (o) (hf : ¬ Fresh γ t.val) (hl : ¬ Plan.L (upto γ) t.val < Plan.H (upto γ) t.val) :
    outAt m c t o = o := by
  unfold outAt outAfter
  rw [if_neg (fun c' => hl ((cond3_iff m h t).mp c').2), if_neg (fun c' => hf ((cond2_iff m h t).mp c'))]

omit h in
theorem outs_pred (c : Dev nD) (t : Fin (cfgA m).N) (h0 : t.val ≠ 0) : outs m c t.val = outAt m c t (outs m c (t.val - 1)) := by
  obtain ⟨n, hn⟩ := Nat.exists_eq_succ_of_ne_zero h0
  have e := ptn_val m t
  rw [hn] at e ⊢
  show outAt m c (ptn m (n + 1)) (outs m c n) = _
  rw [e]
  rfl

theorem before3 (c : Dev nD) (t : Fin (cfgA m).N) (d) (hf : ¬ Fresh γ t.val) : found3 m c t d = outs m c (t.val - 1) := by
  have k := (datX m 0 c).before_out_traj 3 rfl (fun _ _ => rfl) (fun t' h0 hi _ => by
    rw [datX_after3, datX_after3]
    have hi' := (idle3_iff m h t').mp hi
    rw [outs_pred m c t' h0, outAt_idle m h c t' _ hi'.1 hi'.2]) t.val t rfl d
  rw [not_fresh3 m h t.val t.isLt hf] at k
  unfold found3
  rw [k, datX_after3]
  rfl

/-- What the body leaves in the output window is the recursion's next block. -/
theorem step3 (c : Dev nD) (t : Fin (cfgA m).N) (d) : outAt m c t (found3 m c t d) = outs m c t.val := by
  by_cases hf : Fresh γ t.val
  · rw [outAt_fresh m h c t _ hf]
    by_cases h0 : t.val = 0
    · have e := ptn_val m t
      rw [h0] at e ⊢
      show _ = fullOf (codesOf (iblk m c 0 (ptn m 0))) (iblk m c 1 (ptn m 0)) (scaleOf (iblk m c 0 (ptn m 0))) (iblk m c 2 (ptn m 0))
      rw [e]
    · rw [outs_pred m c t h0, outAt_fresh m h c t _ hf]
  · have h0 : t.val ≠ 0 := fun c' => hf (Or.inl c')
    rw [before3 m h c t d hf, ← outs_pred m c t h0]

/-- The scratch buffers a point leaves are its own block's. -/
theorem held_step (c : Dev nD) (t : Fin (cfgA m).N) (cd : Vec F S512x2048 .fp8e4m3) (sc : Vec F S512x128 .f32) (hd : held m c t.val cd sc) :
    cdAfter (wlo m t) (whi m t) (wfirst m t) (iblk m c 0 t) cd = codesOf (iblk m c 0 t)
      ∧ scAfter (wlo m t) (whi m t) (wfirst m t) (iblk m c 0 t) sc = scaleOf (iblk m c 0 t) := by
  unfold cdAfter scAfter
  by_cases hf : Fresh γ t.val
  · rw [if_pos (condQ_of_fresh m h t hf), if_pos (condQ_of_fresh m h t hf)]; exact ⟨rfl, rfl⟩
  · have h0 : t.val ≠ 0 := fun c' => hf (Or.inl c')
    rw [if_neg (condQ_not_fresh m h t hf), if_neg (condQ_not_fresh m h t hf)]
    have hp : (ptn m (t.val - 1)).val = t.val - 1 := by
      have := show t.val < 63 from t.isLt
      show min (t.val - 1) 62 = t.val - 1
      omega
    have hq : Plan.q (upto γ) t.val % 60 = Plan.q (upto γ) (t.val - 1) % 60 := by
      by_contra c'; exact hf (Or.inr c')
    have e := iblk0_eq m h c t (ptn m (t.val - 1)) (by rw [hp]; exact hq)
    rw [e]; exact hd h0

end Sched

/-- What the output window's buffer is left at. -/
def post3 (c : Dev nD) (t : Fin (cfgA m).N) : sProp 𝕄 :=
  match (cfgA m).idle 3 ((cfgA m).grid.coords t) with
  | true =>
    match ((cfgA m).win 3).flush t with
    | false => iprop(∃ d, owns (c : Thread nD τ) (ms3 m t) fullShare ((datX m 0 c).before 3 t d))
    | true => owns (c : Thread nD τ) (ms3 m t) fullShare ((datX m 0 c).after 3 t)
  | false => owns (c : Thread nD τ) (ms3 m t) fullShare ((datX m 0 c).after 3 t)

theorem post3_intro {γ : ℕ → ℕ} (h : Sizes (gs m 0) γ) (c : Dev nD) (t : Fin (cfgA m).N) (d) :
    owns (c : Thread nD τ) (ms3 m t) fullShare (outAt m c t (found3 m c t d)) ⊢ (post3 m c t : sProp 𝕄) := by
  unfold post3
  cases hi : (cfgA m).idle 3 ((cfgA m).grid.coords t) with
  | false => dsimp only; rw [step3 m h c t d, datX_after3]
  | true =>
    cases hfl : ((cfgA m).win 3).flush t with
    | true => dsimp only; rw [step3 m h c t d, datX_after3]
    | false =>
      have hi' := (idle3_iff m h t).mp hi
      dsimp only
      rw [outAt_idle m h c t _ hi'.1 hi'.2]
      iintro H; iexists d; iexact H

def preX (c : Dev nD) (t : Fin (cfgA m).N) : sProp 𝕄 :=
  iprop((datX m 0 c).Φ t.castSucc ∗ (datX m 0 c).owesAt () t.castSucc
    ∗ (∃ d, owns (c : Thread nD τ) (ms0 m t) fullShare ((datX m 0 c).before 0 t d))
    ∗ (∃ d, owns (c : Thread nD τ) (ms1 m t) fullShare ((datX m 0 c).before 1 t d))
    ∗ (∃ d, owns (c : Thread nD τ) (ms2 m t) fullShare ((datX m 0 c).before 2 t d))
    ∗ (∃ d, owns (c : Thread nD τ) (ms3 m t) fullShare ((datX m 0 c).before 3 t d)))

def postX (c : Dev nD) (t : Fin (cfgA m).N) : sProp 𝕄 :=
  iprop((datX m 0 c).Φ t.succ ∗ (datX m 0 c).owesAt () t.succ
    ∗ owns (c : Thread nD τ) (ms0 m t) fullShare ((datX m 0 c).after 0 t)
    ∗ owns (c : Thread nD τ) (ms1 m t) fullShare ((datX m 0 c).after 1 t)
    ∗ owns (c : Thread nD τ) (ms2 m t) fullShare ((datX m 0 c).after 2 t)
    ∗ post3 m c t)

theorem soundX {γ : ℕ → ℕ} (h : Sizes (gs m 0) γ) (c : Dev nD) (t : Fin (cfgA m).N) :
    preX m c t ⊢ wp Idealize.ShloMosaic.frame (wpE (defs₀ (F := F)) Variants.none c none) Set.univ
      (defs₀ (F := F) .tc (cfgA m).body ((cfgA m).bodyArgs t ((cfgA m).slots t))) (fun _ => postX m c t) := by
  unfold preX postX
  simp only [datX_before0, datX_before1, datX_before2]
  rw [show (datX m 0 c).Φ t.succ = inv m c (t.val + 1) from rfl, show (datX m 0 c).Φ t.castSucc = inv m c t.val from rfl,
    show (datX m 0 c).owesAt () t.succ = (datX m 0 c).owesAt () t.castSucc from rfl,
    datX_after0, datX_after1, datX_after2]
  unfold inv
  iintro ⟨⟨⟨%cd, %sc, %hd, HC, HS⟩, HR, HT⟩, Ho, ⟨%d0, H0⟩, ⟨%d1, H1⟩, ⟨%d2, H2⟩, ⟨%d, H3⟩⟩
  obtain ⟨e1, e2⟩ := held_step m h c t cd sc hd
  have k := body_at m c t (iblk m c 0 t) (iblk m c 1 t) (iblk m c 2 t) (found3 m c t d) cd sc
  rw [e1, e2] at k
  iapply k
  isplitl [HT]; · iexact HT
  isplitl [H0]; · iexact H0
  isplitl [H1]; · iexact H1
  isplitl [H2]; · iexact H2
  isplitl [H3]; · iexact H3
  isplitl [HC]; · iexact HC
  isplitl [HS]; · iexact HS
  iintro ⟨HT, H0, H1, H2, H3, HC, HS⟩
  isplitl [HT HC HS HR]
  · isplitl [HC HS]
    · iexists _; iexists _
      isplitr
      swap
      · isplitl [HC]
        · iexact HC
        · iexact HS
      ipureintro
      intro _
      rw [Nat.add_sub_cancel, ptn_val]
      exact ⟨rfl, rfl⟩
    isplitl [HR]; · iexact HR
    iexact HT
  isplitl [Ho]; · iexact Ho
  isplitl [H0]; · iexact H0
  isplitl [H1]; · iexact H1
  isplitl [H2]; · iexact H2
  iapply (post3_intro m h c t d)
  iexact H3

theorem obligationX {γ : ℕ → ℕ} (h : Sizes (gs m 0) γ) (c : Dev nD) : BodyObligation (datX (F := F) m 0 c) (defs₀ (F := F)) Variants.none () Set.univ := fun t => by
  rw [bigSep_W0, bigSep_W0]
  exact triple_restated (soundX m h c t) rfl .rfl fun _ => .rfl

theorem inv_in (c : Dev nD) : iprop(Pipeline.ΦA spec0 c ∗ Pipeline.ΦT pre0 (adm m 0).1 c) ⊢ (inv m c 0 : sProp 𝕄) := by
  unfold Pipeline.ΦA inv
  rw [scopedRest0_eq]
  iintro ⟨⟨⟨⟨%cd, HC⟩, ⟨%sc, HS⟩⟩, HR⟩, HT⟩
  isplitl [HC HS]
  · iexists cd; iexists sc
    isplitr
    swap
    · isplitl [HC]
      · iexact HC
      · iexact HS
    ipureintro
    exact fun c' => absurd rfl c'
  isplitl [HR]; · iexact HR
  iexact HT

theorem inv_out (c : Dev nD) (k : ℕ) : (inv m c k : sProp 𝕄) ⊢ Pipeline.ΦA spec0 c := by
  unfold Pipeline.ΦA inv
  rw [scopedRest0_eq]
  iintro ⟨⟨%cd, %sc, -, HC, HS⟩, HR, -⟩
  isplitl [HC HS]
  · isplitl [HC]
    · iexists _; iexact HC
    · iexists _; iexact HS
  iexact HR

set_option backward.isDefEq.respectTransparency.types false in
theorem runX {γ : ℕ → ℕ} (h : Sizes (gs m 0) γ) : θ_run defs (onTc (τ := τ) (main (F := F))) (s₀ m ρ)
    (fun r => Pipeline.FramePost (Pipeline.pin pcfgs (adm m)) (datX m) (0 : Fin 1) (V m) r) :=
  Pipeline.θ_run_frameP_track (Q' := _) pcfgs (adm m) (datX m) (0 : Fin 1) launch0 defs₀ Variants.none m ρ main
    (hbody := fun c => (obligationX m h c).loose) (hshare := fun c => (datX m 0 c).share_full fun _ => rfl)
    (howed := fun _ _ => rfl) (V := V m) (hmain := hmain m Variants.none) (hA := datX_A m) (hpf := V_tables m)
    (hin := fun c => inv_in m c) (hout := fun c => inv_out m c _)

end Cert.KernelIdeal.Hand
end
-- ==== Proof.Ideal.Final.lean ====
module

public import proofs.«01_k».proof.Proof.Ideal.Run
public import Idealize.ShloMosaic.Lib.Pipeline.Value
public import Idealize.ShloMosaic.Lib.Pointwise

/-! # The output array after the run

Every element of the output is what the full store of ONE grid point would put there: the last point that covers its row.
The points of the tile after it leave the row alone, and the tile is written back after its last point. -/

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One element of the masked store: the full store's inside the rows covered, the block's own elsewhere. -/
theorem maskOf_ap (a b : ℕ) (ha : a ≤ 512) (hb : b ≤ 512) (cd : Vec F S512x2048 .fp8e4m3) (w : Vec F S1x2048x7168 .fp8e4m3) (sc : Vec F S512x128 .f32)
    (ws : Vec F S1x1x7168 .f32) (o : Vec F S512x7168 .bf16) (y : S512x7168.Idx) :
    maskOf (BitVec.ofNat 32 a) (BitVec.ofNat 32 b) cd w sc ws o y = if a ≤ (y 0).val ∧ (y 0).val < b then fullOf cd w sc ws y else o y := by
  have hy : (y 0).val < 512 := (y 0).isLt
  have e1 : IntOp.cmpi .sge (BitVec.ofNat 32 (y 0).val) (BitVec.ofNat 32 a) = BitVec.ofBool (decide (a ≤ (y 0).val)) := by
    rw [WordCmp.cmpi_sge_ofNat (by omega) (by omega)]
  have e2 : IntOp.cmpi .slt (BitVec.ofNat 32 (y 0).val) (BitVec.ofNat 32 b) = BitVec.ofBool (decide ((y 0).val < b)) := by
    rw [WordCmp.cmpi_slt_ofNat (by omega) (by omega)]
  have e3 : maskOf (BitVec.ofNat 32 a) (BitVec.ofNat 32 b) cd w sc ws o y
      = Scalar.select (IntOp.andi (IntOp.cmpi .sge (BitVec.ofNat 32 (y 0).val) (BitVec.ofNat 32 a)) (IntOp.cmpi .slt (BitVec.ofNat 32 (y 0).val) (BitVec.ofNat 32 b)))
          (fullOf cd w sc ws y) (o y) := by
    clear e1 e2 hy
    idx_vars y
    pointwise [maskOf, fullOf, k0_pay57, k0_pay41, ochunk]
    have e : (⟨512 * (y1.val / 512) + y1.val % 512, by have := y1.isLt; omega⟩ : Fin 7168) = y1 := Fin.ext (by show 512 * (y1.val / 512) + y1.val % 512 = y1.val; omega)
    have hz : (ValueIdx.ix2 y0 ⟨512 * (y1.val / 512) + y1.val % 512, by have := y1.isLt; omega⟩ : S512x7168.Idx) = ix2 y0 y1 := by
      rw [e]; rfl
    exact congrArg (fun z => Scalar.select _ _ (o z)) hz
  rw [e3, e1, e2]
  by_cases h1 : a ≤ (y 0).val <;> by_cases h2 : (y 0).val < b <;> simp [h1, h2, Scalar.select, IntOp.andi]

section Sched
variable {γ : ℕ → ℕ} (h : Sizes (gs m 0) γ)
include h

/-- What the full store of point `t` would put at `y`. -/
abbrev fullAt (c : Dev nD) (t : Fin (cfgA m).N) : Vec F S512x7168 .bf16 :=
  fullOf (codesOf (iblk m c 0 t)) (iblk m c 1 t) (scaleOf (iblk m c 0 t)) (iblk m c 2 t)

theorem outs_last (c : Dev nD) (y : S512x7168.Idx) (T : ℕ) (i : Fin (cfgA m).N) (hi : Plan.q (upto γ) i.val % 60 = T)
    (hc : Plan.L (upto γ) i.val ≤ (y 0).val ∧ (y 0).val < Plan.H (upto γ) i.val)
    (hlast : ∀ j, i.val < j → Plan.q (upto γ) j % 60 = T → ¬ (Plan.L (upto γ) j ≤ (y 0).val ∧ (y 0).val < Plan.H (upto γ) j)) :
    ∀ n : ℕ, i.val + n < 63 → Plan.q (upto γ) (i.val + n) % 60 = T → outs m c (i.val + n) y = fullAt m c i y
  | 0, _, _ => by
    rw [Nat.add_zero]
    by_cases hf : Fresh γ i.val
    · rw [← step3 m h c i (fun _ => fullAt m c i y), outAt_fresh m h c i _ hf]
    · have h0 : i.val ≠ 0 := fun c' => hf (Or.inl c')
      rw [outs_pred m c i h0, outAt_live m h c i _ hf (lt_of_le_of_lt hc.1 hc.2), wlo_eq m h, whi_eq m h, maskOf_ap _ _ (L_le _) (H_le _), if_pos hc]
  | n + 1, hn, ht => by
    have hm1 := tile_mono h (Nat.le_add_right i.val n)
    have hm2 := tile_mono h (Nat.le_succ (i.val + n))
    rw [hi] at hm1
    have ht' : Plan.q (upto γ) (i.val + n + 1) % 60 = T := ht
    have htn : Plan.q (upto γ) (i.val + n) % 60 = T := le_antisymm (le_trans hm2 (le_of_eq ht')) hm1
    have ih := outs_last c y T i hi hc hlast n (by omega) htn
    have hj : i.val + n + 1 < (cfgA m).N := hn
    have hf : ¬ Fresh γ (i.val + n + 1) := by
      rintro (c' | c')
      · exact Nat.succ_ne_zero _ c'
      · exact c' (ht'.trans htn.symm)
    have e := outs_pred m c ⟨i.val + n + 1, hj⟩ (Nat.succ_ne_zero _)
    refine (congrFun e y).trans ?_
    have hnc := hlast (i.val + n + 1) (by omega) ht'
    by_cases hl : Plan.L (upto γ) (i.val + n + 1) < Plan.H (upto γ) (i.val + n + 1)
    · rw [outAt_live m h c ⟨i.val + n + 1, hj⟩ _ hf hl, wlo_eq m h, whi_eq m h, maskOf_ap _ _ (L_le _) (H_le _), if_neg hnc]
      exact ih
    · rw [outAt_idle m h c ⟨i.val + n + 1, hj⟩ _ hf hl]
      exact ih

/-- Two points that write back write back different tiles. -/
theorem flush_inj (t t' : Fin (cfgA m).N) (hf : ((cfgA m).win 3).flush t = true) (hf' : ((cfgA m).win 3).flush t' = true)
    (hq : Plan.q (upto γ) t.val % 60 = Plan.q (upto γ) t'.val % 60) : t = t' := by
  have key : ∀ a b : Fin (cfgA m).N, ((cfgA m).win 3).flush a = true → Plan.q (upto γ) a.val % 60 = Plan.q (upto γ) b.val % 60 → ¬ a.val < b.val := by
    intro a b ha hab hlt
    have hb63 : b.val < 63 := b.isLt
    rcases (flush3_iff m h a).mp ha with c' | c'
    · omega
    · rcases c' with c' | c'
      · omega
      · have h1 := tile_mono h (Nat.le_succ a.val)
        have h2 := tile_mono h (show a.val + 1 ≤ b.val from hlt)
        rw [Nat.add_sub_cancel] at c'
        exact c' (le_antisymm (h2.trans (le_of_eq hab.symm)) h1)
  have h1 := key t t' hf hq
  have h2 := key t' t hf' hq.symm
  exact Fin.ext (by omega)

theorem disjoint3 (t t' : Fin (cfgA m).N) (hf : ((cfgA m).win 3).flush t = true) (hf' : ((cfgA m).win 3).flush t' = true) (hne : t ≠ t') :
    Disjoint (((cfgA m).win 3).blk t).view.set (((cfgA m).win 3).blk t').view.set :=
  Window.hdisj_of_index_inj ((cfgA m).win 3) (fun t t' hf hf' e => flush_inj m h t t' hf hf' (by
    rw [index3 m h, index3 m h] at e
    exact congrFun e (0 : Fin 2))) t t' hf hf' hne

/-- Where an element of point `t`'s output block sits in the output. -/
theorem emb3 (t : Fin (cfgA m).N) (T : ℕ) (hq : Plan.q (upto γ) t.val % 60 = T) (y : S512x7168.Idx) (Y : S30720x7168.Idx)
    (h0 : T * 512 + (y 0).val = (Y 0).val) (h1 : (Y 1).val = (y 1).val) : (((cfgA m).win 3).rect t).emb y = Y := by
  have hi := index3 m h t
  rw [hq] at hi
  have j1 : 0 * 7168 + (y 1).val = (Y 1).val := (congrArg (· + (y 1).val) (Nat.zero_mul _)).trans ((Nat.zero_add _).trans h1.symm)
  have k0 : ((((cfgA m).win 3).rect t).emb y (0 : Fin 2)).val = (Y 0).val := (Window.rect_emb_val ((cfgA m).win 3) t y (0 : Fin 2) rfl).trans ((congrArg (fun b : ℕ => b * 512 + (y 0).val) (congrFun hi (0 : Fin 2))).trans h0)
  have k1 : ((((cfgA m).win 3).rect t).emb y (1 : Fin 2)).val = (Y 1).val := (Window.rect_emb_val ((cfgA m).win 3) t y (1 : Fin 2) rfl).trans ((congrArg (fun b : ℕ => b * 7168 + (y 1).val) (congrFun hi (1 : Fin 2))).trans j1)
  exact funext fun a => Fin.ext (match a with | ⟨0, _⟩ => k0 | ⟨1, _⟩ => k1)

/-- A written-back block, in the final array. -/
theorem arr_at (c : Dev nD) (t : Fin (cfgA m).N) (hf : ((cfgA m).win 3).flush t = true) (T : ℕ) (hq : Plan.q (upto γ) t.val % 60 = T) (y : S512x7168.Idx)
    (Y : S30720x7168.Idx) (h0 : T * 512 + (y 0).val = (Y 0).val) (h1 : (Y 1).val = (y 1).val) :
    (datX m 0 c).arrAt 3 (cfgA m).N Y = outs m c t.val y := by
  have ee := emb3 m h t T hq y Y h0 h1
  have k := (datX m 0 c).arrAt_emb_eq_flushed 3 (disjoint3 m h) t hf y
  have e' : ((((cfgA m).win 3).blk t).view.emb y : S30720x7168.Idx) = Y := ee
  refine (congrArg ((datX m 0 c).arrAt 3 (cfgA m).N) e'.symm).trans (k.trans ?_)
  exact congrFun (datX_after3 m c t) y

omit h in
/-- The last point of a tile. -/
theorem last_point (γ : ℕ → ℕ) (T i : ℕ) (hi : i < 63) (hiT : Plan.q (upto γ) i % 60 = T) :
    ∃ n, i + n < 63 ∧ Plan.q (upto γ) (i + n) % 60 = T ∧ (i + n + 1 < 63 → Plan.q (upto γ) (i + n + 1) % 60 ≠ T) := by
  by_contra hno
  push Not at hno
  have all : ∀ n, i + n < 63 ∧ Plan.q (upto γ) (i + n) % 60 = T := by
    intro n
    induction n with
    | zero => exact ⟨hi, hiT⟩
    | succ n ih => exact hno n ih.1 ih.2
  have := (all 63).1
  omega

/-- The output array after the run, element by element. -/
theorem final (c : Dev nD) (R : Fin 30720) (C : Fin 7168) (e : ℕ) (he : e < 4) (h1 : upto γ e ≤ R.val) (h2 : R.val < upto γ (e + 1)) :
    ∃ i : Fin (cfgA m).N, Plan.q (upto γ) i.val % 60 = R.val / 512 ∧ Plan.q (upto γ) i.val / 60 = e
      ∧ (datX m 0 c).arrAt 3 (cfgA m).N (ix2 R C : S30720x7168.Idx) = fullAt m c i (ix2 ⟨R.val % 512, Nat.mod_lt _ (by norm_num)⟩ C) := by
  have hR := R.isLt
  have hT : R.val / 512 < 60 := by omega
  have hr : R.val % 512 < 512 := Nat.mod_lt _ (by norm_num)
  have hd : R.val / 512 * 512 + R.val % 512 = R.val := by omega
  have hd' : 512 * (R.val / 512) + R.val % 512 = R.val := by omega
  obtain ⟨i, hi, hiT, hie, hic, hlast⟩ := covered h hT hr he (by rw [hd']; exact h1) (by rw [hd']; exact h2)
  obtain ⟨n, hn63, hnT, hnmax⟩ := last_point γ _ i hi hiT
  have hi' : i < (cfgA m).N := hi
  have hn' : i + n < (cfgA m).N := hn63
  refine ⟨⟨i, hi'⟩, hiT, hie, ?_⟩
  have hflush : ((cfgA m).win 3).flush ⟨i + n, hn'⟩ = true := by
    refine (flush3_iff m h _).mpr ?_
    by_cases hlt : i + n + 1 < 63
    · refine Or.inr (Or.inr ?_)
      show Plan.q (upto γ) (i + n + 1) % 60 ≠ Plan.q (upto γ) (i + n) % 60
      rw [hnT]; exact hnmax hlt
    · exact Or.inl (show i + n + 1 = 63 by omega)
  exact (arr_at m h c ⟨i + n, hn'⟩ hflush _ hnT (ix2 ⟨R.val % 512, hr⟩ C) (ix2 R C) hd rfl).trans
    (outs_last m h c (ix2 ⟨R.val % 512, hr⟩ C) (R.val / 512) ⟨i, hi'⟩ hiT hic hlast n hn63 hnT)

end Sched

end Cert.KernelIdeal.Hand
end
-- ==== Proof.Ideal.ValK.lean ====
module

public import proofs.«01_k».proof.Proof.Ideal.PayK
public import proofs.«01_k».proof.Proof.Ideal.Final

/-! # The fused kernel's result, read at one element -/

@[expose] public section

noncomputable section

namespace Cert.KernelIdeal.Hand

open Idealize.ShloMosaic Idealize.ShloMosaic.TcCoe Idealize.SL.Sem
open Cert.Scales
open Cert.KernelIdeal Cert.KernelIdeal.Gen

variable (m : (ℓ : Loc nD τ sig) → Buf (Elt Ideal) ℓ) (ρ : Dev nD → PrngReg)
variable {γ : ℕ → ℕ} (h : Sizes (gs m 0) γ)

include h

/-- The result, element by element: the row times its expert's column times the column's scale. -/
theorem result_elem (c : Dev nD) (R : Fin 30720) (C : Fin 7168) (e : Fin 4) (h1 : upto γ e.val ≤ R.val) (h2 : R.val < upto γ (e.val + 1))
    (x0 : FVec Ideal S30720x2048 .bf16) (x2 : FVec Ideal S4x2048x7168 .fp8e4m3) (x3 : FVec Ideal S4x7168 .f32)
    (e0 : m ((c : Thread nD τ).loc main_arg0) = x0) (e2 : m ((c : Thread nD τ).loc main_arg2) = x2) (e3 : m ((c : Thread nD τ).loc main_arg3) = x3)
    (hs : Small fun k => x0 (ix2 R k)) :
    ((datX m 0 c).arrAt 3 (cfgA m).N (ix2 R C : S30720x7168.Idx) : EReal)
      = dot (fun k => x0 (ix2 R k)) (fun k => x2 (ix3 e k C)) (x3 (ix2 e C)) := by
  obtain ⟨i, hi1, hi2, hi3⟩ := final m h c R C e.val e.isLt h1 h2
  have hX : ∀ k : Fin 2048, (iblk m c 0 i : FVec Ideal S512x2048 .bf16) (ix2 ⟨R.val % 512, Nat.mod_lt _ (by norm_num)⟩ k) = x0 (ix2 R k) := fun k =>
    (iblk0_ap m h c i (ix2 ⟨R.val % 512, Nat.mod_lt _ (by norm_num)⟩ k) (ix2 R k) (by rw [hi1]; show R.val = 512 * (R.val / 512) + R.val % 512; omega) rfl).trans (congrFun e0 (ix2 R k))
  have hW : ∀ k : Fin 2048, (iblk m c 1 i : FVec Ideal S1x2048x7168 .fp8e4m3) (ix3 0 k C) = x2 (ix3 e k C) := fun k =>
    (iblk1_ap m h c i (ix3 0 k C) (ix3 e k C) hi2.symm rfl rfl).trans (congrFun e2 (ix3 e k C))
  have hS : (iblk m c 2 i : FVec Ideal S1x1x7168 .f32) (ix3 0 0 C) = x3 (ix2 e C) :=
    (iblk2_ap m h c i (ix3 0 0 C) (ix2 e C) hi2.symm rfl).trans (congrFun e3 (ix2 e C))
  have hXf := funext hX
  have hWf := funext hW
  refine hi3.trans ((full_elem (iblk m c 0 i) (iblk m c 1 i) (iblk m c 2 i) ⟨R.val % 512, Nat.mod_lt _ (by norm_num)⟩ C ((congrArg Cert.Scales.Small hXf).mpr hs)).trans ?_)
  exact (congrArg (fun v => dot v _ _) hXf).trans ((congrArg (fun w => dot _ w _) hWf).trans (congrArg (fun b => dot _ _ b) hS))

/-- The run, the result named and the arguments as launched. -/
theorem run_named : θ_run defs (onTc (τ := τ) (main (F := Ideal))) ⟨m, fun _ => 0, ρ⟩ (fun r => ∀ c : Dev nD,
      r.2.mem ((c.tc : Thread nD τ).loc main_v67) = (datX m 0 c).arrAt 3 (cfgA m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨(hr c).1 3,
      ((hr c).1 0).trans (((datX m 0 c).arrAt_in 0 rfl _).trans ((datX_A m c 0).trans (V_main_arg0 m c))),
      ((hr c).2 main_arg1 (Pipeline.mem_restRefs_of main_arg1 (by decide) (show ∀ w : Fin 4, (spec0 w).arr.view.ref ≠ main_arg1 from by decide))).trans (V_main_arg1 m c),
      ((hr c).1 1).trans (((datX m 0 c).arrAt_in 1 rfl _).trans ((datX_A m c 1).trans (V_main_arg2 m c))),
      ((hr c).2 main_arg3 (Pipeline.mem_restRefs_of main_arg3 (by decide) (show ∀ w : Fin 4, (spec0 w).arr.view.ref ≠ main_arg3 from by decide))).trans (V_main_arg3 m c)⟩)
    (runX m ρ h)

end Cert.KernelIdeal.Hand
end
-- ==== Proof.Ideal.PayR.lean ====
module

public import proofs.«01_k».proof.Proof.Gen.ReferenceIdeal.Skeleton
public import proofs.«01_k».proof.Proof.Ideal.Scales

/-! # The plain side, read at one element -/

@[expose] public section

set_option maxRecDepth 65536

noncomputable section

namespace Cert.ReferenceIdeal.Hand

open Idealize.ShloMosaic Idealize.ShloMosaic.TcCoe
open Cert.Scales
open Cert.ReferenceIdeal Cert.ReferenceIdeal.Gen

/-- A column spread along the rows, at one entry. -/
theorem t1 (X : FVec Ideal S30720x1 .f32) (r : Fin 30720) (k : Fin 2048) : broadcastTo S30720x2048 X broadcasts_S30720x1_S30720x2048 (ix2 r k : S30720x2048.Idx) = X (ix2 r 0) := by
  pointwise
/-- A list read as a column, at one entry. -/
theorem t2 (X : FVec Ideal S30720 .f32) (r : Fin 30720) : shapeCast S30720x1 X shapeCasts_S30720_S30720x1 (ix2 r 0 : S30720x1.Idx) = X (ix1 r) := by
  pointwise
/-- An entry divided by its row's scale. -/
theorem t5 (v : Vec Ideal S30720x2048 .bf16) (X : FVec Ideal S30720x1 .f32) (r : Fin 30720) (k : Fin 2048)  :
  divf (k0_pay2 v) (broadcastTo S30720x2048 X broadcasts_S30720x1_S30720x2048) (ix2 r k : S30720x2048.Idx) = Ideal.div (v (ix2 r k)) (X (ix2 r 0)) := by
  pointwise [k0_pay2]
/-- The maximum of a row. -/
theorem t3 (X : FVec Ideal S30720x2048 .f32) (r : Fin 30720) : multiReduction .maximumf [1] S30720 X 0xFF800000#32 reduces_S30720x2048_S30720 (.inl rfl) rfl (ix1 r : S30720.Idx) = Finset.univ.fold max (Ideal.ofBits .f32 0xFF800000#32) (fun k => X (ix2 r k)) := by
  pointwise
/-- The least entry of a row of the masked table of powers. -/
theorem t4 (X : FVec Ideal S30720x277 .f32) (r : Fin 30720) : multiReduction .minimumf [1] S30720 X 0x7F800000#32 reduces_S30720x277_S30720 (.inl rfl) rfl (ix1 r : S30720.Idx) = Finset.univ.fold min (Ideal.ofBits .f32 0x7F800000#32) (fun k => X (ix2 r k)) := by
  pointwise
/-- One entry of the masked table of powers. -/
theorem t6 (s : FVec Ideal S30720x1 .f32) (r : Fin 30720) (j : Fin 277) :
   (select (cmpf .ogt (broadcastTo S30720x277 (exp2 (subf (sitofp .f32 (iota .tc S1x277 32 [1] iota_S1x277_d1_w32)) (broadcast S1x277 (Scalar.ofBits .f32 0x43150000#32)))) broadcasts_S1x277_S30720x277) (broadcastTo S30720x277 s broadcasts_S30720x1_S30720x277))
     (broadcastTo S30720x277 (shapeCast S1x277 (exp2 (subf (sitofp .f32 (iota .tc S1x277 32 [1] iota_S1x277_d1_w32)) (broadcast S1x277 (Scalar.ofBits .f32 0x43150000#32)))) shapeCasts_S1x277_S1x277) broadcasts_S1x277_S30720x277) (broadcast S30720x277 (Scalar.ofBits .f32 0x7F800000#32)) : FVec Ideal S30720x277 .f32) (ix2 r j)
     = (if s (ix2 r 0) < power j then power j else ⊤ : EReal) := by
  pointwise
  rw [lit_top]

/-- One where the row is zero, and the found power elsewhere. -/
theorem t7 (M N : FVec Ideal S30720 .f32) (r : Fin 30720) :
    (select (cmpf .oeq (shapeCast S30720x1 M shapeCasts_S30720_S30720x1) (broadcast S30720x1 (Scalar.ofBits .f32 0x00000000#32))) (broadcast S30720x1 (Scalar.ofBits .f32 0x3F800000#32))
      (shapeCast S30720x1 N shapeCasts_S30720_S30720x1) : FVec Ideal S30720x1 .f32) (ix2 r 0) = (if M (ix1 r) = (0 : EReal) then (1 : EReal) else N (ix1 r)) := by
  pointwise

/-- The row's maximum scaled down by the codes' range. -/
theorem t8 (M : FVec Ideal S30720 .f32) (r : Fin 30720) :
    (mulf (shapeCast S30720x1 M shapeCasts_S30720_S30720x1) (broadcast S30720x1 (Scalar.ofBits .f32 0x3B124925#32)) : FVec Ideal S30720x1 .f32) (ix2 r 0)
      = (show EReal from M (ix1 r)) * Ideal.ofBits .f32 991054117#32 := by
  pointwise

/-- The scale of a row. -/
theorem scale_ap (v : Vec Ideal S30720x2048 .bf16) (r : Fin 30720) : k0_pay3 v (ix2 r 0 : S30720x1.Idx) = plain (top fun k => v (ix2 r k)) := by
  have hM : multiReduction .maximumf [1] S30720 (absf (k0_pay2 v)) 0xFF800000#32 reduces_S30720x2048_S30720 (.inl rfl) rfl (ix1 r : S30720.Idx) = top fun k => v (ix2 r k) := by
    rw [t3]; unfold top; rw [lit_bot]; rfl
  unfold k0_pay3
  refine (t7 _ _ r).trans ?_
  rw [t4, hM]
  unfold plain
  rw [lit_top]
  refine if_congr Iff.rfl rfl ?_
  refine congrArg (fun f => Finset.fold min ⊤ f Finset.univ) (funext fun j => ?_)
  rw [t6, t8, hM]

/-- Clipping to the codes' range, at one element. -/
theorem t9 (y : FVec Ideal S30720x2048 .f32) (r : Fin 30720) (k : Fin 2048) :
    (truncf .fp8e4m3 (minimumf (broadcast S30720x2048 (Scalar.ofBits .f32 0x43E00000#32)) (maximumf (broadcast S30720x2048 (Scalar.ofBits .f32 0xC3E00000#32)) y)) bitsLt_fp8e4m3_f32
      : FVec Ideal S30720x2048 .fp8e4m3) (ix2 r k) = (min (Ideal.ofBits .f32 1138753536#32) (max (Ideal.ofBits .f32 3286237184#32) (y (ix2 r k))) : EReal) := by
  pointwise

/-- One code of a row. -/
theorem codes_ap (v : Vec Ideal S30720x2048 .bf16) (r : Fin 30720) (k : Fin 2048) :
    k0_pay4 v (ix2 r k : S30720x2048.Idx)
      = min (Ideal.ofBits .f32 1138753536#32) (max (Ideal.ofBits .f32 3286237184#32) (Ideal.div (v (ix2 r k)) (plain (top fun k => v (ix2 r k))))) := by
  unfold k0_pay4
  refine (t9 _ r k).trans ?_
  rw [t5, scale_ap]

/-- The row numbers. -/
abbrev rowNo : IVec S30720x1 32 := iota Kind.tc S30720x1 32 [0] iota_S30720x1_d0_w32

/-- A row between two words. -/
abbrev within (r : ℕ) (a b : BitVec 32) : BitVec 1 := IntOp.andi (IntOp.cmpi .sge (BitVec.ofNat 32 r) a) (IntOp.cmpi .slt (BitVec.ofNat 32 r) b)

/-- The result at one element, as the choice among the experts. -/
theorem out_ap (sc : FVec Ideal S30720x1 .f32) (cd : FVec Ideal S30720x2048 .fp8e4m3) (g0 g1 g2 g3 : BitVec 32)
    (w0 w1 w2 w3 : FVec Ideal S1x2048x7168 .fp8e4m3) (s0 s1 s2 s3 : FVec Ideal S1x7168 .f32) (r : Fin 30720) (C : Fin 7168) :
    (k0_pay1 (F := Ideal) sc cd rowNo (k0_pay9 (F := Ideal) rowNo k0_pay6 g0 (k0_pay7 (F := Ideal) g0) s0 g1 s1) g2
      (k0_pay11 (F := Ideal) cd rowNo k0_pay5 g0 (k0_pay7 (F := Ideal) g0) w0 g1 w1 g2 w2) s2 (k0_pay12 (F := Ideal) rowNo g1 g2) g3 w3 s3 (ix2 r C : S30720x7168.Idx) : EReal)
    = (Scalar.select (within r.val g2 g3) (∑ x : Fin 2048, cd (ix2 r x) * w3 (ix3 0 x C))
        (Scalar.select (within r.val g1 g2) (∑ x : Fin 2048, cd (ix2 r x) * w2 (ix3 0 x C))
          (Scalar.select (within r.val g0 g1) (∑ x : Fin 2048, cd (ix2 r x) * w1 (ix3 0 x C))
            (Scalar.select (within r.val 0#32 g0) (∑ x : Fin 2048, cd (ix2 r x) * w0 (ix3 0 x C)) (0 : EReal)))))
      * sc (ix2 r 0)
      * (Scalar.select (within r.val g2 g3) (s3 (ix2 0 C)) (Scalar.select (within r.val g1 g2) (s2 (ix2 0 C))
          (Scalar.select (within r.val g0 g1) (s1 (ix2 0 C)) (Scalar.select (within r.val 0#32 g0) (s0 (ix2 0 C)) (0 : EReal))))) := by
  pointwise [k0_pay1, k0_pay9, k0_pay11, k0_pay12, k0_pay7, k0_pay8, k0_pay10, k0_pay5, k0_pay6]

end Cert.ReferenceIdeal.Hand
end
-- ==== Proof.Ideal.ValR.lean ====
module

public import proofs.«01_k».proof.Proof.Ideal.PayR
public import proofs.«01_k».proof.Proof.Gen.ReferenceIdeal.Value
public import Idealize.ShloMosaic.Lib.Pipeline.ValueKit
public import Idealize.ShloMosaic.Lib.WholeRead
public import Idealize.ShloMosaic.Lib.StableHlo.RunRead

/-! # The plain side's result, read at one element -/

@[expose] public section

noncomputable section

namespace Cert.ReferenceIdeal.Hand

open Idealize.ShloMosaic Idealize.ShloMosaic.TcCoe Idealize.ShloMosaic.Tactic Idealize.SL.Sem
open Cert.Scales
open Cert.ReferenceIdeal Cert.ReferenceIdeal.Gen

section
variable {e : EltTy}

/-- Where a box's index sits in the buffer. -/
theorem rd_val {s : Shape} (off size : Fin s.rank → ℕ) (inb) (z : (⟨s.rank, size⟩ : Shape).Idx) (a : Fin s.rank) {v : ℕ} (h : off a + (z a).val = v) :
    ((Rect.unit (s := s) off size inb).toLoadRect.idx z a).val = v := by
  rw [← h]
  show off a + 1 * (z a).val = _
  rw [Nat.one_mul]

/-- A load from a whole buffer, at an index named by its coordinates. -/
theorem read1 {n : ℕ} {sp : Space} {a : Memref sig .tc sp ⟨1, ![n]⟩ e} (h : a.IsWhole) (X : Vec Ideal ⟨1, ![n]⟩ e) (off size : Fin 1 → ℕ)
    (inb) (z : (⟨1, size⟩ : Shape).Idx) (i : Fin n) (h0 : off 0 + (z 0).val = i.val) :
    View.readAt (Elt Ideal) a.view (Rect.unit (s := ⟨1, ![n]⟩) off size inb).toLoadRect (h.unread X) z = X (ix1 i) := by
  refine (h.readAt_unread X (Rect.unit (s := ⟨1, ![n]⟩) off size inb).toLoadRect z).trans (congrArg X (funext fun d => Fin.ext ?_))
  match d with
  | ⟨0, _⟩ => exact rd_val (s := ⟨1, ![n]⟩) off size inb z 0 h0

theorem read2 {n k : ℕ} {sp : Space} {a : Memref sig .tc sp ⟨2, ![n, k]⟩ e} (h : a.IsWhole) (X : Vec Ideal ⟨2, ![n, k]⟩ e) (off size : Fin 2 → ℕ)
    (inb) (z : (⟨2, size⟩ : Shape).Idx) (i : Fin n) (j : Fin k) (h0 : off 0 + (z 0).val = i.val) (h1 : off 1 + (z 1).val = j.val) :
    View.readAt (Elt Ideal) a.view (Rect.unit (s := ⟨2, ![n, k]⟩) off size inb).toLoadRect (h.unread X) z = X (ix2 i j) := by
  refine (h.readAt_unread X (Rect.unit (s := ⟨2, ![n, k]⟩) off size inb).toLoadRect z).trans (congrArg X (funext fun d => Fin.ext ?_))
  match d with
  | ⟨0, _⟩ => exact rd_val (s := ⟨2, ![n, k]⟩) off size inb z 0 h0
  | ⟨1, _⟩ => exact rd_val (s := ⟨2, ![n, k]⟩) off size inb z 1 h1

theorem read3 {n k l : ℕ} {sp : Space} {a : Memref sig .tc sp ⟨3, ![n, k, l]⟩ e} (h : a.IsWhole) (X : Vec Ideal ⟨3, ![n, k, l]⟩ e) (off size : Fin 3 → ℕ)
    (inb) (z : (⟨3, size⟩ : Shape).Idx) (i : Fin n) (j : Fin k) (p : Fin l) (h0 : off 0 + (z 0).val = i.val) (h1 : off 1 + (z 1).val = j.val)
    (h2 : off 2 + (z 2).val = p.val) :
    View.readAt (Elt Ideal) a.view (Rect.unit (s := ⟨3, ![n, k, l]⟩) off size inb).toLoadRect (h.unread X) z = X (ix3 i j p) := by
  refine (h.readAt_unread X (Rect.unit (s := ⟨3, ![n, k, l]⟩) off size inb).toLoadRect z).trans (congrArg X (funext fun d => Fin.ext ?_))
  match d with
  | ⟨0, _⟩ => exact rd_val (s := ⟨3, ![n, k, l]⟩) off size inb z 0 h0
  | ⟨1, _⟩ => exact rd_val (s := ⟨3, ![n, k, l]⟩) off size inb z 1 h1
  | ⟨2, _⟩ => exact rd_val (s := ⟨3, ![n, k, l]⟩) off size inb z 2 h2

end

/-- The choice between the four experts at a row, nothing being chosen otherwise. -/
abbrev pick (r : ℕ) (g : Fin 4 → BitVec 32) (f : Fin 4 → EReal) : EReal :=
  Scalar.select (within r (g 2) (g 3)) (f 3) (Scalar.select (within r (g 1) (g 2)) (f 2) (Scalar.select (within r (g 0) (g 1)) (f 1) (Scalar.select (within r 0#32 (g 0)) (f 0) (0 : EReal))))

/-- The result's block, as the one store leaves it. -/
theorem out_elem (c : Dev nD) (arg0 : Memref sig .tc .vmem S30720x2048 .bf16) (harg0 : arg0.IsWhole) (arg1 : Memref sig .tc .smem S4 .i32) (harg1 : arg1.IsWhole)
    (arg2 : Memref sig .tc .vmem S4x2048x7168 .fp8e4m3) (harg2 : arg2.IsWhole) (arg3 : Memref sig .tc .vmem S4x7168 .f32) (harg3 : arg3.IsWhole)
    (arg4 : Memref sig .tc .vmem S30720x7168 .bf16) (harg4 : arg4.IsWhole)
    (x0 : Vec Ideal S30720x2048 .bf16) (x1 : Vec Ideal S4 .i32) (x2 : Vec Ideal S4x2048x7168 .fp8e4m3) (x3 : Vec Ideal S4x7168 .f32) (R : Fin 30720) (C : Fin 7168) :
    out0_A_4 (F := Ideal) c arg0 harg0 arg1 harg1 arg2 harg2 arg3 harg3 arg4 harg4 x0 x1 x2 x3 (ix2 R C : S30720x7168.Idx)
      = pick R.val (fun i => x1 (ix1 i))
          (fun i => ∑ k : Fin 2048, min (Ideal.ofBits .f32 1138753536#32) (max (Ideal.ofBits .f32 3286237184#32) (Ideal.div (x0 (ix2 R k)) (plain (top fun k => x0 (ix2 R k))))) * x2 (ix3 i k C))
        * plain (top fun k => x0 (ix2 R k)) * pick R.val (fun i => x1 (ix1 i)) (fun i => x3 (ix2 i C)) := by
  unfold out0_A_4
  refine (congrFun (View.read_writes_eq_canon _ _ _ (cover0_A_4 (F := Ideal) c arg0 harg0 arg1 harg1 arg2 harg2 arg3 harg3 arg4 harg4 x0 x1 x2 x3)) (ix2 R C)).trans ?_
  unfold kernelRun0_A
  dsimp only
  canon_tiles x h
  obtain rfl : x = ix2 R C := funext fun a => Fin.ext (match a with | ⟨0, _⟩ => h0.symm | ⟨1, _⟩ => h1.symm)
  clear h0 h1 x0_lt x1_lt
  sl_unfold_run_names
  have hv : View.readAt (Elt Ideal) arg0.view (Rect.unit ![0, 0] S30720x2048.size inb_S30720x2048_S30720x2048_0_0).toLoadRect (harg0.unread x0) = x0 := by
    funext z
    exact (read2 harg0 x0 ![0, 0] S30720x2048.size inb_S30720x2048_S30720x2048_0_0 z (z 0) (z 1) (Nat.zero_add _) (Nat.zero_add _)).trans (congrArg x0 (eq_ix2 z).symm)
  rw [hv]
  refine (out_ap _ _ _ _ _ _ _ _ _ _ _ _ _ _ R C).trans ?_
  rw [scale_ap]
  refine Ideal.mul_congr (Ideal.mul_congr ?_ rfl) ?_
  · simp only [codes_ap]
    rw [read1 harg1 x1 ![0] S1.size inb_S4_S1_0 _ 0 rfl, read1 harg1 x1 ![1] S1.size inb_S4_S1_1 _ 1 rfl, read1 harg1 x1 ![2] S1.size inb_S4_S1_2 _ 2 rfl,
      read1 harg1 x1 ![3] S1.size inb_S4_S1_3 _ 3 rfl]
    exact congrArg₂ (Scalar.select _) (Finset.sum_congr rfl fun k _ => Ideal.mul_congr rfl (read3 harg2 x2 _ _ _ _ 3 k C rfl (Nat.zero_add _) (Nat.zero_add _)))
      (congrArg₂ (Scalar.select _) (Finset.sum_congr rfl fun k _ => Ideal.mul_congr rfl (read3 harg2 x2 _ _ _ _ 2 k C rfl (Nat.zero_add _) (Nat.zero_add _)))
        (congrArg₂ (Scalar.select _) (Finset.sum_congr rfl fun k _ => Ideal.mul_congr rfl (read3 harg2 x2 _ _ _ _ 1 k C rfl (Nat.zero_add _) (Nat.zero_add _)))
          (congrArg₂ (Scalar.select _) (Finset.sum_congr rfl fun k _ => Ideal.mul_congr rfl (read3 harg2 x2 _ _ _ _ 0 k C rfl (Nat.zero_add _) (Nat.zero_add _))) rfl)))
  · rw [read1 harg1 x1 ![0] S1.size inb_S4_S1_0 _ 0 rfl, read1 harg1 x1 ![1] S1.size inb_S4_S1_1 _ 1 rfl, read1 harg1 x1 ![2] S1.size inb_S4_S1_2 _ 2 rfl,
      read1 harg1 x1 ![3] S1.size inb_S4_S1_3 _ 3 rfl]
    exact congrArg₂ (Scalar.select _) (read2 harg3 x3 _ _ _ _ 3 C rfl (Nat.zero_add _))
      (congrArg₂ (Scalar.select _) (read2 harg3 x3 _ _ _ _ 2 C rfl (Nat.zero_add _))
        (congrArg₂ (Scalar.select _) (read2 harg3 x3 _ _ _ _ 1 C rfl (Nat.zero_add _))
          (congrArg₂ (Scalar.select _) (read2 harg3 x3 _ _ _ _ 0 C rfl (Nat.zero_add _)) rfl)))

/-! ## From the arguments -/

variable (m : (ℓ : Loc nD τ sig) → Buf (Elt Ideal) ℓ)

theorem N_pos : 0 < cfg0.N := by decide

/-- The one grid point. -/
abbrev pt : Fin cfg0.N := ⟨0, N_pos⟩

theorem flush4 : (cfg0.win 4).flush pt = true := by decide

/-- The output's one block is the whole output. -/
theorem emb4 (y : S30720x7168.Idx) : (((cfg0.win 4).blk pt).view.emb y : S30720x7168.Idx) = y :=
  funext fun a => Fin.ext (by
    match a with
    | ⟨0, _⟩ => exact (Pipeline.Window.rect_emb_val (cfg0.win 4) pt y (0 : Fin 2) rfl).trans (Nat.zero_add _)
    | ⟨1, _⟩ => exact (Pipeline.Window.rect_emb_val (cfg0.win 4) pt y (1 : Fin 2) rfl).trans (Nat.zero_add _))

theorem iblk0 (c : Dev nD) : iblk m c 0 pt = m ((c : Thread nD τ).loc main_arg0) := by
  refine Eq.trans ?_ (V_main_arg0 m c)
  refine funext fun y => congrArg (V m c main_arg0) (funext fun a => Fin.ext ?_)
  match a with
  | ⟨0, _⟩ => exact (Pipeline.Window.rect_emb_val (cfg0.win 0) pt y (0 : Fin 2) rfl).trans (Nat.zero_add _)
  | ⟨1, _⟩ => exact (Pipeline.Window.rect_emb_val (cfg0.win 0) pt y (1 : Fin 2) rfl).trans (Nat.zero_add _)

theorem iblk2 (c : Dev nD) : iblk m c 2 pt = m ((c : Thread nD τ).loc main_arg2) := by
  refine Eq.trans ?_ (V_main_arg2 m c)
  refine funext fun y => congrArg (V m c main_arg2) (funext fun a => Fin.ext ?_)
  match a with
  | ⟨0, _⟩ => exact (Pipeline.Window.rect_emb_val (cfg0.win 2) pt y (0 : Fin 3) rfl).trans (Nat.zero_add _)
  | ⟨1, _⟩ => exact (Pipeline.Window.rect_emb_val (cfg0.win 2) pt y (1 : Fin 3) rfl).trans (Nat.zero_add _)
  | ⟨2, _⟩ => exact (Pipeline.Window.rect_emb_val (cfg0.win 2) pt y (2 : Fin 3) rfl).trans (Nat.zero_add _)

theorem iblk3 (c : Dev nD) : iblk m c 3 pt = m ((c : Thread nD τ).loc main_arg3) := by
  refine Eq.trans ?_ (V_main_arg3 m c)
  refine funext fun y => congrArg (V m c main_arg3) (funext fun a => Fin.ext ?_)
  match a with
  | ⟨0, _⟩ => exact (Pipeline.Window.rect_emb_val (cfg0.win 3) pt y (0 : Fin 2) rfl).trans (Nat.zero_add _)
  | ⟨1, _⟩ => exact (Pipeline.Window.rect_emb_val (cfg0.win 3) pt y (1 : Fin 2) rfl).trans (Nat.zero_add _)

/-- The end row of each expert: the running sum of the group sizes. -/
def ends (g : IVec S4 32) : IVec S4 32 :=
  Host.reduceWindow IntOp.addi ![4] ![1] ![3] ![0] g (broadcastInDim S_ ![] bcast_S_S_ (constantI S_ 32 0#32)) reduceWindows_S4_S4_w4s1p3_0 h_S_

theorem at_v0 (X : Valuation τ sig (Elt Ideal)) : StableHlo.after (hostOps0 (F := Ideal)) X (Proc.devRef .tc main_v0) = ends (X (Proc.devRef .tc main_arg1)) := by
  first | (after_reads_simp; done) | (after_reads_simp; rfl)

theorem iblk1 (c : Dev nD) : iblk m c 1 pt = ends (m ((c : Thread nD τ).loc main_arg1)) := by
  refine Eq.trans (b := V m c main_v0) ?_ ?_
  · refine funext fun y => congrArg (V m c main_v0) (funext fun a => Fin.ext ?_)
    match a with
    | ⟨0, _⟩ => exact (Pipeline.Window.rect_emb_val (cfg0.win 1) pt y (0 : Fin 1) rfl).trans (Nat.zero_add _)
  · exact at_v0 (fun b => m (c, b))

/-- The one block, in the final array. -/
theorem arr_at (c : Dev nD) (y : S30720x7168.Idx) :
    (dats m 0 c).arrAt 4 cfg0.N y = out0_A_4 c (ms0_0 pt) (hs0_0 pt) (ms0_1 pt) (hs0_1 pt) (ms0_2 pt) (hs0_2 pt) (ms0_3 pt) (hs0_3 pt) (ms0_4 pt) (hs0_4 pt)
      (iblk m c 0 pt) (iblk m c 1 pt) (iblk m c 2 pt) (iblk m c 3 pt) y := by
  have k := (dats m 0 c).arrAt_emb_eq_flushed 4 Value.disjoint4 pt flush4 y
  have e' : (((cfg0.win 4).blk pt).view.emb y : S30720x7168.Idx) = y := emb4 y
  have k1 := congrArg ((dats m 0 c).arrAt 4 cfg0.N) e'
  have k2 := k1.symm.trans k
  have k3 := congrFun (Value.flushed4_A m c pt) y
  refine k2.trans ?_
  refine k3.trans ?_
  rfl

/-- The result, element by element. -/
theorem result_elem (c : Dev nD) (R : Fin 30720) (C : Fin 7168) (x0 : FVec Ideal S30720x2048 .bf16) (x1 : IVec S4 32) (x2 : FVec Ideal S4x2048x7168 .fp8e4m3)
    (x3 : FVec Ideal S4x7168 .f32) (e0 : m ((c : Thread nD τ).loc main_arg0) = x0) (e1 : m ((c : Thread nD τ).loc main_arg1) = x1)
    (e2 : m ((c : Thread nD τ).loc main_arg2) = x2) (e3 : m ((c : Thread nD τ).loc main_arg3) = x3) :
    ((dats m 0 c).arrAt 4 cfg0.N (ix2 R C : S30720x7168.Idx) : EReal)
      = pick R.val (fun i => ends x1 (ix1 i))
          (fun i => ∑ k : Fin 2048, min (Ideal.ofBits .f32 1138753536#32) (max (Ideal.ofBits .f32 3286237184#32) (Ideal.div (x0 (ix2 R k)) (plain (top fun k => x0 (ix2 R k))))) * x2 (ix3 i k C))
        * plain (top fun k => x0 (ix2 R k)) * pick R.val (fun i => ends x1 (ix1 i)) (fun i => x3 (ix2 i C)) := by
  rw [arr_at m c]
  rw [iblk0, iblk1, iblk2, iblk3, e0, e1, e2, e3]
  exact out_elem c (ms0_0 pt) (hs0_0 pt) (ms0_1 pt) (hs0_1 pt) (ms0_2 pt) (hs0_2 pt) (ms0_3 pt) (hs0_3 pt) (ms0_4 pt) (hs0_4 pt) x0 (ends x1) x2 x3 R C

end Cert.ReferenceIdeal.Hand
end
-- ==== Proof.Ideal.Pre.lean ====
module

public import proofs.«01_k».proof.Pre_admitted
public import proofs.«01_k».proof.Proof.Ideal.Schedule
public import proofs.«01_k».proof.Proof.Ideal.Scales
public import Idealize.ShloMosaic.Lib.ReduceAll
public import Idealize.ShloMosaic.Lib.StableHlo.Predicate
public import Idealize.ShloMosaic.Lib.Pointwise

/-! # What the precondition says of the arguments -/

@[expose] public section

noncomputable section

namespace Cert.Pre_admitted.Hand

open Idealize.ShloMosaic
open Cert.Pre_admitted Cert.Scales

instance facts : Cert.Pre_admitted.Facts where
  bitsLt_bf16_f32 := by decide
  bcast_S_S30720x2048 := by decide
  reducesTo_S30720x2048_S_d0_1 := by decide
  h_S_ := by decide
  bcast_S_S4 := by decide
  reducesTo_S4_S_d0 := by decide

instance : Subsingleton S_.Idx := ⟨fun a b => funext fun i => i.elim0⟩

theorem both : ∀ a b : BitVec 1, IntOp.andi a b = 1#1 → a = 1#1 ∧ b = 1#1 := by decide

/-- A word between 0 and 30720, signed. -/
theorem word (w : BitVec 32) (h1 : IntOp.cmpi .sge w 0#32 = 1#1) (h2 : IntOp.cmpi .sle w 30720#32 = 1#1) : w.toNat ≤ 30720 := by
  have a1 : (0#32).sle w = true := (StableHlo.Predicate.ofBool_eq_one_iff _).mp h1
  have a2 : w.sle 30720#32 = true := (StableHlo.Predicate.ofBool_eq_one_iff _).mp h2
  rw [BitVec.sle_iff_toInt_le] at a1 a2
  have := w.isLt
  have e1 : (0#32).toInt = 0 := by decide
  have e2 : (30720#32).toInt = 30720 := by decide
  rw [e1, BitVec.toInt_eq_toNat_cond] at a1
  rw [e2, BitVec.toInt_eq_toNat_cond] at a2
  split at a1 <;> split at a2 <;> omega

theorem decode (x0 : FVec Ideal S30720x2048 .bf16) (x1 : IVec S4 32) (x2 : FVec Ideal S4x2048x7168 .fp8e4m3) (x3 : FVec Ideal S4x7168 .f32)
    (h : (fn (F := Ideal) x0 x1 x2 x3).1 = (fun _ => 1#1) ∧ (fn (F := Ideal) x0 x1 x2 x3).2.1 = (fun _ => 1#1) ∧ (fn (F := Ideal) x0 x1 x2 x3).2.2 = (fun _ => 1#1)) :
    (∃ γ : ℕ → ℕ, (∀ e : Fin 4, x1 (ix1 e) = BitVec.ofNat 32 (γ e.val)) ∧ γ 0 + γ 1 + γ 2 + γ 3 = 30720)
      ∧ ∀ R : Fin 30720, Small fun k => x0 (ix2 R k) := by
  obtain ⟨ha, hb, hc⟩ := h
  unfold fn at ha hb hc
  dsimp only at ha hb hc
  refine ⟨?_, fun R k => ?_⟩
  · have hb' : ∀ e : Fin 4, (x1 (ix1 e)).toNat ≤ 30720 := fun e => by
      have := Host.reduce_andi_all _ _ _ _ _ (congrFun hb ValueIdx.ix0) (ix1 e : S4.Idx)
      have h2 := both _ _ this
      exact word _ h2.1 h2.2
    have hc1 : IntOp.cmpi .eq (Host.reduce IntOp.addi x1 (constantI S_ 32 0#32) facts.reducesTo_S4_S_d0 facts.h_S_ ValueIdx.ix0) 30720#32 = 1#1 := congrFun hc ValueIdx.ix0
    have hc2 := StableHlo.Predicate.cmpi_eq_iff.mp hc1
    have hx : ∀ e : Fin 4, x1 (ix1 e) = BitVec.ofNat 32 (if h : e.val < 4 then (x1 (ix1 ⟨e.val, h⟩)).toNat else 0) := fun e => by
      rw [dif_pos e.isLt]; simp
    refine ⟨fun n => if h : n < 4 then (x1 (ix1 ⟨n, h⟩)).toNat else 0, hx, ?_⟩
    have hs := (Idealize.ShloMosaic.Routing.reduce_sum (N := 4) x1 (fun n => if h : n < 4 then (x1 (ix1 ⟨n, h⟩)).toNat else 0) hx facts.reducesTo_S4_S_d0 facts.h_S_).symm.trans hc2
    have e := congrArg BitVec.toNat hs
    have h0 := hb' 0
    have h1 := hb' 1
    have h2 := hb' 2
    have h3 := hb' 3
    simp [List.range_succ] at e ⊢
    omega
  · have := Host.reduce_andi_all _ _ _ _ _ (congrFun ha ValueIdx.ix0) (ix2 R k : S30720x2048.Idx)
    have h2 := (StableHlo.Predicate.ofBool_eq_one_iff _).mp this
    exact of_decide_eq_true h2

end Cert.Pre_admitted.Hand
end
-- ==== Proof.Ideal.Algebra.lean ====
module

public import proofs.«01_k».proof.Defs
public import proofs.«01_k».proof.Proof.Ideal.ValK
public import proofs.«01_k».proof.Proof.Ideal.ValR
public import proofs.«01_k».proof.Proof.Ideal.Pre

/-! # The fused kernel and the plain program compute the same result -/

@[expose] public section

noncomputable section

namespace Cert.Algebra

open Idealize.ShloMosaic Idealize.ShloMosaic.TcCoe Idealize.SL.Sem
open Cert.Scales
open Cert.KernelIdeal.Hand (Sizes upto)
open Cert.ReferenceIdeal.Hand (pick within)

theorem within_eq {r a b : ℕ} (hr : r < 30720) (ha : a ≤ 30720) (hb : b ≤ 30720) :
    within r (BitVec.ofNat 32 a) (BitVec.ofNat 32 b) = BitVec.ofBool (decide (a ≤ r ∧ r < b)) := by
  show IntOp.andi (IntOp.cmpi .sge _ _) (IntOp.cmpi .slt _ _) = _
  rw [WordCmp.cmpi_sge_ofNat (by omega) (by omega), WordCmp.cmpi_slt_ofNat (by omega) (by omega)]
  by_cases h1 : a ≤ r <;> by_cases h2 : r < b <;> simp only [h1, h2, and_true, true_and, and_self, and_false, false_and, decide_true, decide_false] <;> rfl

/-- At a row of expert `e` the choice is expert `e`'s. -/
theorem pick_eq (γ : ℕ → ℕ) (hγ : ∀ e ≤ 4, upto γ e ≤ 30720) (r : ℕ) (hr : r < 30720) (e : Fin 4) (h1 : upto γ e.val ≤ r) (h2 : r < upto γ (e.val + 1))
    (g : Fin 4 → BitVec 32) (hg : ∀ i : Fin 4, g i = BitVec.ofNat 32 (upto γ (i.val + 1))) (f : Fin 4 → EReal) : pick r g f = f e := by
  have m1 : upto γ 0 ≤ upto γ 1 ∧ upto γ 1 ≤ upto γ 2 ∧ upto γ 2 ≤ upto γ 3 ∧ upto γ 3 ≤ upto γ 4 := Cert.KernelIdeal.Hand.S1_le
  have w3 : within r (g 2) (g 3) = BitVec.ofBool (decide (upto γ 3 ≤ r ∧ r < upto γ 4)) := by rw [hg, hg]; exact within_eq hr (hγ _ (by decide)) (hγ _ (by decide))
  have w2 : within r (g 1) (g 2) = BitVec.ofBool (decide (upto γ 2 ≤ r ∧ r < upto γ 3)) := by rw [hg, hg]; exact within_eq hr (hγ _ (by decide)) (hγ _ (by decide))
  have w1 : within r (g 0) (g 1) = BitVec.ofBool (decide (upto γ 1 ≤ r ∧ r < upto γ 2)) := by rw [hg, hg]; exact within_eq hr (hγ _ (by decide)) (hγ _ (by decide))
  have w0 : within r 0#32 (g 0) = BitVec.ofBool (decide (upto γ 0 ≤ r ∧ r < upto γ 1)) := by rw [hg]; exact within_eq (a := 0) hr (by decide) (hγ _ (by decide))
  unfold pick
  rw [w3, w2, w1, w0]
  have yes : ∀ (p : Prop) [Decidable p] (a b : EReal), p → Scalar.select (BitVec.ofBool (decide p)) a b = a := fun p _ a b hp => by rw [decide_eq_true hp]; rfl
  have no : ∀ (p : Prop) [Decidable p] (a b : EReal), ¬ p → Scalar.select (BitVec.ofBool (decide p)) a b = b := fun p _ a b hp => by rw [decide_eq_false hp]; rfl
  match e, h1, h2 with
  | ⟨3, _⟩, h1, h2 => exact yes _ _ _ ⟨h1, h2⟩
  | ⟨2, _⟩, h1, h2 =>
    replace h1 : upto γ 2 ≤ r := h1
    replace h2 : r < upto γ 3 := h2
    rw [no _ _ _ (by omega)]; exact yes _ _ _ ⟨h1, h2⟩
  | ⟨1, _⟩, h1, h2 =>
    replace h1 : upto γ 1 ≤ r := h1
    replace h2 : r < upto γ 2 := h2
    rw [no _ _ _ (by omega), no _ _ _ (by omega)]; exact yes _ _ _ ⟨h1, h2⟩
  | ⟨0, _⟩, h1, h2 =>
    replace h1 : upto γ 0 ≤ r := h1
    replace h2 : r < upto γ 1 := h2
    rw [no _ _ _ (by omega), no _ _ _ (by omega), no _ _ _ (by omega)]; exact yes _ _ _ ⟨h1, h2⟩

/-- The running sums of the group sizes, on the plain side. -/
theorem ends_eq {g : IVec Cert.ReferenceIdeal.S4 32} {γ : ℕ → ℕ} (h : Sizes g γ) (e : Fin 4) :
    Cert.ReferenceIdeal.Hand.ends g (ix1 e) = BitVec.ofNat 32 (upto γ (e.val + 1)) :=
  Cert.KernelIdeal.Hand.ends_ap h e

section
variable (m : (ℓ : Loc Cert.ReferenceIdeal.nD Cert.ReferenceIdeal.τ Cert.ReferenceIdeal.sig) → Buf (Elt Ideal) ℓ)

/-- The plain program's result, element by element. -/
theorem plain_elem (c : Dev Cert.ReferenceIdeal.nD) (R : Fin 30720) (C : Fin 7168) (e : Fin 4) (γ : ℕ → ℕ)
    (x0 : FVec Ideal Cert.ReferenceIdeal.S30720x2048 .bf16) (x1 : IVec Cert.ReferenceIdeal.S4 32) (x2 : FVec Ideal Cert.ReferenceIdeal.S4x2048x7168 .fp8e4m3) (x3 : FVec Ideal Cert.ReferenceIdeal.S4x7168 .f32)
    (h : Sizes x1 γ) (h1 : upto γ e.val ≤ R.val) (h2 : R.val < upto γ (e.val + 1))
    (e0 : m ((c : Thread Cert.ReferenceIdeal.nD Cert.ReferenceIdeal.τ).loc Cert.ReferenceIdeal.main_arg0) = x0)
    (e1 : m ((c : Thread Cert.ReferenceIdeal.nD Cert.ReferenceIdeal.τ).loc Cert.ReferenceIdeal.main_arg1) = x1)
    (e2 : m ((c : Thread Cert.ReferenceIdeal.nD Cert.ReferenceIdeal.τ).loc Cert.ReferenceIdeal.main_arg2) = x2)
    (e3 : m ((c : Thread Cert.ReferenceIdeal.nD Cert.ReferenceIdeal.τ).loc Cert.ReferenceIdeal.main_arg3) = x3)
    (hs : Small fun k => x0 (ix2 R k)) :
    ((Cert.ReferenceIdeal.Gen.dats m 0 c).arrAt 4 Cert.ReferenceIdeal.cfg0.N (ix2 R C : Cert.ReferenceIdeal.S30720x7168.Idx) : EReal)
      = dot (fun k => x0 (ix2 R k)) (fun k => x2 (ix3 e k C)) (x3 (ix2 e C)) := by
  refine (Cert.ReferenceIdeal.Hand.result_elem m c R C x0 x1 x2 x3 e0 e1 e2 e3).trans ?_
  rw [pick_eq γ (fun _ he => Cert.KernelIdeal.Hand.upto_le h he) R.val R.isLt e h1 h2 _ (ends_eq h),
    pick_eq γ (fun _ he => Cert.KernelIdeal.Hand.upto_le h he) R.val R.isLt e h1 h2 _ (ends_eq h)]
  exact plain_row hs _ _

end

/-- From memories agreeing on admitted arguments, both programs run, end with equal results and leave the arguments as launched. -/
theorem algebraic : Cert.algebraic_KernelIdeal_ReferenceIdeal_pre_admitted := by
  intro m g m' g' hpre hag
  obtain ⟨⟨γ, hγ⟩, -⟩ := Cert.Pre_admitted.Hand.decode _ _ _ _ (hpre 0)
  have hS : Sizes (Cert.KernelIdeal.Hand.gs m 0) γ := hγ
  refine ⟨fun c => (Cert.KernelIdeal.Hand.datX m 0 c).arrAt 3 (Cert.KernelIdeal.Hand.cfgA m).N, Cert.KernelIdeal.Hand.run_named m g hS, ?_⟩
  refine (θ_run Cert.ReferenceIdeal.defs _ _).mono (fun r hr c => ⟨(hr c).1.trans ?_, (hr c).2⟩) (Cert.ReferenceIdeal.Value.run_blocks m' g')
  have hc : c = 0 := Subsingleton.elim _ _
  subst hc
  have hsm := (Cert.Pre_admitted.Hand.decode _ _ _ _ (hpre 0)).2
  obtain ⟨a0, a1, a2, a3⟩ := hag 0
  funext y
  obtain ⟨e, he, h1, h2⟩ := Cert.KernelIdeal.Hand.exists_expert hS (y 0).isLt
  rw [eq_ix2 y]
  exact (plain_elem m' 0 (y 0) (y 1) ⟨e, he⟩ γ _ _ _ _ hS h1 h2 a0 a1 a2 a3 (hsm (y 0))).trans
    (Cert.KernelIdeal.Hand.result_elem m hS 0 (y 0) (y 1) ⟨e, he⟩ h1 h2 _ _ _ rfl rfl rfl (hsm (y 0))).symm

end Cert.Algebra
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frame
public import proofs.«01_k».proof.Proof.Ideal.Frame
public import proofs.«01_k».proof.Proof.Ideal.Algebra
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_admitted.Hand.facts,
    fun m g _ => Cert.Kernel.Hand.frame m g,
    fun m g _ => Cert.KernelIdeal.Hand.frame m g, fun m g _ => Cert.KernelIdeal.Hand.frame m g,
    fun m g _ => Cert.ReferenceIdeal.Gen.frame m g, fun m g _ => Cert.ReferenceIdeal.Gen.frame m g,
    trivial, Cert.Algebra.algebraic⟩

end Cert.Proof

end
